-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S32 : Shape := ⟨1, ![32]⟩
abbrev S32768x1024 : Shape := ⟨2, ![32768, 1024]⟩
abbrev S32x1024x512 : Shape := ⟨3, ![32, 1024, 512]⟩
abbrev S4x1024x1024 : Shape := ⟨3, ![4, 1024, 1024]⟩
abbrev S16 : Shape := ⟨1, ![16]⟩
abbrev S15 : Shape := ⟨1, ![15]⟩
abbrev S1 : Shape := ⟨1, ![1]⟩
abbrev S_ : Shape := ⟨0, ![]⟩
abbrev S1x1024x512 : Shape := ⟨3, ![1, 1024, 512]⟩
abbrev S1024x1024 : Shape := ⟨2, ![1024, 1024]⟩
abbrev S1x1024x1024 : Shape := ⟨3, ![1, 1024, 1024]⟩

abbrev nBuf : Space → Nat
  | .hbm => 5
  | .vmem => 4
  | .smem => 2
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S32, .i32⟩
  | .hbm, ⟨3, _⟩ => ⟨S32, .i32⟩
  | .hbm, ⟨4, _⟩ => ⟨S32768x1024, .bf16⟩
  | .local _ .vmem, ⟨0, _⟩ => ⟨S1024x512, .bf16⟩
  | .local _ .vmem, ⟨1, _⟩ => ⟨S512x1024, .bf16⟩
  | .local _ .vmem, ⟨2, _⟩ => ⟨S32x1024x512, .bf16⟩
  | .local _ .vmem, ⟨3, _⟩ => ⟨S4x1024x1024, .bf16⟩
  | .local _ .smem, ⟨0, _⟩ => ⟨S32, .i32⟩
  | .local _ .smem, ⟨1, _⟩ => ⟨S32, .i32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) : Fin 1 → Nat :=
  let c1_i32_0 : BitVec 32 := 1#32
  let v5 : BitVec 32 := Scalar.addi v4 c1_i32_0
  let c32_i32_1 : BitVec 32 := 32#32
  let v6 : BitVec 32 := Scalar.remsi v5 c32_i32_1
  let v7 : Index := Scalar.indexCast v6
  ![v7.toNat]

def k0_off3 (v4 : BitVec 32) : Fin 1 → Nat :=
  let c32_i32_2 : BitVec 32 := 32#32
  let v9 : BitVec 32 := Scalar.addi v4 c32_i32_2
  let c1_i32_3 : BitVec 32 := 1#32
  let v10 : BitVec 32 := Scalar.subi v9 c1_i32_3
  let c32_i32_4 : BitVec 32 := 32#32
  let v11 : BitVec 32 := Scalar.remsi v10 c32_i32_4
  let v12 : Index := Scalar.indexCast v11
  ![v12.toNat]
def k0_dev1 (v13 : BitVec 32) : Nat :=
  let c0_i32 : BitVec 32 := 0#32
  let c1_i32_6 : BitVec 32 := 1#32
  let v15 : BitVec 32 := Scalar.muli v13 c1_i32_6
  let v16 : BitVec 32 := Scalar.addi c0_i32 v15
  v16.toNat

def k0_dev2 (v8 : BitVec 32) : Nat :=
  let c0_i32_9 : BitVec 32 := 0#32
  let c1_i32_8 : BitVec 32 := 1#32
  let v17 : BitVec 32 := Scalar.muli v8 c1_i32_8
  let v18 : BitVec 32 := Scalar.addi c0_i32_9 v17
  v18.toNat

def k0_off4 (v4 : BitVec 32) : Fin 3 → Nat :=
  let v22 : Index := Scalar.indexCast v4
  let c0_11 : Index := 0#32
  let c0_12 : Index := 0#32
  ![v22.toNat, 0, 0]
def k0_off5 (v4 : BitVec 32) : Fin 1 → Nat :=
  let c32_i32_13 : BitVec 32 := 32#32
  let v26 : BitVec 32 := Scalar.addi v4 c32_i32_13
  let c32_i32_14 : BitVec 32 := 32#32
  let v27 : BitVec 32 := Scalar.remsi v26 c32_i32_14
  ![v27.toNat]
def k0_off6 (v4 : BitVec 32) : Fin 3 → Nat :=
  let c32_i32_13 : BitVec 32 := 32#32
  let v26 : BitVec 32 := Scalar.addi v4 c32_i32_13
  let c32_i32_14 : BitVec 32 := 32#32
  let v27 : BitVec 32 := Scalar.remsi v26 c32_i32_14
  let c0_i32_18 : BitVec 32 := 0#32
  let c0_i32_19 : BitVec 32 := 0#32
  ![v27.toNat, 0, 0]
def k0_dev3 (v8 : BitVec 32) : Nat :=
  let c0_i32_17 : BitVec 32 := 0#32
  let c1_i32_16 : BitVec 32 := 1#32
  let v28 : BitVec 32 := Scalar.muli v8 c1_i32_16
  let v29 : BitVec 32 := Scalar.addi c0_i32_17 v28
  v29.toNat
def k0_dev4 (v13 : BitVec 32) : Nat :=
  let c0_i32_26 : BitVec 32 := 0#32
  let c1_i32_25 : BitVec 32 := 1#32
  let v40 : BitVec 32 := Scalar.muli v13 c1_i32_25
  let v41 : BitVec 32 := Scalar.addi c0_i32_26 v40
  v41.toNat
def k0_off7 (v4 : BitVec 32) : Fin 1 → Nat :=
  let v60 : Index := Scalar.indexCast v4
  ![v60.toNat]
def k0_off8 (v61 : BitVec 32) : Fin 2 → Nat :=
  let c1024_i32 : BitVec 32 := 1024#32
  let v62 : BitVec 32 := Scalar.muli v61 c1024_i32
  let c0_i32_40 : BitVec 32 := 0#32
  ![v62.toNat, 0]

def k0_off9 (v4 : BitVec 32) (c31_i32 : BitVec 32) : Fin 1 → Nat :=
  let v68 : BitVec 32 := Scalar.addi v4 c31_i32
  let c32_i32_43 : BitVec 32 := 32#32
  let v69 : BitVec 32 := Scalar.remsi v68 c32_i32_43
  ![v69.toNat]
def k0_off10 (v4 : BitVec 32) (c31_i32 : BitVec 32) : Fin 3 → Nat :=
  let v68 : BitVec 32 := Scalar.addi v4 c31_i32
  let c32_i32_43 : BitVec 32 := 32#32
  let v69 : BitVec 32 := Scalar.remsi v68 c32_i32_43
  let c0_i32_47 : BitVec 32 := 0#32
  let c0_i32_48 : BitVec 32 := 0#32
  ![v69.toNat, 0, 0]
def k0_dev5 (v8 : BitVec 32) : Nat :=
  let c0_i32_63 : BitVec 32 := 0#32
  let c1_i32_62 : BitVec 32 := 1#32
  let v90 : BitVec 32 := Scalar.muli v8 c1_i32_62
  let v91 : BitVec 32 := Scalar.addi c0_i32_63 v90
  v91.toNat
def k0_dev6 (v13 : BitVec 32) : Nat :=
  let c0_i32_72 : BitVec 32 := 0#32
  let c1_i32_71 : BitVec 32 := 1#32
  let v102 : BitVec 32 := Scalar.muli v13 c1_i32_71
  let v103 : BitVec 32 := Scalar.addi c0_i32_72 v102
  v103.toNat
def k0_off11 (v4 : BitVec 32) : Fin 3 → Nat :=
  let c31_i32 : BitVec 32 := 31#32
  let v68 : BitVec 32 := Scalar.addi v4 c31_i32
  let c32_i32_43 : BitVec 32 := 32#32
  let v69 : BitVec 32 := Scalar.remsi v68 c32_i32_43
  let v112 : Index := Scalar.indexCast v69
  let c0_77 : Index := 0#32
  let c0_78 : Index := 0#32
  ![v112.toNat, 0, 0]
def k0_off12 (v4 : BitVec 32) : Fin 1 → Nat :=
  let c31_i32 : BitVec 32 := 31#32
  let v68 : BitVec 32 := Scalar.addi v4 c31_i32
  let c32_i32_43 : BitVec 32 := 32#32
  let v69 : BitVec 32 := Scalar.remsi v68 c32_i32_43
  let v122 : Index := Scalar.indexCast v69
  ![v122.toNat]
def k0_off13 (v123 : BitVec 32) : Fin 2 → Nat :=
  let c1024_i32_84 : BitVec 32 := 1024#32
  let v124 : BitVec 32 := Scalar.muli v123 c1024_i32_84
  let c0_i32_87 : BitVec 32 := 0#32
  ![v124.toNat, 0]

def k0_off14 (v4 : BitVec 32) : Fin 3 → Nat :=
  let c33_i32 : BitVec 32 := 33#32
  let v78 : BitVec 32 := Scalar.addi v4 c33_i32
  let c32_i32_51 : BitVec 32 := 32#32
  let v79 : BitVec 32 := Scalar.remsi v78 c32_i32_51
  let v130 : Index := Scalar.indexCast v79
  let c0_90 : Index := 0#32
  let c0_91 : Index := 0#32
  ![v130.toNat, 0, 0]
def k0_off15 (v4 : BitVec 32) : Fin 1 → Nat :=
  let c33_i32 : BitVec 32 := 33#32
  let v78 : BitVec 32 := Scalar.addi v4 c33_i32
  let c32_i32_51 : BitVec 32 := 32#32
  let v79 : BitVec 32 := Scalar.remsi v78 c32_i32_51
  let v140 : Index := Scalar.indexCast v79
  ![v140.toNat]
def k0_off16 (v141 : BitVec 32) : Fin 2 → Nat :=
  let c1024_i32_97 : BitVec 32 := 1024#32
  let v142 : BitVec 32 := Scalar.muli v141 c1024_i32_97
  let c0_i32_100 : BitVec 32 := 0#32
  ![v142.toNat, 0]

def k0_off17 (v4 : BitVec 32) (c30_i32 : BitVec 32) : Fin 1 → Nat :=
  let v148 : BitVec 32 := Scalar.addi v4 c30_i32
  let c32_i32_103 : BitVec 32 := 32#32
  let v149 : BitVec 32 := Scalar.remsi v148 c32_i32_103
  ![v149.toNat]
def k0_off18 (v4 : BitVec 32) (c30_i32 : BitVec 32) : Fin 3 → Nat :=
  let v148 : BitVec 32 := Scalar.addi v4 c30_i32
  let c32_i32_103 : BitVec 32 := 32#32
  let v149 : BitVec 32 := Scalar.remsi v148 c32_i32_103
  let c0_i32_107 : BitVec 32 := 0#32
  let c0_i32_108 : BitVec 32 := 0#32
  ![v149.toNat, 0, 0]
def k0_dev7 (v8 : BitVec 32) : Nat :=
  let c0_i32_123 : BitVec 32 := 0#32
  let c1_i32_122 : BitVec 32 := 1#32
  let v170 : BitVec 32 := Scalar.muli v8 c1_i32_122
  let v171 : BitVec 32 := Scalar.addi c0_i32_123 v170
  v171.toNat
def k0_dev8 (v13 : BitVec 32) : Nat :=
  let c0_i32_132 : BitVec 32 := 0#32
  let c1_i32_131 : BitVec 32 := 1#32
  let v182 : BitVec 32 := Scalar.muli v13 c1_i32_131
  let v183 : BitVec 32 := Scalar.addi c0_i32_132 v182
  v183.toNat
def k0_off19 (v4 : BitVec 32) : Fin 3 → Nat :=
  let c30_i32 : BitVec 32 := 30#32
  let v148 : BitVec 32 := Scalar.addi v4 c30_i32
  let c32_i32_103 : BitVec 32 := 32#32
  let v149 : BitVec 32 := Scalar.remsi v148 c32_i32_103
  let v192 : Index := Scalar.indexCast v149
  let c0_137 : Index := 0#32
  let c0_138 : Index := 0#32
  ![v192.toNat, 0, 0]
def k0_off20 (v4 : BitVec 32) : Fin 1 → Nat :=
  let c30_i32 : BitVec 32 := 30#32
  let v148 : BitVec 32 := Scalar.addi v4 c30_i32
  let c32_i32_103 : BitVec 32 := 32#32
  let v149 : BitVec 32 := Scalar.remsi v148 c32_i32_103
  let v202 : Index := Scalar.indexCast v149
  ![v202.toNat]
def k0_off21 (v203 : BitVec 32) : Fin 2 → Nat :=
  let c1024_i32_144 : BitVec 32 := 1024#32
  let v204 : BitVec 32 := Scalar.muli v203 c1024_i32_144
  let c0_i32_146 : BitVec 32 := 0#32
  ![v204.toNat, 0]

def k0_off22 (v61 : BitVec 32) : Fin 2 → Nat :=
  let c1024_i32 : BitVec 32 := 1024#32
  let v62 : BitVec 32 := Scalar.muli v61 c1024_i32
  let c0_i32_151 : BitVec 32 := 0#32
  ![v62.toNat, 0]

def k0_chk4 (v61 : BitVec 32) : Prop :=
  (∀ a, (k0_off8 v61) a + S1024x1024.size a ≤ S32768x1024.size a) ∧
  (∀ (hinb : ∀ a, (k0_off8 v61) a + S1024x1024.size a ≤ S32768x1024.size a), (Rect.unit (s := S32768x1024) (k0_off8 v61) S1024x1024.size hinb).WholeWords (EltTy.packing .bf16)) ∧
  (∀ a, (k0_off22 v61) a + S1024x1024.size a ≤ S32768x1024.size a) ∧
  (∀ (hinb : ∀ a, (k0_off22 v61) a + S1024x1024.size a ≤ S32768x1024.size a), (Rect.unit (s := S32768x1024) (k0_off22 v61) S1024x1024.size hinb).WholeWords (EltTy.packing .bf16))
theorem k0_off8_inb : ∀ (v61 : BitVec 32) (k0_hw4 : k0_chk4 v61), ∀ a, (k0_off8 v61) a + S1024x1024.size a ≤ S32768x1024.size a := fun v61 k0_hw4 => k0_hw4.1
theorem k0_off8_wordsbf16 : ∀ (v61 : BitVec 32) (k0_hw4 : k0_chk4 v61), (Rect.unit (s := S32768x1024) (k0_off8 v61) S1024x1024.size (k0_off8_inb v61 k0_hw4)).WholeWords (EltTy.packing .bf16) := fun v61 k0_hw4 => k0_hw4.2.1 (k0_off8_inb v61 k0_hw4)
theorem k0_off22_inb : ∀ (v61 : BitVec 32) (k0_hw4 : k0_chk4 v61), ∀ a, (k0_off22 v61) a + S1024x1024.size a ≤ S32768x1024.size a := fun v61 k0_hw4 => k0_hw4.2.2.1
theorem k0_off22_wordsbf16 : ∀ (v61 : BitVec 32) (k0_hw4 : k0_chk4 v61), (Rect.unit (s := S32768x1024) (k0_off22 v61) S1024x1024.size (k0_off22_inb v61 k0_hw4)).WholeWords (EltTy.packing .bf16) := fun v61 k0_hw4 => k0_hw4.2.2.2 (k0_off22_inb v61 k0_hw4)

def k0_off23 (v4 : BitVec 32) : Fin 3 → Nat :=
  let c34_i32 : BitVec 32 := 34#32
  let v158 : BitVec 32 := Scalar.addi v4 c34_i32
  let c32_i32_111 : BitVec 32 := 32#32
  let v159 : BitVec 32 := Scalar.remsi v158 c32_i32_111
  let v215 : Index := Scalar.indexCast v159
  let c0_154 : Index := 0#32
  let c0_155 : Index := 0#32
  ![v215.toNat, 0, 0]
def k0_off24 (v4 : BitVec 32) : Fin 1 → Nat :=
  let c34_i32 : BitVec 32 := 34#32
  let v158 : BitVec 32 := Scalar.addi v4 c34_i32
  let c32_i32_111 : BitVec 32 := 32#32
  let v159 : BitVec 32 := Scalar.remsi v158 c32_i32_111
  let v225 : Index := Scalar.indexCast v159
  ![v225.toNat]
def k0_off25 (v226 : BitVec 32) : Fin 2 → Nat :=
  let c1024_i32_162 : BitVec 32 := 1024#32
  let v227 : BitVec 32 := Scalar.muli v226 c1024_i32_162
  let c0_i32_164 : BitVec 32 := 0#32
  ![v227.toNat, 0]

def k0_off26 (v4 : BitVec 32) (c29_i32 : BitVec 32) : Fin 1 → Nat :=
  let v233 : BitVec 32 := Scalar.addi v4 c29_i32
  let c32_i32_167 : BitVec 32 := 32#32
  let v234 : BitVec 32 := Scalar.remsi v233 c32_i32_167
  ![v234.toNat]
def k0_off27 (v4 : BitVec 32) (c29_i32 : BitVec 32) : Fin 3 → Nat :=
  let v233 : BitVec 32 := Scalar.addi v4 c29_i32
  let c32_i32_167 : BitVec 32 := 32#32
  let v234 : BitVec 32 := Scalar.remsi v233 c32_i32_167
  let c0_i32_171 : BitVec 32 := 0#32
  let c0_i32_172 : BitVec 32 := 0#32
  ![v234.toNat, 0, 0]
def k0_dev9 (v8 : BitVec 32) : Nat :=
  let c0_i32_187 : BitVec 32 := 0#32
  let c1_i32_186 : BitVec 32 := 1#32
  let v255 : BitVec 32 := Scalar.muli v8 c1_i32_186
  let v256 : BitVec 32 := Scalar.addi c0_i32_187 v255
  v256.toNat
def k0_dev10 (v13 : BitVec 32) : Nat :=
  let c0_i32_196 : BitVec 32 := 0#32
  let c1_i32_195 : BitVec 32 := 1#32
  let v267 : BitVec 32 := Scalar.muli v13 c1_i32_195
  let v268 : BitVec 32 := Scalar.addi c0_i32_196 v267
  v268.toNat
def k0_off28 (v123 : BitVec 32) : Fin 2 → Nat :=
  let c1024_i32_84 : BitVec 32 := 1024#32
  let v124 : BitVec 32 := Scalar.muli v123 c1024_i32_84
  let c0_i32_203 : BitVec 32 := 0#32
  ![v124.toNat, 0]

def k0_chk5 (v123 : BitVec 32) : Prop :=
  (∀ a, (k0_off13 v123) a + S1024x1024.size a ≤ S32768x1024.size a) ∧
  (∀ (hinb : ∀ a, (k0_off13 v123) a + S1024x1024.size a ≤ S32768x1024.size a), (Rect.unit (s := S32768x1024) (k0_off13 v123) S1024x1024.size hinb).WholeWords (EltTy.packing .bf16)) ∧
  (∀ a, (k0_off28 v123) a + S1024x1024.size a ≤ S32768x1024.size a) ∧
  (∀ (hinb : ∀ a, (k0_off28 v123) a + S1024x1024.size a ≤ S32768x1024.size a), (Rect.unit (s := S32768x1024) (k0_off28 v123) S1024x1024.size hinb).WholeWords (EltTy.packing .bf16))
theorem k0_off13_inb : ∀ (v123 : BitVec 32) (k0_hw5 : k0_chk5 v123), ∀ a, (k0_off13 v123) a + S1024x1024.size a ≤ S32768x1024.size a := fun v123 k0_hw5 => k0_hw5.1
theorem k0_off13_wordsbf16 : ∀ (v123 : BitVec 32) (k0_hw5 : k0_chk5 v123), (Rect.unit (s := S32768x1024) (k0_off13 v123) S1024x1024.size (k0_off13_inb v123 k0_hw5)).WholeWords (EltTy.packing .bf16) := fun v123 k0_hw5 => k0_hw5.2.1 (k0_off13_inb v123 k0_hw5)
theorem k0_off28_inb : ∀ (v123 : BitVec 32) (k0_hw5 : k0_chk5 v123), ∀ a, (k0_off28 v123) a + S1024x1024.size a ≤ S32768x1024.size a := fun v123 k0_hw5 => k0_hw5.2.2.1
theorem k0_off28_wordsbf16 : ∀ (v123 : BitVec 32) (k0_hw5 : k0_chk5 v123), (Rect.unit (s := S32768x1024) (k0_off28 v123) S1024x1024.size (k0_off28_inb v123 k0_hw5)).WholeWords (EltTy.packing .bf16) := fun v123 k0_hw5 => k0_hw5.2.2.2 (k0_off28_inb v123 k0_hw5)

def k0_off29 (v4 : BitVec 32) : Fin 3 → Nat :=
  let c29_i32 : BitVec 32 := 29#32
  let v233 : BitVec 32 := Scalar.addi v4 c29_i32
  let c32_i32_167 : BitVec 32 := 32#32
  let v234 : BitVec 32 := Scalar.remsi v233 c32_i32_167
  let v282 : Index := Scalar.indexCast v234
  let c0_206 : Index := 0#32
  let c0_207 : Index := 0#32
  ![v282.toNat, 0, 0]
def k0_off30 (v4 : BitVec 32) : Fin 1 → Nat :=
  let c29_i32 : BitVec 32 := 29#32
  let v233 : BitVec 32 := Scalar.addi v4 c29_i32
  let c32_i32_167 : BitVec 32 := 32#32
  let v234 : BitVec 32 := Scalar.remsi v233 c32_i32_167
  let v292 : Index := Scalar.indexCast v234
  ![v292.toNat]
def k0_off31 (v293 : BitVec 32) : Fin 2 → Nat :=
  let c1024_i32_214 : BitVec 32 := 1024#32
  let v294 : BitVec 32 := Scalar.muli v293 c1024_i32_214
  let c0_i32_216 : BitVec 32 := 0#32
  ![v294.toNat, 0]

def k0_off32 (v141 : BitVec 32) : Fin 2 → Nat :=
  let c1024_i32_97 : BitVec 32 := 1024#32
  let v142 : BitVec 32 := Scalar.muli v141 c1024_i32_97
  let c0_i32_221 : BitVec 32 := 0#32
  ![v142.toNat, 0]

def k0_chk6 (v141 : BitVec 32) : Prop :=
  (∀ a, (k0_off16 v141) a + S1024x1024.size a ≤ S32768x1024.size a) ∧
  (∀ (hinb : ∀ a, (k0_off16 v141) a + S1024x1024.size a ≤ S32768x1024.size a), (Rect.unit (s := S32768x1024) (k0_off16 v141) S1024x1024.size hinb).WholeWords (EltTy.packing .bf16)) ∧
  (∀ a, (k0_off32 v141) a + S1024x1024.size a ≤ S32768x1024.size a) ∧
  (∀ (hinb : ∀ a, (k0_off32 v141) a + S1024x1024.size a ≤ S32768x1024.size a), (Rect.unit (s := S32768x1024) (k0_off32 v141) S1024x1024.size hinb).WholeWords (EltTy.packing .bf16))
theorem k0_off16_inb : ∀ (v141 : BitVec 32) (k0_hw6 : k0_chk6 v141), ∀ a, (k0_off16 v141) a + S1024x1024.size a ≤ S32768x1024.size a := fun v141 k0_hw6 => k0_hw6.1
theorem k0_off16_wordsbf16 : ∀ (v141 : BitVec 32) (k0_hw6 : k0_chk6 v141), (Rect.unit (s := S32768x1024) (k0_off16 v141) S1024x1024.size (k0_off16_inb v141 k0_hw6)).WholeWords (EltTy.packing .bf16) := fun v141 k0_hw6 => k0_hw6.2.1 (k0_off16_inb v141 k0_hw6)
theorem k0_off32_inb : ∀ (v141 : BitVec 32) (k0_hw6 : k0_chk6 v141), ∀ a, (k0_off32 v141) a + S1024x1024.size a ≤ S32768x1024.size a := fun v141 k0_hw6 => k0_hw6.2.2.1
theorem k0_off32_wordsbf16 : ∀ (v141 : BitVec 32) (k0_hw6 : k0_chk6 v141), (Rect.unit (s := S32768x1024) (k0_off32 v141) S1024x1024.size (k0_off32_inb v141 k0_hw6)).WholeWords (EltTy.packing .bf16) := fun v141 k0_hw6 => k0_hw6.2.2.2 (k0_off32_inb v141 k0_hw6)

def k0_off33 (v4 : BitVec 32) : Fin 3 → Nat :=
  let c35_i32 : BitVec 32 := 35#32
  let v243 : BitVec 32 := Scalar.addi v4 c35_i32
  let c32_i32_175 : BitVec 32 := 32#32
  let v244 : BitVec 32 := Scalar.remsi v243 c32_i32_175
  let v305 : Index := Scalar.indexCast v244
  let c0_224 : Index := 0#32
  let c0_225 : Index := 0#32
  ![v305.toNat, 0, 0]
def k0_off34 (v4 : BitVec 32) : Fin 1 → Nat :=
  let c35_i32 : BitVec 32 := 35#32
  let v243 : BitVec 32 := Scalar.addi v4 c35_i32
  let c32_i32_175 : BitVec 32 := 32#32
  let v244 : BitVec 32 := Scalar.remsi v243 c32_i32_175
  let v315 : Index := Scalar.indexCast v244
  ![v315.toNat]
def k0_off35 (v316 : BitVec 32) : Fin 2 → Nat :=
  let c1024_i32_232 : BitVec 32 := 1024#32
  let v317 : BitVec 32 := Scalar.muli v316 c1024_i32_232
  let c0_i32_234 : BitVec 32 := 0#32
  ![v317.toNat, 0]

def k0_off36 (v4 : BitVec 32) (c28_i32 : BitVec 32) : Fin 1 → Nat :=
  let v323 : BitVec 32 := Scalar.addi v4 c28_i32
  let c32_i32_237 : BitVec 32 := 32#32
  let v324 : BitVec 32 := Scalar.remsi v323 c32_i32_237
  ![v324.toNat]
def k0_off37 (v4 : BitVec 32) (c28_i32 : BitVec 32) : Fin 3 → Nat :=
  let v323 : BitVec 32 := Scalar.addi v4 c28_i32
  let c32_i32_237 : BitVec 32 := 32#32
  let v324 : BitVec 32 := Scalar.remsi v323 c32_i32_237
  let c0_i32_241 : BitVec 32 := 0#32
  let c0_i32_242 : BitVec 32 := 0#32
  ![v324.toNat, 0, 0]
def k0_dev11 (v8 : BitVec 32) : Nat :=
  let c0_i32_257 : BitVec 32 := 0#32
  let c1_i32_256 : BitVec 32 := 1#32
  let v345 : BitVec 32 := Scalar.muli v8 c1_i32_256
  let v346 : BitVec 32 := Scalar.addi c0_i32_257 v345
  v346.toNat
def k0_dev12 (v13 : BitVec 32) : Nat :=
  let c0_i32_266 : BitVec 32 := 0#32
  let c1_i32_265 : BitVec 32 := 1#32
  let v357 : BitVec 32 := Scalar.muli v13 c1_i32_265
  let v358 : BitVec 32 := Scalar.addi c0_i32_266 v357
  v358.toNat
def k0_off38 (v203 : BitVec 32) : Fin 2 → Nat :=
  let c1024_i32_144 : BitVec 32 := 1024#32
  let v204 : BitVec 32 := Scalar.muli v203 c1024_i32_144
  let c0_i32_273 : BitVec 32 := 0#32
  ![v204.toNat, 0]

def k0_chk7 (v203 : BitVec 32) : Prop :=
  (∀ a, (k0_off21 v203) a + S1024x1024.size a ≤ S32768x1024.size a) ∧
  (∀ (hinb : ∀ a, (k0_off21 v203) a + S1024x1024.size a ≤ S32768x1024.size a), (Rect.unit (s := S32768x1024) (k0_off21 v203) S1024x1024.size hinb).WholeWords (EltTy.packing .bf16)) ∧
  (∀ a, (k0_off38 v203) a + S1024x1024.size a ≤ S32768x1024.size a) ∧
  (∀ (hinb : ∀ a, (k0_off38 v203) a + S1024x1024.size a ≤ S32768x1024.size a), (Rect.unit (s := S32768x1024) (k0_off38 v203) S1024x1024.size hinb).WholeWords (EltTy.packing .bf16))
theorem k0_off21_inb : ∀ (v203 : BitVec 32) (k0_hw7 : k0_chk7 v203), ∀ a, (k0_off21 v203) a + S1024x1024.size a ≤ S32768x1024.size a := fun v203 k0_hw7 => k0_hw7.1
theorem k0_off21_wordsbf16 : ∀ (v203 : BitVec 32) (k0_hw7 : k0_chk7 v203), (Rect.unit (s := S32768x1024) (k0_off21 v203) S1024x1024.size (k0_off21_inb v203 k0_hw7)).WholeWords (EltTy.packing .bf16) := fun v203 k0_hw7 => k0_hw7.2.1 (k0_off21_inb v203 k0_hw7)
theorem k0_off38_inb : ∀ (v203 : BitVec 32) (k0_hw7 : k0_chk7 v203), ∀ a, (k0_off38 v203) a + S1024x1024.size a ≤ S32768x1024.size a := fun v203 k0_hw7 => k0_hw7.2.2.1
theorem k0_off38_wordsbf16 : ∀ (v203 : BitVec 32) (k0_hw7 : k0_chk7 v203), (Rect.unit (s := S32768x1024) (k0_off38 v203) S1024x1024.size (k0_off38_inb v203 k0_hw7)).WholeWords (EltTy.packing .bf16) := fun v203 k0_hw7 => k0_hw7.2.2.2 (k0_off38_inb v203 k0_hw7)

def k0_off39 (v4 : BitVec 32) : Fin 3 → Nat :=
  let c28_i32 : BitVec 32 := 28#32
  let v323 : BitVec 32 := Scalar.addi v4 c28_i32
  let c32_i32_237 : BitVec 32 := 32#32
  let v324 : BitVec 32 := Scalar.remsi v323 c32_i32_237
  let v372 : Index := Scalar.indexCast v324
  let c0_276 : Index := 0#32
  let c0_277 : Index := 0#32
  ![v372.toNat, 0, 0]
def k0_off40 (v4 : BitVec 32) : Fin 1 → Nat :=
  let c28_i32 : BitVec 32 := 28#32
  let v323 : BitVec 32 := Scalar.addi v4 c28_i32
  let c32_i32_237 : BitVec 32 := 32#32
  let v324 : BitVec 32 := Scalar.remsi v323 c32_i32_237
  let v382 : Index := Scalar.indexCast v324
  ![v382.toNat]
def k0_off41 (v383 : BitVec 32) : Fin 2 → Nat :=
  let c1024_i32_284 : BitVec 32 := 1024#32
  let v384 : BitVec 32 := Scalar.muli v383 c1024_i32_284
  let c0_i32_286 : BitVec 32 := 0#32
  ![v384.toNat, 0]

def k0_off42 (v226 : BitVec 32) : Fin 2 → Nat :=
  let c1024_i32_162 : BitVec 32 := 1024#32
  let v227 : BitVec 32 := Scalar.muli v226 c1024_i32_162
  let c0_i32_291 : BitVec 32 := 0#32
  ![v227.toNat, 0]

def k0_chk8 (v226 : BitVec 32) : Prop :=
  (∀ a, (k0_off25 v226) a + S1024x1024.size a ≤ S32768x1024.size a) ∧
  (∀ (hinb : ∀ a, (k0_off25 v226) a + S1024x1024.size a ≤ S32768x1024.size a), (Rect.unit (s := S32768x1024) (k0_off25 v226) S1024x1024.size hinb).WholeWords (EltTy.packing .bf16)) ∧
  (∀ a, (k0_off42 v226) a + S1024x1024.size a ≤ S32768x1024.size a) ∧
  (∀ (hinb : ∀ a, (k0_off42 v226) a + S1024x1024.size a ≤ S32768x1024.size a), (Rect.unit (s := S32768x1024) (k0_off42 v226) S1024x1024.size hinb).WholeWords (EltTy.packing .bf16))
theorem k0_off25_inb : ∀ (v226 : BitVec 32) (k0_hw8 : k0_chk8 v226), ∀ a, (k0_off25 v226) a + S1024x1024.size a ≤ S32768x1024.size a := fun v226 k0_hw8 => k0_hw8.1
theorem k0_off25_wordsbf16 : ∀ (v226 : BitVec 32) (k0_hw8 : k0_chk8 v226), (Rect.unit (s := S32768x1024) (k0_off25 v226) S1024x1024.size (k0_off25_inb v226 k0_hw8)).WholeWords (EltTy.packing .bf16) := fun v226 k0_hw8 => k0_hw8.2.1 (k0_off25_inb v226 k0_hw8)
theorem k0_off42_inb : ∀ (v226 : BitVec 32) (k0_hw8 : k0_chk8 v226), ∀ a, (k0_off42 v226) a + S1024x1024.size a ≤ S32768x1024.size a := fun v226 k0_hw8 => k0_hw8.2.2.1
theorem k0_off42_wordsbf16 : ∀ (v226 : BitVec 32) (k0_hw8 : k0_chk8 v226), (Rect.unit (s := S32768x1024) (k0_off42 v226) S1024x1024.size (k0_off42_inb v226 k0_hw8)).WholeWords (EltTy.packing .bf16) := fun v226 k0_hw8 => k0_hw8.2.2.2 (k0_off42_inb v226 k0_hw8)

def k0_off43 (v4 : BitVec 32) : Fin 3 → Nat :=
  let c36_i32 : BitVec 32 := 36#32
  let v333 : BitVec 32 := Scalar.addi v4 c36_i32
  let c32_i32_245 : BitVec 32 := 32#32
  let v334 : BitVec 32 := Scalar.remsi v333 c32_i32_245
  let v395 : Index := Scalar.indexCast v334
  let c0_294 : Index := 0#32
  let c0_295 : Index := 0#32
  ![v395.toNat, 0, 0]
def k0_off44 (v4 : BitVec 32) : Fin 1 → Nat :=
  let c36_i32 : BitVec 32 := 36#32
  let v333 : BitVec 32 := Scalar.addi v4 c36_i32
  let c32_i32_245 : BitVec 32 := 32#32
  let v334 : BitVec 32 := Scalar.remsi v333 c32_i32_245
  let v405 : Index := Scalar.indexCast v334
  ![v405.toNat]
def k0_off45 (v406 : BitVec 32) : Fin 2 → Nat :=
  let c1024_i32_302 : BitVec 32 := 1024#32
  let v407 : BitVec 32 := Scalar.muli v406 c1024_i32_302
  let c0_i32_304 : BitVec 32 := 0#32
  ![v407.toNat, 0]

def k0_off46 (v4 : BitVec 32) (c27_i32 : BitVec 32) : Fin 1 → Nat :=
  let v413 : BitVec 32 := Scalar.addi v4 c27_i32
  let c32_i32_307 : BitVec 32 := 32#32
  let v414 : BitVec 32 := Scalar.remsi v413 c32_i32_307
  ![v414.toNat]
def k0_off47 (v4 : BitVec 32) (c27_i32 : BitVec 32) : Fin 3 → Nat :=
  let v413 : BitVec 32 := Scalar.addi v4 c27_i32
  let c32_i32_307 : BitVec 32 := 32#32
  let v414 : BitVec 32 := Scalar.remsi v413 c32_i32_307
  let c0_i32_311 : BitVec 32 := 0#32
  let c0_i32_312 : BitVec 32 := 0#32
  ![v414.toNat, 0, 0]
def k0_dev13 (v8 : BitVec 32) : Nat :=
  let c0_i32_327 : BitVec 32 := 0#32
  let c1_i32_326 : BitVec 32 := 1#32
  let v435 : BitVec 32 := Scalar.muli v8 c1_i32_326
  let v436 : BitVec 32 := Scalar.addi c0_i32_327 v435
  v436.toNat
def k0_dev14 (v13 : BitVec 32) : Nat :=
  let c0_i32_336 : BitVec 32 := 0#32
  let c1_i32_335 : BitVec 32 := 1#32
  let v447 : BitVec 32 := Scalar.muli v13 c1_i32_335
  let v448 : BitVec 32 := Scalar.addi c0_i32_336 v447
  v448.toNat
def k0_off48 (v293 : BitVec 32) : Fin 2 → Nat :=
  let c1024_i32_214 : BitVec 32 := 1024#32
  let v294 : BitVec 32 := Scalar.muli v293 c1024_i32_214
  let c0_i32_343 : BitVec 32 := 0#32
  ![v294.toNat, 0]

def k0_chk9 (v293 : BitVec 32) : Prop :=
  (∀ a, (k0_off31 v293) a + S1024x1024.size a ≤ S32768x1024.size a) ∧
  (∀ (hinb : ∀ a, (k0_off31 v293) a + S1024x1024.size a ≤ S32768x1024.size a), (Rect.unit (s := S32768x1024) (k0_off31 v293) S1024x1024.size hinb).WholeWords (EltTy.packing .bf16)) ∧
  (∀ a, (k0_off48 v293) a + S1024x1024.size a ≤ S32768x1024.size a) ∧
  (∀ (hinb : ∀ a, (k0_off48 v293) a + S1024x1024.size a ≤ S32768x1024.size a), (Rect.unit (s := S32768x1024) (k0_off48 v293) S1024x1024.size hinb).WholeWords (EltTy.packing .bf16))
theorem k0_off31_inb : ∀ (v293 : BitVec 32) (k0_hw9 : k0_chk9 v293), ∀ a, (k0_off31 v293) a + S1024x1024.size a ≤ S32768x1024.size a := fun v293 k0_hw9 => k0_hw9.1
theorem k0_off31_wordsbf16 : ∀ (v293 : BitVec 32) (k0_hw9 : k0_chk9 v293), (Rect.unit (s := S32768x1024) (k0_off31 v293) S1024x1024.size (k0_off31_inb v293 k0_hw9)).WholeWords (EltTy.packing .bf16) := fun v293 k0_hw9 => k0_hw9.2.1 (k0_off31_inb v293 k0_hw9)
theorem k0_off48_inb : ∀ (v293 : BitVec 32) (k0_hw9 : k0_chk9 v293), ∀ a, (k0_off48 v293) a + S1024x1024.size a ≤ S32768x1024.size a := fun v293 k0_hw9 => k0_hw9.2.2.1
theorem k0_off48_wordsbf16 : ∀ (v293 : BitVec 32) (k0_hw9 : k0_chk9 v293), (Rect.unit (s := S32768x1024) (k0_off48 v293) S1024x1024.size (k0_off48_inb v293 k0_hw9)).WholeWords (EltTy.packing .bf16) := fun v293 k0_hw9 => k0_hw9.2.2.2 (k0_off48_inb v293 k0_hw9)

def k0_off49 (v4 : BitVec 32) : Fin 3 → Nat :=
  let c27_i32 : BitVec 32 := 27#32
  let v413 : BitVec 32 := Scalar.addi v4 c27_i32
  let c32_i32_307 : BitVec 32 := 32#32
  let v414 : BitVec 32 := Scalar.remsi v413 c32_i32_307
  let v462 : Index := Scalar.indexCast v414
  let c0_346 : Index := 0#32
  let c0_347 : Index := 0#32
  ![v462.toNat, 0, 0]
def k0_off50 (v4 : BitVec 32) : Fin 1 → Nat :=
  let c27_i32 : BitVec 32 := 27#32
  let v413 : BitVec 32 := Scalar.addi v4 c27_i32
  let c32_i32_307 : BitVec 32 := 32#32
  let v414 : BitVec 32 := Scalar.remsi v413 c32_i32_307
  let v472 : Index := Scalar.indexCast v414
  ![v472.toNat]
def k0_off51 (v473 : BitVec 32) : Fin 2 → Nat :=
  let c1024_i32_354 : BitVec 32 := 1024#32
  let v474 : BitVec 32 := Scalar.muli v473 c1024_i32_354
  let c0_i32_356 : BitVec 32 := 0#32
  ![v474.toNat, 0]

def k0_off52 (v316 : BitVec 32) : Fin 2 → Nat :=
  let c1024_i32_232 : BitVec 32 := 1024#32
  let v317 : BitVec 32 := Scalar.muli v316 c1024_i32_232
  let c0_i32_361 : BitVec 32 := 0#32
  ![v317.toNat, 0]

def k0_chk10 (v316 : BitVec 32) : Prop :=
  (∀ a, (k0_off35 v316) a + S1024x1024.size a ≤ S32768x1024.size a) ∧
  (∀ (hinb : ∀ a, (k0_off35 v316) a + S1024x1024.size a ≤ S32768x1024.size a), (Rect.unit (s := S32768x1024) (k0_off35 v316) S1024x1024.size hinb).WholeWords (EltTy.packing .bf16)) ∧
  (∀ a, (k0_off52 v316) a + S1024x1024.size a ≤ S32768x1024.size a) ∧
  (∀ (hinb : ∀ a, (k0_off52 v316) a + S1024x1024.size a ≤ S32768x1024.size a), (Rect.unit (s := S32768x1024) (k0_off52 v316) S1024x1024.size hinb).WholeWords (EltTy.packing .bf16))
theorem k0_off35_inb : ∀ (v316 : BitVec 32) (k0_hw10 : k0_chk10 v316), ∀ a, (k0_off35 v316) a + S1024x1024.size a ≤ S32768x1024.size a := fun v316 k0_hw10 => k0_hw10.1
theorem k0_off35_wordsbf16 : ∀ (v316 : BitVec 32) (k0_hw10 : k0_chk10 v316), (Rect.unit (s := S32768x1024) (k0_off35 v316) S1024x1024.size (k0_off35_inb v316 k0_hw10)).WholeWords (EltTy.packing .bf16) := fun v316 k0_hw10 => k0_hw10.2.1 (k0_off35_inb v316 k0_hw10)
theorem k0_off52_inb : ∀ (v316 : BitVec 32) (k0_hw10 : k0_chk10 v316), ∀ a, (k0_off52 v316) a + S1024x1024.size a ≤ S32768x1024.size a := fun v316 k0_hw10 => k0_hw10.2.2.1
theorem k0_off52_wordsbf16 : ∀ (v316 : BitVec 32) (k0_hw10 : k0_chk10 v316), (Rect.unit (s := S32768x1024) (k0_off52 v316) S1024x1024.size (k0_off52_inb v316 k0_hw10)).WholeWords (EltTy.packing .bf16) := fun v316 k0_hw10 => k0_hw10.2.2.2 (k0_off52_inb v316 k0_hw10)

def k0_off53 (v4 : BitVec 32) : Fin 3 → Nat :=
  let c37_i32 : BitVec 32 := 37#32
  let v423 : BitVec 32 := Scalar.addi v4 c37_i32
  let c32_i32_315 : BitVec 32 := 32#32
  let v424 : BitVec 32 := Scalar.remsi v423 c32_i32_315
  let v485 : Index := Scalar.indexCast v424
  let c0_364 : Index := 0#32
  let c0_365 : Index := 0#32
  ![v485.toNat, 0, 0]
def k0_off54 (v4 : BitVec 32) : Fin 1 → Nat :=
  let c37_i32 : BitVec 32 := 37#32
  let v423 : BitVec 32 := Scalar.addi v4 c37_i32
  let c32_i32_315 : BitVec 32 := 32#32
  let v424 : BitVec 32 := Scalar.remsi v423 c32_i32_315
  let v495 : Index := Scalar.indexCast v424
  ![v495.toNat]
def k0_off55 (v496 : BitVec 32) : Fin 2 → Nat :=
  let c1024_i32_372 : BitVec 32 := 1024#32
  let v497 : BitVec 32 := Scalar.muli v496 c1024_i32_372
  let c0_i32_374 : BitVec 32 := 0#32
  ![v497.toNat, 0]

def k0_off56 (v4 : BitVec 32) (c26_i32 : BitVec 32) : Fin 1 → Nat :=
  let v503 : BitVec 32 := Scalar.addi v4 c26_i32
  let c32_i32_377 : BitVec 32 := 32#32
  let v504 : BitVec 32 := Scalar.remsi v503 c32_i32_377
  ![v504.toNat]
def k0_off57 (v4 : BitVec 32) (c26_i32 : BitVec 32) : Fin 3 → Nat :=
  let v503 : BitVec 32 := Scalar.addi v4 c26_i32
  let c32_i32_377 : BitVec 32 := 32#32
  let v504 : BitVec 32 := Scalar.remsi v503 c32_i32_377
  let c0_i32_381 : BitVec 32 := 0#32
  let c0_i32_382 : BitVec 32 := 0#32
  ![v504.toNat, 0, 0]
def k0_dev15 (v8 : BitVec 32) : Nat :=
  let c0_i32_397 : BitVec 32 := 0#32
  let c1_i32_396 : BitVec 32 := 1#32
  let v525 : BitVec 32 := Scalar.muli v8 c1_i32_396
  let v526 : BitVec 32 := Scalar.addi c0_i32_397 v525
  v526.toNat
def k0_dev16 (v13 : BitVec 32) : Nat :=
  let c0_i32_406 : BitVec 32 := 0#32
  let c1_i32_405 : BitVec 32 := 1#32
  let v537 : BitVec 32 := Scalar.muli v13 c1_i32_405
  let v538 : BitVec 32 := Scalar.addi c0_i32_406 v537
  v538.toNat
def k0_off58 (v383 : BitVec 32) : Fin 2 → Nat :=
  let c1024_i32_284 : BitVec 32 := 1024#32
  let v384 : BitVec 32 := Scalar.muli v383 c1024_i32_284
  let c0_i32_413 : BitVec 32 := 0#32
  ![v384.toNat, 0]

def k0_chk11 (v383 : BitVec 32) : Prop :=
  (∀ a, (k0_off41 v383) a + S1024x1024.size a ≤ S32768x1024.size a) ∧
  (∀ (hinb : ∀ a, (k0_off41 v383) a + S1024x1024.size a ≤ S32768x1024.size a), (Rect.unit (s := S32768x1024) (k0_off41 v383) S1024x1024.size hinb).WholeWords (EltTy.packing .bf16)) ∧
  (∀ a, (k0_off58 v383) a + S1024x1024.size a ≤ S32768x1024.size a) ∧
  (∀ (hinb : ∀ a, (k0_off58 v383) a + S1024x1024.size a ≤ S32768x1024.size a), (Rect.unit (s := S32768x1024) (k0_off58 v383) S1024x1024.size hinb).WholeWords (EltTy.packing .bf16))
theorem k0_off41_inb : ∀ (v383 : BitVec 32) (k0_hw11 : k0_chk11 v383), ∀ a, (k0_off41 v383) a + S1024x1024.size a ≤ S32768x1024.size a := fun v383 k0_hw11 => k0_hw11.1
theorem k0_off41_wordsbf16 : ∀ (v383 : BitVec 32) (k0_hw11 : k0_chk11 v383), (Rect.unit (s := S32768x1024) (k0_off41 v383) S1024x1024.size (k0_off41_inb v383 k0_hw11)).WholeWords (EltTy.packing .bf16) := fun v383 k0_hw11 => k0_hw11.2.1 (k0_off41_inb v383 k0_hw11)
theorem k0_off58_inb : ∀ (v383 : BitVec 32) (k0_hw11 : k0_chk11 v383), ∀ a, (k0_off58 v383) a + S1024x1024.size a ≤ S32768x1024.size a := fun v383 k0_hw11 => k0_hw11.2.2.1
theorem k0_off58_wordsbf16 : ∀ (v383 : BitVec 32) (k0_hw11 : k0_chk11 v383), (Rect.unit (s := S32768x1024) (k0_off58 v383) S1024x1024.size (k0_off58_inb v383 k0_hw11)).WholeWords (EltTy.packing .bf16) := fun v383 k0_hw11 => k0_hw11.2.2.2 (k0_off58_inb v383 k0_hw11)

def k0_off59 (v4 : BitVec 32) : Fin 3 → Nat :=
  let c26_i32 : BitVec 32 := 26#32
  let v503 : BitVec 32 := Scalar.addi v4 c26_i32
  let c32_i32_377 : BitVec 32 := 32#32
  let v504 : BitVec 32 := Scalar.remsi v503 c32_i32_377
  let v552 : Index := Scalar.indexCast v504
  let c0_416 : Index := 0#32
  let c0_417 : Index := 0#32
  ![v552.toNat, 0, 0]
def k0_off60 (v4 : BitVec 32) : Fin 1 → Nat :=
  let c26_i32 : BitVec 32 := 26#32
  let v503 : BitVec 32 := Scalar.addi v4 c26_i32
  let c32_i32_377 : BitVec 32 := 32#32
  let v504 : BitVec 32 := Scalar.remsi v503 c32_i32_377
  let v562 : Index := Scalar.indexCast v504
  ![v562.toNat]
def k0_off61 (v563 : BitVec 32) : Fin 2 → Nat :=
  let c1024_i32_424 : BitVec 32 := 1024#32
  let v564 : BitVec 32 := Scalar.muli v563 c1024_i32_424
  let c0_i32_426 : BitVec 32 := 0#32
  ![v564.toNat, 0]

def k0_off62 (v406 : BitVec 32) : Fin 2 → Nat :=
  let c1024_i32_302 : BitVec 32 := 1024#32
  let v407 : BitVec 32 := Scalar.muli v406 c1024_i32_302
  let c0_i32_431 : BitVec 32 := 0#32
  ![v407.toNat, 0]

def k0_chk12 (v406 : BitVec 32) : Prop :=
  (∀ a, (k0_off45 v406) a + S1024x1024.size a ≤ S32768x1024.size a) ∧
  (∀ (hinb : ∀ a, (k0_off45 v406) a + S1024x1024.size a ≤ S32768x1024.size a), (Rect.unit (s := S32768x1024) (k0_off45 v406) S1024x1024.size hinb).WholeWords (EltTy.packing .bf16)) ∧
  (∀ a, (k0_off62 v406) a + S1024x1024.size a ≤ S32768x1024.size a) ∧
  (∀ (hinb : ∀ a, (k0_off62 v406) a + S1024x1024.size a ≤ S32768x1024.size a), (Rect.unit (s := S32768x1024) (k0_off62 v406) S1024x1024.size hinb).WholeWords (EltTy.packing .bf16))
theorem k0_off45_inb : ∀ (v406 : BitVec 32) (k0_hw12 : k0_chk12 v406), ∀ a, (k0_off45 v406) a + S1024x1024.size a ≤ S32768x1024.size a := fun v406 k0_hw12 => k0_hw12.1
theorem k0_off45_wordsbf16 : ∀ (v406 : BitVec 32) (k0_hw12 : k0_chk12 v406), (Rect.unit (s := S32768x1024) (k0_off45 v406) S1024x1024.size (k0_off45_inb v406 k0_hw12)).WholeWords (EltTy.packing .bf16) := fun v406 k0_hw12 => k0_hw12.2.1 (k0_off45_inb v406 k0_hw12)
theorem k0_off62_inb : ∀ (v406 : BitVec 32) (k0_hw12 : k0_chk12 v406), ∀ a, (k0_off62 v406) a + S1024x1024.size a ≤ S32768x1024.size a := fun v406 k0_hw12 => k0_hw12.2.2.1
theorem k0_off62_wordsbf16 : ∀ (v406 : BitVec 32) (k0_hw12 : k0_chk12 v406), (Rect.unit (s := S32768x1024) (k0_off62 v406) S1024x1024.size (k0_off62_inb v406 k0_hw12)).WholeWords (EltTy.packing .bf16) := fun v406 k0_hw12 => k0_hw12.2.2.2 (k0_off62_inb v406 k0_hw12)

def k0_off63 (v4 : BitVec 32) : Fin 3 → Nat :=
  let c38_i32 : BitVec 32 := 38#32
  let v513 : BitVec 32 := Scalar.addi v4 c38_i32
  let c32_i32_385 : BitVec 32 := 32#32
  let v514 : BitVec 32 := Scalar.remsi v513 c32_i32_385
  let v575 : Index := Scalar.indexCast v514
  let c0_434 : Index := 0#32
  let c0_435 : Index := 0#32
  ![v575.toNat, 0, 0]
def k0_off64 (v4 : BitVec 32) : Fin 1 → Nat :=
  let c38_i32 : BitVec 32 := 38#32
  let v513 : BitVec 32 := Scalar.addi v4 c38_i32
  let c32_i32_385 : BitVec 32 := 32#32
  let v514 : BitVec 32 := Scalar.remsi v513 c32_i32_385
  let v585 : Index := Scalar.indexCast v514
  ![v585.toNat]
def k0_off65 (v586 : BitVec 32) : Fin 2 → Nat :=
  let c1024_i32_442 : BitVec 32 := 1024#32
  let v587 : BitVec 32 := Scalar.muli v586 c1024_i32_442
  let c0_i32_444 : BitVec 32 := 0#32
  ![v587.toNat, 0]

def k0_off66 (v4 : BitVec 32) (c25_i32 : BitVec 32) : Fin 1 → Nat :=
  let v593 : BitVec 32 := Scalar.addi v4 c25_i32
  let c32_i32_447 : BitVec 32 := 32#32
  let v594 : BitVec 32 := Scalar.remsi v593 c32_i32_447
  ![v594.toNat]
def k0_off67 (v4 : BitVec 32) (c25_i32 : BitVec 32) : Fin 3 → Nat :=
  let v593 : BitVec 32 := Scalar.addi v4 c25_i32
  let c32_i32_447 : BitVec 32 := 32#32
  let v594 : BitVec 32 := Scalar.remsi v593 c32_i32_447
  let c0_i32_451 : BitVec 32 := 0#32
  let c0_i32_452 : BitVec 32 := 0#32
  ![v594.toNat, 0, 0]
def k0_dev17 (v8 : BitVec 32) : Nat :=
  let c0_i32_467 : BitVec 32 := 0#32
  let c1_i32_466 : BitVec 32 := 1#32
  let v615 : BitVec 32 := Scalar.muli v8 c1_i32_466
  let v616 : BitVec 32 := Scalar.addi c0_i32_467 v615
  v616.toNat
def k0_dev18 (v13 : BitVec 32) : Nat :=
  let c0_i32_476 : BitVec 32 := 0#32
  let c1_i32_475 : BitVec 32 := 1#32
  let v627 : BitVec 32 := Scalar.muli v13 c1_i32_475
  let v628 : BitVec 32 := Scalar.addi c0_i32_476 v627
  v628.toNat
def k0_off68 (v473 : BitVec 32) : Fin 2 → Nat :=
  let c1024_i32_354 : BitVec 32 := 1024#32
  let v474 : BitVec 32 := Scalar.muli v473 c1024_i32_354
  let c0_i32_483 : BitVec 32 := 0#32
  ![v474.toNat, 0]

def k0_chk13 (v473 : BitVec 32) : Prop :=
  (∀ a, (k0_off51 v473) a + S1024x1024.size a ≤ S32768x1024.size a) ∧
  (∀ (hinb : ∀ a, (k0_off51 v473) a + S1024x1024.size a ≤ S32768x1024.size a), (Rect.unit (s := S32768x1024) (k0_off51 v473) S1024x1024.size hinb).WholeWords (EltTy.packing .bf16)) ∧
  (∀ a, (k0_off68 v473) a + S1024x1024.size a ≤ S32768x1024.size a) ∧
  (∀ (hinb : ∀ a, (k0_off68 v473) a + S1024x1024.size a ≤ S32768x1024.size a), (Rect.unit (s := S32768x1024) (k0_off68 v473) S1024x1024.size hinb).WholeWords (EltTy.packing .bf16))
theorem k0_off51_inb : ∀ (v473 : BitVec 32) (k0_hw13 : k0_chk13 v473), ∀ a, (k0_off51 v473) a + S1024x1024.size a ≤ S32768x1024.size a := fun v473 k0_hw13 => k0_hw13.1
theorem k0_off51_wordsbf16 : ∀ (v473 : BitVec 32) (k0_hw13 : k0_chk13 v473), (Rect.unit (s := S32768x1024) (k0_off51 v473) S1024x1024.size (k0_off51_inb v473 k0_hw13)).WholeWords (EltTy.packing .bf16) := fun v473 k0_hw13 => k0_hw13.2.1 (k0_off51_inb v473 k0_hw13)
theorem k0_off68_inb : ∀ (v473 : BitVec 32) (k0_hw13 : k0_chk13 v473), ∀ a, (k0_off68 v473) a + S1024x1024.size a ≤ S32768x1024.size a := fun v473 k0_hw13 => k0_hw13.2.2.1
theorem k0_off68_wordsbf16 : ∀ (v473 : BitVec 32) (k0_hw13 : k0_chk13 v473), (Rect.unit (s := S32768x1024) (k0_off68 v473) S1024x1024.size (k0_off68_inb v473 k0_hw13)).WholeWords (EltTy.packing .bf16) := fun v473 k0_hw13 => k0_hw13.2.2.2 (k0_off68_inb v473 k0_hw13)

def k0_off69 (v4 : BitVec 32) : Fin 3 → Nat :=
  let c25_i32 : BitVec 32 := 25#32
  let v593 : BitVec 32 := Scalar.addi v4 c25_i32
  let c32_i32_447 : BitVec 32 := 32#32
  let v594 : BitVec 32 := Scalar.remsi v593 c32_i32_447
  let v642 : Index := Scalar.indexCast v594
  let c0_486 : Index := 0#32
  let c0_487 : Index := 0#32
  ![v642.toNat, 0, 0]
def k0_off70 (v4 : BitVec 32) : Fin 1 → Nat :=
  let c25_i32 : BitVec 32 := 25#32
  let v593 : BitVec 32 := Scalar.addi v4 c25_i32
  let c32_i32_447 : BitVec 32 := 32#32
  let v594 : BitVec 32 := Scalar.remsi v593 c32_i32_447
  let v652 : Index := Scalar.indexCast v594
  ![v652.toNat]
def k0_off71 (v653 : BitVec 32) : Fin 2 → Nat :=
  let c1024_i32_494 : BitVec 32 := 1024#32
  let v654 : BitVec 32 := Scalar.muli v653 c1024_i32_494
  let c0_i32_496 : BitVec 32 := 0#32
  ![v654.toNat, 0]

def k0_off72 (v496 : BitVec 32) : Fin 2 → Nat :=
  let c1024_i32_372 : BitVec 32 := 1024#32
  let v497 : BitVec 32 := Scalar.muli v496 c1024_i32_372
  let c0_i32_501 : BitVec 32 := 0#32
  ![v497.toNat, 0]

def k0_chk14 (v496 : BitVec 32) : Prop :=
  (∀ a, (k0_off55 v496) a + S1024x1024.size a ≤ S32768x1024.size a) ∧
  (∀ (hinb : ∀ a, (k0_off55 v496) a + S1024x1024.size a ≤ S32768x1024.size a), (Rect.unit (s := S32768x1024) (k0_off55 v496) S1024x1024.size hinb).WholeWords (EltTy.packing .bf16)) ∧
  (∀ a, (k0_off72 v496) a + S1024x1024.size a ≤ S32768x1024.size a) ∧
  (∀ (hinb : ∀ a, (k0_off72 v496) a + S1024x1024.size a ≤ S32768x1024.size a), (Rect.unit (s := S32768x1024) (k0_off72 v496) S1024x1024.size hinb).WholeWords (EltTy.packing .bf16))
theorem k0_off55_inb : ∀ (v496 : BitVec 32) (k0_hw14 : k0_chk14 v496), ∀ a, (k0_off55 v496) a + S1024x1024.size a ≤ S32768x1024.size a := fun v496 k0_hw14 => k0_hw14.1
theorem k0_off55_wordsbf16 : ∀ (v496 : BitVec 32) (k0_hw14 : k0_chk14 v496), (Rect.unit (s := S32768x1024) (k0_off55 v496) S1024x1024.size (k0_off55_inb v496 k0_hw14)).WholeWords (EltTy.packing .bf16) := fun v496 k0_hw14 => k0_hw14.2.1 (k0_off55_inb v496 k0_hw14)
theorem k0_off72_inb : ∀ (v496 : BitVec 32) (k0_hw14 : k0_chk14 v496), ∀ a, (k0_off72 v496) a + S1024x1024.size a ≤ S32768x1024.size a := fun v496 k0_hw14 => k0_hw14.2.2.1
theorem k0_off72_wordsbf16 : ∀ (v496 : BitVec 32) (k0_hw14 : k0_chk14 v496), (Rect.unit (s := S32768x1024) (k0_off72 v496) S1024x1024.size (k0_off72_inb v496 k0_hw14)).WholeWords (EltTy.packing .bf16) := fun v496 k0_hw14 => k0_hw14.2.2.2 (k0_off72_inb v496 k0_hw14)

def k0_off73 (v4 : BitVec 32) : Fin 3 → Nat :=
  let c39_i32 : BitVec 32 := 39#32
  let v603 : BitVec 32 := Scalar.addi v4 c39_i32
  let c32_i32_455 : BitVec 32 := 32#32
  let v604 : BitVec 32 := Scalar.remsi v603 c32_i32_455
  let v665 : Index := Scalar.indexCast v604
  let c0_504 : Index := 0#32
  let c0_505 : Index := 0#32
  ![v665.toNat, 0, 0]
def k0_off74 (v4 : BitVec 32) : Fin 1 → Nat :=
  let c39_i32 : BitVec 32 := 39#32
  let v603 : BitVec 32 := Scalar.addi v4 c39_i32
  let c32_i32_455 : BitVec 32 := 32#32
  let v604 : BitVec 32 := Scalar.remsi v603 c32_i32_455
  let v675 : Index := Scalar.indexCast v604
  ![v675.toNat]
def k0_off75 (v676 : BitVec 32) : Fin 2 → Nat :=
  let c1024_i32_512 : BitVec 32 := 1024#32
  let v677 : BitVec 32 := Scalar.muli v676 c1024_i32_512
  let c0_i32_514 : BitVec 32 := 0#32
  ![v677.toNat, 0]

def k0_off76 (v4 : BitVec 32) (c24_i32 : BitVec 32) : Fin 1 → Nat :=
  let v683 : BitVec 32 := Scalar.addi v4 c24_i32
  let c32_i32_517 : BitVec 32 := 32#32
  let v684 : BitVec 32 := Scalar.remsi v683 c32_i32_517
  ![v684.toNat]
def k0_off77 (v4 : BitVec 32) (c24_i32 : BitVec 32) : Fin 3 → Nat :=
  let v683 : BitVec 32 := Scalar.addi v4 c24_i32
  let c32_i32_517 : BitVec 32 := 32#32
  let v684 : BitVec 32 := Scalar.remsi v683 c32_i32_517
  let c0_i32_521 : BitVec 32 := 0#32
  let c0_i32_522 : BitVec 32 := 0#32
  ![v684.toNat, 0, 0]
def k0_dev19 (v8 : BitVec 32) : Nat :=
  let c0_i32_537 : BitVec 32 := 0#32
  let c1_i32_536 : BitVec 32 := 1#32
  let v705 : BitVec 32 := Scalar.muli v8 c1_i32_536
  let v706 : BitVec 32 := Scalar.addi c0_i32_537 v705
  v706.toNat
def k0_dev20 (v13 : BitVec 32) : Nat :=
  let c0_i32_546 : BitVec 32 := 0#32
  let c1_i32_545 : BitVec 32 := 1#32
  let v717 : BitVec 32 := Scalar.muli v13 c1_i32_545
  let v718 : BitVec 32 := Scalar.addi c0_i32_546 v717
  v718.toNat
def k0_off78 (v563 : BitVec 32) : Fin 2 → Nat :=
  let c1024_i32_424 : BitVec 32 := 1024#32
  let v564 : BitVec 32 := Scalar.muli v563 c1024_i32_424
  let c0_i32_553 : BitVec 32 := 0#32
  ![v564.toNat, 0]

def k0_chk15 (v563 : BitVec 32) : Prop :=
  (∀ a, (k0_off61 v563) a + S1024x1024.size a ≤ S32768x1024.size a) ∧
  (∀ (hinb : ∀ a, (k0_off61 v563) a + S1024x1024.size a ≤ S32768x1024.size a), (Rect.unit (s := S32768x1024) (k0_off61 v563) S1024x1024.size hinb).WholeWords (EltTy.packing .bf16)) ∧
  (∀ a, (k0_off78 v563) a + S1024x1024.size a ≤ S32768x1024.size a) ∧
  (∀ (hinb : ∀ a, (k0_off78 v563) a + S1024x1024.size a ≤ S32768x1024.size a), (Rect.unit (s := S32768x1024) (k0_off78 v563) S1024x1024.size hinb).WholeWords (EltTy.packing .bf16))
theorem k0_off61_inb : ∀ (v563 : BitVec 32) (k0_hw15 : k0_chk15 v563), ∀ a, (k0_off61 v563) a + S1024x1024.size a ≤ S32768x1024.size a := fun v563 k0_hw15 => k0_hw15.1
theorem k0_off61_wordsbf16 : ∀ (v563 : BitVec 32) (k0_hw15 : k0_chk15 v563), (Rect.unit (s := S32768x1024) (k0_off61 v563) S1024x1024.size (k0_off61_inb v563 k0_hw15)).WholeWords (EltTy.packing .bf16) := fun v563 k0_hw15 => k0_hw15.2.1 (k0_off61_inb v563 k0_hw15)
theorem k0_off78_inb : ∀ (v563 : BitVec 32) (k0_hw15 : k0_chk15 v563), ∀ a, (k0_off78 v563) a + S1024x1024.size a ≤ S32768x1024.size a := fun v563 k0_hw15 => k0_hw15.2.2.1
theorem k0_off78_wordsbf16 : ∀ (v563 : BitVec 32) (k0_hw15 : k0_chk15 v563), (Rect.unit (s := S32768x1024) (k0_off78 v563) S1024x1024.size (k0_off78_inb v563 k0_hw15)).WholeWords (EltTy.packing .bf16) := fun v563 k0_hw15 => k0_hw15.2.2.2 (k0_off78_inb v563 k0_hw15)

def k0_off79 (v4 : BitVec 32) : Fin 3 → Nat :=
  let c24_i32 : BitVec 32 := 24#32
  let v683 : BitVec 32 := Scalar.addi v4 c24_i32
  let c32_i32_517 : BitVec 32 := 32#32
  let v684 : BitVec 32 := Scalar.remsi v683 c32_i32_517
  let v732 : Index := Scalar.indexCast v684
  let c0_556 : Index := 0#32
  let c0_557 : Index := 0#32
  ![v732.toNat, 0, 0]
def k0_off80 (v4 : BitVec 32) : Fin 1 → Nat :=
  let c24_i32 : BitVec 32 := 24#32
  let v683 : BitVec 32 := Scalar.addi v4 c24_i32
  let c32_i32_517 : BitVec 32 := 32#32
  let v684 : BitVec 32 := Scalar.remsi v683 c32_i32_517
  let v742 : Index := Scalar.indexCast v684
  ![v742.toNat]
def k0_off81 (v743 : BitVec 32) : Fin 2 → Nat :=
  let c1024_i32_564 : BitVec 32 := 1024#32
  let v744 : BitVec 32 := Scalar.muli v743 c1024_i32_564
  let c0_i32_566 : BitVec 32 := 0#32
  ![v744.toNat, 0]

def k0_off82 (v586 : BitVec 32) : Fin 2 → Nat :=
  let c1024_i32_442 : BitVec 32 := 1024#32
  let v587 : BitVec 32 := Scalar.muli v586 c1024_i32_442
  let c0_i32_571 : BitVec 32 := 0#32
  ![v587.toNat, 0]

def k0_chk16 (v586 : BitVec 32) : Prop :=
  (∀ a, (k0_off65 v586) a + S1024x1024.size a ≤ S32768x1024.size a) ∧
  (∀ (hinb : ∀ a, (k0_off65 v586) a + S1024x1024.size a ≤ S32768x1024.size a), (Rect.unit (s := S32768x1024) (k0_off65 v586) S1024x1024.size hinb).WholeWords (EltTy.packing .bf16)) ∧
  (∀ a, (k0_off82 v586) a + S1024x1024.size a ≤ S32768x1024.size a) ∧
  (∀ (hinb : ∀ a, (k0_off82 v586) a + S1024x1024.size a ≤ S32768x1024.size a), (Rect.unit (s := S32768x1024) (k0_off82 v586) S1024x1024.size hinb).WholeWords (EltTy.packing .bf16))
theorem k0_off65_inb : ∀ (v586 : BitVec 32) (k0_hw16 : k0_chk16 v586), ∀ a, (k0_off65 v586) a + S1024x1024.size a ≤ S32768x1024.size a := fun v586 k0_hw16 => k0_hw16.1
theorem k0_off65_wordsbf16 : ∀ (v586 : BitVec 32) (k0_hw16 : k0_chk16 v586), (Rect.unit (s := S32768x1024) (k0_off65 v586) S1024x1024.size (k0_off65_inb v586 k0_hw16)).WholeWords (EltTy.packing .bf16) := fun v586 k0_hw16 => k0_hw16.2.1 (k0_off65_inb v586 k0_hw16)
theorem k0_off82_inb : ∀ (v586 : BitVec 32) (k0_hw16 : k0_chk16 v586), ∀ a, (k0_off82 v586) a + S1024x1024.size a ≤ S32768x1024.size a := fun v586 k0_hw16 => k0_hw16.2.2.1
theorem k0_off82_wordsbf16 : ∀ (v586 : BitVec 32) (k0_hw16 : k0_chk16 v586), (Rect.unit (s := S32768x1024) (k0_off82 v586) S1024x1024.size (k0_off82_inb v586 k0_hw16)).WholeWords (EltTy.packing .bf16) := fun v586 k0_hw16 => k0_hw16.2.2.2 (k0_off82_inb v586 k0_hw16)

def k0_off83 (v4 : BitVec 32) : Fin 3 → Nat :=
  let c40_i32 : BitVec 32 := 40#32
  let v693 : BitVec 32 := Scalar.addi v4 c40_i32
  let c32_i32_525 : BitVec 32 := 32#32
  let v694 : BitVec 32 := Scalar.remsi v693 c32_i32_525
  let v755 : Index := Scalar.indexCast v694
  let c0_574 : Index := 0#32
  let c0_575 : Index := 0#32
  ![v755.toNat, 0, 0]
def k0_off84 (v4 : BitVec 32) : Fin 1 → Nat :=
  let c40_i32 : BitVec 32 := 40#32
  let v693 : BitVec 32 := Scalar.addi v4 c40_i32
  let c32_i32_525 : BitVec 32 := 32#32
  let v694 : BitVec 32 := Scalar.remsi v693 c32_i32_525
  let v765 : Index := Scalar.indexCast v694
  ![v765.toNat]
def k0_off85 (v766 : BitVec 32) : Fin 2 → Nat :=
  let c1024_i32_582 : BitVec 32 := 1024#32
  let v767 : BitVec 32 := Scalar.muli v766 c1024_i32_582
  let c0_i32_584 : BitVec 32 := 0#32
  ![v767.toNat, 0]

def k0_off86 (v4 : BitVec 32) (c23_i32 : BitVec 32) : Fin 1 → Nat :=
  let v773 : BitVec 32 := Scalar.addi v4 c23_i32
  let c32_i32_587 : BitVec 32 := 32#32
  let v774 : BitVec 32 := Scalar.remsi v773 c32_i32_587
  ![v774.toNat]
def k0_off87 (v4 : BitVec 32) (c23_i32 : BitVec 32) : Fin 3 → Nat :=
  let v773 : BitVec 32 := Scalar.addi v4 c23_i32
  let c32_i32_587 : BitVec 32 := 32#32
  let v774 : BitVec 32 := Scalar.remsi v773 c32_i32_587
  let c0_i32_591 : BitVec 32 := 0#32
  let c0_i32_592 : BitVec 32 := 0#32
  ![v774.toNat, 0, 0]
def k0_dev21 (v8 : BitVec 32) : Nat :=
  let c0_i32_607 : BitVec 32 := 0#32
  let c1_i32_606 : BitVec 32 := 1#32
  let v795 : BitVec 32 := Scalar.muli v8 c1_i32_606
  let v796 : BitVec 32 := Scalar.addi c0_i32_607 v795
  v796.toNat
def k0_dev22 (v13 : BitVec 32) : Nat :=
  let c0_i32_616 : BitVec 32 := 0#32
  let c1_i32_615 : BitVec 32 := 1#32
  let v807 : BitVec 32 := Scalar.muli v13 c1_i32_615
  let v808 : BitVec 32 := Scalar.addi c0_i32_616 v807
  v808.toNat
def k0_off88 (v653 : BitVec 32) : Fin 2 → Nat :=
  let c1024_i32_494 : BitVec 32 := 1024#32
  let v654 : BitVec 32 := Scalar.muli v653 c1024_i32_494
  let c0_i32_623 : BitVec 32 := 0#32
  ![v654.toNat, 0]

def k0_chk17 (v653 : BitVec 32) : Prop :=
  (∀ a, (k0_off71 v653) a + S1024x1024.size a ≤ S32768x1024.size a) ∧
  (∀ (hinb : ∀ a, (k0_off71 v653) a + S1024x1024.size a ≤ S32768x1024.size a), (Rect.unit (s := S32768x1024) (k0_off71 v653) S1024x1024.size hinb).WholeWords (EltTy.packing .bf16)) ∧
  (∀ a, (k0_off88 v653) a + S1024x1024.size a ≤ S32768x1024.size a) ∧
  (∀ (hinb : ∀ a, (k0_off88 v653) a + S1024x1024.size a ≤ S32768x1024.size a), (Rect.unit (s := S32768x1024) (k0_off88 v653) S1024x1024.size hinb).WholeWords (EltTy.packing .bf16))
theorem k0_off71_inb : ∀ (v653 : BitVec 32) (k0_hw17 : k0_chk17 v653), ∀ a, (k0_off71 v653) a + S1024x1024.size a ≤ S32768x1024.size a := fun v653 k0_hw17 => k0_hw17.1
theorem k0_off71_wordsbf16 : ∀ (v653 : BitVec 32) (k0_hw17 : k0_chk17 v653), (Rect.unit (s := S32768x1024) (k0_off71 v653) S1024x1024.size (k0_off71_inb v653 k0_hw17)).WholeWords (EltTy.packing .bf16) := fun v653 k0_hw17 => k0_hw17.2.1 (k0_off71_inb v653 k0_hw17)
theorem k0_off88_inb : ∀ (v653 : BitVec 32) (k0_hw17 : k0_chk17 v653), ∀ a, (k0_off88 v653) a + S1024x1024.size a ≤ S32768x1024.size a := fun v653 k0_hw17 => k0_hw17.2.2.1
theorem k0_off88_wordsbf16 : ∀ (v653 : BitVec 32) (k0_hw17 : k0_chk17 v653), (Rect.unit (s := S32768x1024) (k0_off88 v653) S1024x1024.size (k0_off88_inb v653 k0_hw17)).WholeWords (EltTy.packing .bf16) := fun v653 k0_hw17 => k0_hw17.2.2.2 (k0_off88_inb v653 k0_hw17)

def k0_off89 (v4 : BitVec 32) : Fin 3 → Nat :=
  let c23_i32 : BitVec 32 := 23#32
  let v773 : BitVec 32 := Scalar.addi v4 c23_i32
  let c32_i32_587 : BitVec 32 := 32#32
  let v774 : BitVec 32 := Scalar.remsi v773 c32_i32_587
  let v822 : Index := Scalar.indexCast v774
  let c0_626 : Index := 0#32
  let c0_627 : Index := 0#32
  ![v822.toNat, 0, 0]
def k0_off90 (v4 : BitVec 32) : Fin 1 → Nat :=
  let c23_i32 : BitVec 32 := 23#32
  let v773 : BitVec 32 := Scalar.addi v4 c23_i32
  let c32_i32_587 : BitVec 32 := 32#32
  let v774 : BitVec 32 := Scalar.remsi v773 c32_i32_587
  let v832 : Index := Scalar.indexCast v774
  ![v832.toNat]
def k0_off91 (v833 : BitVec 32) : Fin 2 → Nat :=
  let c1024_i32_634 : BitVec 32 := 1024#32
  let v834 : BitVec 32 := Scalar.muli v833 c1024_i32_634
  let c0_i32_636 : BitVec 32 := 0#32
  ![v834.toNat, 0]

def k0_off92 (v676 : BitVec 32) : Fin 2 → Nat :=
  let c1024_i32_512 : BitVec 32 := 1024#32
  let v677 : BitVec 32 := Scalar.muli v676 c1024_i32_512
  let c0_i32_641 : BitVec 32 := 0#32
  ![v677.toNat, 0]

def k0_chk18 (v676 : BitVec 32) : Prop :=
  (∀ a, (k0_off75 v676) a + S1024x1024.size a ≤ S32768x1024.size a) ∧
  (∀ (hinb : ∀ a, (k0_off75 v676) a + S1024x1024.size a ≤ S32768x1024.size a), (Rect.unit (s := S32768x1024) (k0_off75 v676) S1024x1024.size hinb).WholeWords (EltTy.packing .bf16)) ∧
  (∀ a, (k0_off92 v676) a + S1024x1024.size a ≤ S32768x1024.size a) ∧
  (∀ (hinb : ∀ a, (k0_off92 v676) a + S1024x1024.size a ≤ S32768x1024.size a), (Rect.unit (s := S32768x1024) (k0_off92 v676) S1024x1024.size hinb).WholeWords (EltTy.packing .bf16))
theorem k0_off75_inb : ∀ (v676 : BitVec 32) (k0_hw18 : k0_chk18 v676), ∀ a, (k0_off75 v676) a + S1024x1024.size a ≤ S32768x1024.size a := fun v676 k0_hw18 => k0_hw18.1
theorem k0_off75_wordsbf16 : ∀ (v676 : BitVec 32) (k0_hw18 : k0_chk18 v676), (Rect.unit (s := S32768x1024) (k0_off75 v676) S1024x1024.size (k0_off75_inb v676 k0_hw18)).WholeWords (EltTy.packing .bf16) := fun v676 k0_hw18 => k0_hw18.2.1 (k0_off75_inb v676 k0_hw18)
theorem k0_off92_inb : ∀ (v676 : BitVec 32) (k0_hw18 : k0_chk18 v676), ∀ a, (k0_off92 v676) a + S1024x1024.size a ≤ S32768x1024.size a := fun v676 k0_hw18 => k0_hw18.2.2.1
theorem k0_off92_wordsbf16 : ∀ (v676 : BitVec 32) (k0_hw18 : k0_chk18 v676), (Rect.unit (s := S32768x1024) (k0_off92 v676) S1024x1024.size (k0_off92_inb v676 k0_hw18)).WholeWords (EltTy.packing .bf16) := fun v676 k0_hw18 => k0_hw18.2.2.2 (k0_off92_inb v676 k0_hw18)

def k0_off93 (v4 : BitVec 32) : Fin 3 → Nat :=
  let c41_i32 : BitVec 32 := 41#32
  let v783 : BitVec 32 := Scalar.addi v4 c41_i32
  let c32_i32_595 : BitVec 32 := 32#32
  let v784 : BitVec 32 := Scalar.remsi v783 c32_i32_595
  let v845 : Index := Scalar.indexCast v784
  let c0_644 : Index := 0#32
  let c0_645 : Index := 0#32
  ![v845.toNat, 0, 0]
def k0_off94 (v4 : BitVec 32) : Fin 1 → Nat :=
  let c41_i32 : BitVec 32 := 41#32
  let v783 : BitVec 32 := Scalar.addi v4 c41_i32
  let c32_i32_595 : BitVec 32 := 32#32
  let v784 : BitVec 32 := Scalar.remsi v783 c32_i32_595
  let v855 : Index := Scalar.indexCast v784
  ![v855.toNat]
def k0_off95 (v856 : BitVec 32) : Fin 2 → Nat :=
  let c1024_i32_652 : BitVec 32 := 1024#32
  let v857 : BitVec 32 := Scalar.muli v856 c1024_i32_652
  let c0_i32_654 : BitVec 32 := 0#32
  ![v857.toNat, 0]

def k0_off96 (v4 : BitVec 32) (c22_i32 : BitVec 32) : Fin 1 → Nat :=
  let v863 : BitVec 32 := Scalar.addi v4 c22_i32
  let c32_i32_657 : BitVec 32 := 32#32
  let v864 : BitVec 32 := Scalar.remsi v863 c32_i32_657
  ![v864.toNat]
def k0_off97 (v4 : BitVec 32) (c22_i32 : BitVec 32) : Fin 3 → Nat :=
  let v863 : BitVec 32 := Scalar.addi v4 c22_i32
  let c32_i32_657 : BitVec 32 := 32#32
  let v864 : BitVec 32 := Scalar.remsi v863 c32_i32_657
  let c0_i32_661 : BitVec 32 := 0#32
  let c0_i32_662 : BitVec 32 := 0#32
  ![v864.toNat, 0, 0]
def k0_dev23 (v8 : BitVec 32) : Nat :=
  let c0_i32_677 : BitVec 32 := 0#32
  let c1_i32_676 : BitVec 32 := 1#32
  let v885 : BitVec 32 := Scalar.muli v8 c1_i32_676
  let v886 : BitVec 32 := Scalar.addi c0_i32_677 v885
  v886.toNat
def k0_dev24 (v13 : BitVec 32) : Nat :=
  let c0_i32_686 : BitVec 32 := 0#32
  let c1_i32_685 : BitVec 32 := 1#32
  let v897 : BitVec 32 := Scalar.muli v13 c1_i32_685
  let v898 : BitVec 32 := Scalar.addi c0_i32_686 v897
  v898.toNat
def k0_off98 (v743 : BitVec 32) : Fin 2 → Nat :=
  let c1024_i32_564 : BitVec 32 := 1024#32
  let v744 : BitVec 32 := Scalar.muli v743 c1024_i32_564
  let c0_i32_693 : BitVec 32 := 0#32
  ![v744.toNat, 0]

def k0_chk19 (v743 : BitVec 32) : Prop :=
  (∀ a, (k0_off81 v743) a + S1024x1024.size a ≤ S32768x1024.size a) ∧
  (∀ (hinb : ∀ a, (k0_off81 v743) a + S1024x1024.size a ≤ S32768x1024.size a), (Rect.unit (s := S32768x1024) (k0_off81 v743) S1024x1024.size hinb).WholeWords (EltTy.packing .bf16)) ∧
  (∀ a, (k0_off98 v743) a + S1024x1024.size a ≤ S32768x1024.size a) ∧
  (∀ (hinb : ∀ a, (k0_off98 v743) a + S1024x1024.size a ≤ S32768x1024.size a), (Rect.unit (s := S32768x1024) (k0_off98 v743) S1024x1024.size hinb).WholeWords (EltTy.packing .bf16))
theorem k0_off81_inb : ∀ (v743 : BitVec 32) (k0_hw19 : k0_chk19 v743), ∀ a, (k0_off81 v743) a + S1024x1024.size a ≤ S32768x1024.size a := fun v743 k0_hw19 => k0_hw19.1
theorem k0_off81_wordsbf16 : ∀ (v743 : BitVec 32) (k0_hw19 : k0_chk19 v743), (Rect.unit (s := S32768x1024) (k0_off81 v743) S1024x1024.size (k0_off81_inb v743 k0_hw19)).WholeWords (EltTy.packing .bf16) := fun v743 k0_hw19 => k0_hw19.2.1 (k0_off81_inb v743 k0_hw19)
theorem k0_off98_inb : ∀ (v743 : BitVec 32) (k0_hw19 : k0_chk19 v743), ∀ a, (k0_off98 v743) a + S1024x1024.size a ≤ S32768x1024.size a := fun v743 k0_hw19 => k0_hw19.2.2.1
theorem k0_off98_wordsbf16 : ∀ (v743 : BitVec 32) (k0_hw19 : k0_chk19 v743), (Rect.unit (s := S32768x1024) (k0_off98 v743) S1024x1024.size (k0_off98_inb v743 k0_hw19)).WholeWords (EltTy.packing .bf16) := fun v743 k0_hw19 => k0_hw19.2.2.2 (k0_off98_inb v743 k0_hw19)

def k0_off99 (v4 : BitVec 32) : Fin 3 → Nat :=
  let c22_i32 : BitVec 32 := 22#32
  let v863 : BitVec 32 := Scalar.addi v4 c22_i32
  let c32_i32_657 : BitVec 32 := 32#32
  let v864 : BitVec 32 := Scalar.remsi v863 c32_i32_657
  let v912 : Index := Scalar.indexCast v864
  let c0_696 : Index := 0#32
  let c0_697 : Index := 0#32
  ![v912.toNat, 0, 0]
def k0_off100 (v4 : BitVec 32) : Fin 1 → Nat :=
  let c22_i32 : BitVec 32 := 22#32
  let v863 : BitVec 32 := Scalar.addi v4 c22_i32
  let c32_i32_657 : BitVec 32 := 32#32
  let v864 : BitVec 32 := Scalar.remsi v863 c32_i32_657
  let v922 : Index := Scalar.indexCast v864
  ![v922.toNat]
def k0_off101 (v923 : BitVec 32) : Fin 2 → Nat :=
  let c1024_i32_704 : BitVec 32 := 1024#32
  let v924 : BitVec 32 := Scalar.muli v923 c1024_i32_704
  let c0_i32_706 : BitVec 32 := 0#32
  ![v924.toNat, 0]

def k0_off102 (v766 : BitVec 32) : Fin 2 → Nat :=
  let c1024_i32_582 : BitVec 32 := 1024#32
  let v767 : BitVec 32 := Scalar.muli v766 c1024_i32_582
  let c0_i32_711 : BitVec 32 := 0#32
  ![v767.toNat, 0]

def k0_chk20 (v766 : BitVec 32) : Prop :=
  (∀ a, (k0_off85 v766) a + S1024x1024.size a ≤ S32768x1024.size a) ∧
  (∀ (hinb : ∀ a, (k0_off85 v766) a + S1024x1024.size a ≤ S32768x1024.size a), (Rect.unit (s := S32768x1024) (k0_off85 v766) S1024x1024.size hinb).WholeWords (EltTy.packing .bf16)) ∧
  (∀ a, (k0_off102 v766) a + S1024x1024.size a ≤ S32768x1024.size a) ∧
  (∀ (hinb : ∀ a, (k0_off102 v766) a + S1024x1024.size a ≤ S32768x1024.size a), (Rect.unit (s := S32768x1024) (k0_off102 v766) S1024x1024.size hinb).WholeWords (EltTy.packing .bf16))
theorem k0_off85_inb : ∀ (v766 : BitVec 32) (k0_hw20 : k0_chk20 v766), ∀ a, (k0_off85 v766) a + S1024x1024.size a ≤ S32768x1024.size a := fun v766 k0_hw20 => k0_hw20.1
theorem k0_off85_wordsbf16 : ∀ (v766 : BitVec 32) (k0_hw20 : k0_chk20 v766), (Rect.unit (s := S32768x1024) (k0_off85 v766) S1024x1024.size (k0_off85_inb v766 k0_hw20)).WholeWords (EltTy.packing .bf16) := fun v766 k0_hw20 => k0_hw20.2.1 (k0_off85_inb v766 k0_hw20)
theorem k0_off102_inb : ∀ (v766 : BitVec 32) (k0_hw20 : k0_chk20 v766), ∀ a, (k0_off102 v766) a + S1024x1024.size a ≤ S32768x1024.size a := fun v766 k0_hw20 => k0_hw20.2.2.1
theorem k0_off102_wordsbf16 : ∀ (v766 : BitVec 32) (k0_hw20 : k0_chk20 v766), (Rect.unit (s := S32768x1024) (k0_off102 v766) S1024x1024.size (k0_off102_inb v766 k0_hw20)).WholeWords (EltTy.packing .bf16) := fun v766 k0_hw20 => k0_hw20.2.2.2 (k0_off102_inb v766 k0_hw20)

def k0_off103 (v4 : BitVec 32) : Fin 3 → Nat :=
  let c42_i32 : BitVec 32 := 42#32
  let v873 : BitVec 32 := Scalar.addi v4 c42_i32
  let c32_i32_665 : BitVec 32 := 32#32
  let v874 : BitVec 32 := Scalar.remsi v873 c32_i32_665
  let v935 : Index := Scalar.indexCast v874
  let c0_714 : Index := 0#32
  let c0_715 : Index := 0#32
  ![v935.toNat, 0, 0]
def k0_off104 (v4 : BitVec 32) : Fin 1 → Nat :=
  let c42_i32 : BitVec 32 := 42#32
  let v873 : BitVec 32 := Scalar.addi v4 c42_i32
  let c32_i32_665 : BitVec 32 := 32#32
  let v874 : BitVec 32 := Scalar.remsi v873 c32_i32_665
  let v945 : Index := Scalar.indexCast v874
  ![v945.toNat]
def k0_off105 (v946 : BitVec 32) : Fin 2 → Nat :=
  let c1024_i32_722 : BitVec 32 := 1024#32
  let v947 : BitVec 32 := Scalar.muli v946 c1024_i32_722
  let c0_i32_724 : BitVec 32 := 0#32
  ![v947.toNat, 0]

def k0_off106 (v4 : BitVec 32) (c21_i32 : BitVec 32) : Fin 1 → Nat :=
  let v953 : BitVec 32 := Scalar.addi v4 c21_i32
  let c32_i32_727 : BitVec 32 := 32#32
  let v954 : BitVec 32 := Scalar.remsi v953 c32_i32_727
  ![v954.toNat]
def k0_off107 (v4 : BitVec 32) (c21_i32 : BitVec 32) : Fin 3 → Nat :=
  let v953 : BitVec 32 := Scalar.addi v4 c21_i32
  let c32_i32_727 : BitVec 32 := 32#32
  let v954 : BitVec 32 := Scalar.remsi v953 c32_i32_727
  let c0_i32_731 : BitVec 32 := 0#32
  let c0_i32_732 : BitVec 32 := 0#32
  ![v954.toNat, 0, 0]
def k0_dev25 (v8 : BitVec 32) : Nat :=
  let c0_i32_747 : BitVec 32 := 0#32
  let c1_i32_746 : BitVec 32 := 1#32
  let v975 : BitVec 32 := Scalar.muli v8 c1_i32_746
  let v976 : BitVec 32 := Scalar.addi c0_i32_747 v975
  v976.toNat
def k0_dev26 (v13 : BitVec 32) : Nat :=
  let c0_i32_756 : BitVec 32 := 0#32
  let c1_i32_755 : BitVec 32 := 1#32
  let v987 : BitVec 32 := Scalar.muli v13 c1_i32_755
  let v988 : BitVec 32 := Scalar.addi c0_i32_756 v987
  v988.toNat
def k0_off108 (v833 : BitVec 32) : Fin 2 → Nat :=
  let c1024_i32_634 : BitVec 32 := 1024#32
  let v834 : BitVec 32 := Scalar.muli v833 c1024_i32_634
  let c0_i32_763 : BitVec 32 := 0#32
  ![v834.toNat, 0]

def k0_chk21 (v833 : BitVec 32) : Prop :=
  (∀ a, (k0_off91 v833) a + S1024x1024.size a ≤ S32768x1024.size a) ∧
  (∀ (hinb : ∀ a, (k0_off91 v833) a + S1024x1024.size a ≤ S32768x1024.size a), (Rect.unit (s := S32768x1024) (k0_off91 v833) S1024x1024.size hinb).WholeWords (EltTy.packing .bf16)) ∧
  (∀ a, (k0_off108 v833) a + S1024x1024.size a ≤ S32768x1024.size a) ∧
  (∀ (hinb : ∀ a, (k0_off108 v833) a + S1024x1024.size a ≤ S32768x1024.size a), (Rect.unit (s := S32768x1024) (k0_off108 v833) S1024x1024.size hinb).WholeWords (EltTy.packing .bf16))
theorem k0_off91_inb : ∀ (v833 : BitVec 32) (k0_hw21 : k0_chk21 v833), ∀ a, (k0_off91 v833) a + S1024x1024.size a ≤ S32768x1024.size a := fun v833 k0_hw21 => k0_hw21.1
theorem k0_off91_wordsbf16 : ∀ (v833 : BitVec 32) (k0_hw21 : k0_chk21 v833), (Rect.unit (s := S32768x1024) (k0_off91 v833) S1024x1024.size (k0_off91_inb v833 k0_hw21)).WholeWords (EltTy.packing .bf16) := fun v833 k0_hw21 => k0_hw21.2.1 (k0_off91_inb v833 k0_hw21)
theorem k0_off108_inb : ∀ (v833 : BitVec 32) (k0_hw21 : k0_chk21 v833), ∀ a, (k0_off108 v833) a + S1024x1024.size a ≤ S32768x1024.size a := fun v833 k0_hw21 => k0_hw21.2.2.1
theorem k0_off108_wordsbf16 : ∀ (v833 : BitVec 32) (k0_hw21 : k0_chk21 v833), (Rect.unit (s := S32768x1024) (k0_off108 v833) S1024x1024.size (k0_off108_inb v833 k0_hw21)).WholeWords (EltTy.packing .bf16) := fun v833 k0_hw21 => k0_hw21.2.2.2 (k0_off108_inb v833 k0_hw21)

def k0_off109 (v4 : BitVec 32) : Fin 3 → Nat :=
  let c21_i32 : BitVec 32 := 21#32
  let v953 : BitVec 32 := Scalar.addi v4 c21_i32
  let c32_i32_727 : BitVec 32 := 32#32
  let v954 : BitVec 32 := Scalar.remsi v953 c32_i32_727
  let v1002 : Index := Scalar.indexCast v954
  let c0_766 : Index := 0#32
  let c0_767 : Index := 0#32
  ![v1002.toNat, 0, 0]
def k0_off110 (v4 : BitVec 32) : Fin 1 → Nat :=
  let c21_i32 : BitVec 32 := 21#32
  let v953 : BitVec 32 := Scalar.addi v4 c21_i32
  let c32_i32_727 : BitVec 32 := 32#32
  let v954 : BitVec 32 := Scalar.remsi v953 c32_i32_727
  let v1012 : Index := Scalar.indexCast v954
  ![v1012.toNat]
def k0_off111 (v1013 : BitVec 32) : Fin 2 → Nat :=
  let c1024_i32_774 : BitVec 32 := 1024#32
  let v1014 : BitVec 32 := Scalar.muli v1013 c1024_i32_774
  let c0_i32_777 : BitVec 32 := 0#32
  ![v1014.toNat, 0]

def k0_off112 (v856 : BitVec 32) : Fin 2 → Nat :=
  let c1024_i32_652 : BitVec 32 := 1024#32
  let v857 : BitVec 32 := Scalar.muli v856 c1024_i32_652
  let c0_i32_782 : BitVec 32 := 0#32
  ![v857.toNat, 0]

def k0_chk22 (v856 : BitVec 32) : Prop :=
  (∀ a, (k0_off95 v856) a + S1024x1024.size a ≤ S32768x1024.size a) ∧
  (∀ (hinb : ∀ a, (k0_off95 v856) a + S1024x1024.size a ≤ S32768x1024.size a), (Rect.unit (s := S32768x1024) (k0_off95 v856) S1024x1024.size hinb).WholeWords (EltTy.packing .bf16)) ∧
  (∀ a, (k0_off112 v856) a + S1024x1024.size a ≤ S32768x1024.size a) ∧
  (∀ (hinb : ∀ a, (k0_off112 v856) a + S1024x1024.size a ≤ S32768x1024.size a), (Rect.unit (s := S32768x1024) (k0_off112 v856) S1024x1024.size hinb).WholeWords (EltTy.packing .bf16))
theorem k0_off95_inb : ∀ (v856 : BitVec 32) (k0_hw22 : k0_chk22 v856), ∀ a, (k0_off95 v856) a + S1024x1024.size a ≤ S32768x1024.size a := fun v856 k0_hw22 => k0_hw22.1
theorem k0_off95_wordsbf16 : ∀ (v856 : BitVec 32) (k0_hw22 : k0_chk22 v856), (Rect.unit (s := S32768x1024) (k0_off95 v856) S1024x1024.size (k0_off95_inb v856 k0_hw22)).WholeWords (EltTy.packing .bf16) := fun v856 k0_hw22 => k0_hw22.2.1 (k0_off95_inb v856 k0_hw22)
theorem k0_off112_inb : ∀ (v856 : BitVec 32) (k0_hw22 : k0_chk22 v856), ∀ a, (k0_off112 v856) a + S1024x1024.size a ≤ S32768x1024.size a := fun v856 k0_hw22 => k0_hw22.2.2.1
theorem k0_off112_wordsbf16 : ∀ (v856 : BitVec 32) (k0_hw22 : k0_chk22 v856), (Rect.unit (s := S32768x1024) (k0_off112 v856) S1024x1024.size (k0_off112_inb v856 k0_hw22)).WholeWords (EltTy.packing .bf16) := fun v856 k0_hw22 => k0_hw22.2.2.2 (k0_off112_inb v856 k0_hw22)

def k0_off113 (v4 : BitVec 32) : Fin 3 → Nat :=
  let c43_i32 : BitVec 32 := 43#32
  let v963 : BitVec 32 := Scalar.addi v4 c43_i32
  let c32_i32_735 : BitVec 32 := 32#32
  let v964 : BitVec 32 := Scalar.remsi v963 c32_i32_735
  let v1025 : Index := Scalar.indexCast v964
  let c0_785 : Index := 0#32
  let c0_786 : Index := 0#32
  ![v1025.toNat, 0, 0]
def k0_off114 (v4 : BitVec 32) : Fin 1 → Nat :=
  let c43_i32 : BitVec 32 := 43#32
  let v963 : BitVec 32 := Scalar.addi v4 c43_i32
  let c32_i32_735 : BitVec 32 := 32#32
  let v964 : BitVec 32 := Scalar.remsi v963 c32_i32_735
  let v1035 : Index := Scalar.indexCast v964
  ![v1035.toNat]
def k0_off115 (v1036 : BitVec 32) : Fin 2 → Nat :=
  let c1024_i32_793 : BitVec 32 := 1024#32
  let v1037 : BitVec 32 := Scalar.muli v1036 c1024_i32_793
  let c0_i32_796 : BitVec 32 := 0#32
  ![v1037.toNat, 0]

def k0_off116 (v4 : BitVec 32) (c20_i32_799 : BitVec 32) : Fin 1 → Nat :=
  let v1043 : BitVec 32 := Scalar.addi v4 c20_i32_799
  let c32_i32_800 : BitVec 32 := 32#32
  let v1044 : BitVec 32 := Scalar.remsi v1043 c32_i32_800
  ![v1044.toNat]
def k0_off117 (v4 : BitVec 32) (c20_i32_799 : BitVec 32) : Fin 3 → Nat :=
  let v1043 : BitVec 32 := Scalar.addi v4 c20_i32_799
  let c32_i32_800 : BitVec 32 := 32#32
  let v1044 : BitVec 32 := Scalar.remsi v1043 c32_i32_800
  let c0_i32_804 : BitVec 32 := 0#32
  let c0_i32_805 : BitVec 32 := 0#32
  ![v1044.toNat, 0, 0]
def k0_dev27 (v8 : BitVec 32) : Nat :=
  let c0_i32_820 : BitVec 32 := 0#32
  let c1_i32_819 : BitVec 32 := 1#32
  let v1065 : BitVec 32 := Scalar.muli v8 c1_i32_819
  let v1066 : BitVec 32 := Scalar.addi c0_i32_820 v1065
  v1066.toNat
def k0_dev28 (v13 : BitVec 32) : Nat :=
  let c0_i32_829 : BitVec 32 := 0#32
  let c1_i32_828 : BitVec 32 := 1#32
  let v1077 : BitVec 32 := Scalar.muli v13 c1_i32_828
  let v1078 : BitVec 32 := Scalar.addi c0_i32_829 v1077
  v1078.toNat
def k0_off118 (v923 : BitVec 32) : Fin 2 → Nat :=
  let c1024_i32_704 : BitVec 32 := 1024#32
  let v924 : BitVec 32 := Scalar.muli v923 c1024_i32_704
  let c0_i32_836 : BitVec 32 := 0#32
  ![v924.toNat, 0]

def k0_chk23 (v923 : BitVec 32) : Prop :=
  (∀ a, (k0_off101 v923) a + S1024x1024.size a ≤ S32768x1024.size a) ∧
  (∀ (hinb : ∀ a, (k0_off101 v923) a + S1024x1024.size a ≤ S32768x1024.size a), (Rect.unit (s := S32768x1024) (k0_off101 v923) S1024x1024.size hinb).WholeWords (EltTy.packing .bf16)) ∧
  (∀ a, (k0_off118 v923) a + S1024x1024.size a ≤ S32768x1024.size a) ∧
  (∀ (hinb : ∀ a, (k0_off118 v923) a + S1024x1024.size a ≤ S32768x1024.size a), (Rect.unit (s := S32768x1024) (k0_off118 v923) S1024x1024.size hinb).WholeWords (EltTy.packing .bf16))
theorem k0_off101_inb : ∀ (v923 : BitVec 32) (k0_hw23 : k0_chk23 v923), ∀ a, (k0_off101 v923) a + S1024x1024.size a ≤ S32768x1024.size a := fun v923 k0_hw23 => k0_hw23.1
theorem k0_off101_wordsbf16 : ∀ (v923 : BitVec 32) (k0_hw23 : k0_chk23 v923), (Rect.unit (s := S32768x1024) (k0_off101 v923) S1024x1024.size (k0_off101_inb v923 k0_hw23)).WholeWords (EltTy.packing .bf16) := fun v923 k0_hw23 => k0_hw23.2.1 (k0_off101_inb v923 k0_hw23)
theorem k0_off118_inb : ∀ (v923 : BitVec 32) (k0_hw23 : k0_chk23 v923), ∀ a, (k0_off118 v923) a + S1024x1024.size a ≤ S32768x1024.size a := fun v923 k0_hw23 => k0_hw23.2.2.1
theorem k0_off118_wordsbf16 : ∀ (v923 : BitVec 32) (k0_hw23 : k0_chk23 v923), (Rect.unit (s := S32768x1024) (k0_off118 v923) S1024x1024.size (k0_off118_inb v923 k0_hw23)).WholeWords (EltTy.packing .bf16) := fun v923 k0_hw23 => k0_hw23.2.2.2 (k0_off118_inb v923 k0_hw23)

def k0_off119 (v4 : BitVec 32) : Fin 3 → Nat :=
  let c20_i32_799 : BitVec 32 := 20#32
  let v1043 : BitVec 32 := Scalar.addi v4 c20_i32_799
  let c32_i32_800 : BitVec 32 := 32#32
  let v1044 : BitVec 32 := Scalar.remsi v1043 c32_i32_800
  let v1092 : Index := Scalar.indexCast v1044
  let c0_839 : Index := 0#32
  let c0_840 : Index := 0#32
  ![v1092.toNat, 0, 0]
def k0_off120 (v4 : BitVec 32) : Fin 1 → Nat :=
  let c20_i32_799 : BitVec 32 := 20#32
  let v1043 : BitVec 32 := Scalar.addi v4 c20_i32_799
  let c32_i32_800 : BitVec 32 := 32#32
  let v1044 : BitVec 32 := Scalar.remsi v1043 c32_i32_800
  let v1102 : Index := Scalar.indexCast v1044
  ![v1102.toNat]
def k0_off121 (v1103 : BitVec 32) : Fin 2 → Nat :=
  let c1024_i32_847 : BitVec 32 := 1024#32
  let v1104 : BitVec 32 := Scalar.muli v1103 c1024_i32_847
  let c0_i32_850 : BitVec 32 := 0#32
  ![v1104.toNat, 0]

def k0_off122 (v946 : BitVec 32) : Fin 2 → Nat :=
  let c1024_i32_722 : BitVec 32 := 1024#32
  let v947 : BitVec 32 := Scalar.muli v946 c1024_i32_722
  let c0_i32_855 : BitVec 32 := 0#32
  ![v947.toNat, 0]

def k0_chk24 (v946 : BitVec 32) : Prop :=
  (∀ a, (k0_off105 v946) a + S1024x1024.size a ≤ S32768x1024.size a) ∧
  (∀ (hinb : ∀ a, (k0_off105 v946) a + S1024x1024.size a ≤ S32768x1024.size a), (Rect.unit (s := S32768x1024) (k0_off105 v946) S1024x1024.size hinb).WholeWords (EltTy.packing .bf16)) ∧
  (∀ a, (k0_off122 v946) a + S1024x1024.size a ≤ S32768x1024.size a) ∧
  (∀ (hinb : ∀ a, (k0_off122 v946) a + S1024x1024.size a ≤ S32768x1024.size a), (Rect.unit (s := S32768x1024) (k0_off122 v946) S1024x1024.size hinb).WholeWords (EltTy.packing .bf16))
theorem k0_off105_inb : ∀ (v946 : BitVec 32) (k0_hw24 : k0_chk24 v946), ∀ a, (k0_off105 v946) a + S1024x1024.size a ≤ S32768x1024.size a := fun v946 k0_hw24 => k0_hw24.1
theorem k0_off105_wordsbf16 : ∀ (v946 : BitVec 32) (k0_hw24 : k0_chk24 v946), (Rect.unit (s := S32768x1024) (k0_off105 v946) S1024x1024.size (k0_off105_inb v946 k0_hw24)).WholeWords (EltTy.packing .bf16) := fun v946 k0_hw24 => k0_hw24.2.1 (k0_off105_inb v946 k0_hw24)
theorem k0_off122_inb : ∀ (v946 : BitVec 32) (k0_hw24 : k0_chk24 v946), ∀ a, (k0_off122 v946) a + S1024x1024.size a ≤ S32768x1024.size a := fun v946 k0_hw24 => k0_hw24.2.2.1
theorem k0_off122_wordsbf16 : ∀ (v946 : BitVec 32) (k0_hw24 : k0_chk24 v946), (Rect.unit (s := S32768x1024) (k0_off122 v946) S1024x1024.size (k0_off122_inb v946 k0_hw24)).WholeWords (EltTy.packing .bf16) := fun v946 k0_hw24 => k0_hw24.2.2.2 (k0_off122_inb v946 k0_hw24)

def k0_off123 (v4 : BitVec 32) : Fin 3 → Nat :=
  let c44_i32 : BitVec 32 := 44#32
  let v1053 : BitVec 32 := Scalar.addi v4 c44_i32
  let c32_i32_808 : BitVec 32 := 32#32
  let v1054 : BitVec 32 := Scalar.remsi v1053 c32_i32_808
  let v1115 : Index := Scalar.indexCast v1054
  let c0_858 : Index := 0#32
  let c0_859 : Index := 0#32
  ![v1115.toNat, 0, 0]
def k0_off124 (v4 : BitVec 32) : Fin 1 → Nat :=
  let c44_i32 : BitVec 32 := 44#32
  let v1053 : BitVec 32 := Scalar.addi v4 c44_i32
  let c32_i32_808 : BitVec 32 := 32#32
  let v1054 : BitVec 32 := Scalar.remsi v1053 c32_i32_808
  let v1125 : Index := Scalar.indexCast v1054
  ![v1125.toNat]
def k0_off125 (v1126 : BitVec 32) : Fin 2 → Nat :=
  let c1024_i32_866 : BitVec 32 := 1024#32
  let v1127 : BitVec 32 := Scalar.muli v1126 c1024_i32_866
  let c0_i32_869 : BitVec 32 := 0#32
  ![v1127.toNat, 0]

def k0_off126 (v4 : BitVec 32) (c19_i32_872 : BitVec 32) : Fin 1 → Nat :=
  let v1133 : BitVec 32 := Scalar.addi v4 c19_i32_872
  let c32_i32_873 : BitVec 32 := 32#32
  let v1134 : BitVec 32 := Scalar.remsi v1133 c32_i32_873
  ![v1134.toNat]
def k0_off127 (v4 : BitVec 32) (c19_i32_872 : BitVec 32) : Fin 3 → Nat :=
  let v1133 : BitVec 32 := Scalar.addi v4 c19_i32_872
  let c32_i32_873 : BitVec 32 := 32#32
  let v1134 : BitVec 32 := Scalar.remsi v1133 c32_i32_873
  let c0_i32_877 : BitVec 32 := 0#32
  let c0_i32_878 : BitVec 32 := 0#32
  ![v1134.toNat, 0, 0]
def k0_dev29 (v8 : BitVec 32) : Nat :=
  let c0_i32_893 : BitVec 32 := 0#32
  let c1_i32_892 : BitVec 32 := 1#32
  let v1155 : BitVec 32 := Scalar.muli v8 c1_i32_892
  let v1156 : BitVec 32 := Scalar.addi c0_i32_893 v1155
  v1156.toNat
def k0_dev30 (v13 : BitVec 32) : Nat :=
  let c0_i32_902 : BitVec 32 := 0#32
  let c1_i32_901 : BitVec 32 := 1#32
  let v1167 : BitVec 32 := Scalar.muli v13 c1_i32_901
  let v1168 : BitVec 32 := Scalar.addi c0_i32_902 v1167
  v1168.toNat
def k0_off128 (v1013 : BitVec 32) : Fin 2 → Nat :=
  let c1024_i32_774 : BitVec 32 := 1024#32
  let v1014 : BitVec 32 := Scalar.muli v1013 c1024_i32_774
  let c0_i32_909 : BitVec 32 := 0#32
  ![v1014.toNat, 0]

def k0_chk25 (v1013 : BitVec 32) : Prop :=
  (∀ a, (k0_off111 v1013) a + S1024x1024.size a ≤ S32768x1024.size a) ∧
  (∀ (hinb : ∀ a, (k0_off111 v1013) a + S1024x1024.size a ≤ S32768x1024.size a), (Rect.unit (s := S32768x1024) (k0_off111 v1013) S1024x1024.size hinb).WholeWords (EltTy.packing .bf16)) ∧
  (∀ a, (k0_off128 v1013) a + S1024x1024.size a ≤ S32768x1024.size a) ∧
  (∀ (hinb : ∀ a, (k0_off128 v1013) a + S1024x1024.size a ≤ S32768x1024.size a), (Rect.unit (s := S32768x1024) (k0_off128 v1013) S1024x1024.size hinb).WholeWords (EltTy.packing .bf16))
theorem k0_off111_inb : ∀ (v1013 : BitVec 32) (k0_hw25 : k0_chk25 v1013), ∀ a, (k0_off111 v1013) a + S1024x1024.size a ≤ S32768x1024.size a := fun v1013 k0_hw25 => k0_hw25.1
theorem k0_off111_wordsbf16 : ∀ (v1013 : BitVec 32) (k0_hw25 : k0_chk25 v1013), (Rect.unit (s := S32768x1024) (k0_off111 v1013) S1024x1024.size (k0_off111_inb v1013 k0_hw25)).WholeWords (EltTy.packing .bf16) := fun v1013 k0_hw25 => k0_hw25.2.1 (k0_off111_inb v1013 k0_hw25)
theorem k0_off128_inb : ∀ (v1013 : BitVec 32) (k0_hw25 : k0_chk25 v1013), ∀ a, (k0_off128 v1013) a + S1024x1024.size a ≤ S32768x1024.size a := fun v1013 k0_hw25 => k0_hw25.2.2.1
theorem k0_off128_wordsbf16 : ∀ (v1013 : BitVec 32) (k0_hw25 : k0_chk25 v1013), (Rect.unit (s := S32768x1024) (k0_off128 v1013) S1024x1024.size (k0_off128_inb v1013 k0_hw25)).WholeWords (EltTy.packing .bf16) := fun v1013 k0_hw25 => k0_hw25.2.2.2 (k0_off128_inb v1013 k0_hw25)

def k0_off129 (v4 : BitVec 32) : Fin 3 → Nat :=
  let c19_i32_872 : BitVec 32 := 19#32
  let v1133 : BitVec 32 := Scalar.addi v4 c19_i32_872
  let c32_i32_873 : BitVec 32 := 32#32
  let v1134 : BitVec 32 := Scalar.remsi v1133 c32_i32_873
  let v1182 : Index := Scalar.indexCast v1134
  let c0_912 : Index := 0#32
  let c0_913 : Index := 0#32
  ![v1182.toNat, 0, 0]
def k0_off130 (v4 : BitVec 32) : Fin 1 → Nat :=
  let c19_i32_872 : BitVec 32 := 19#32
  let v1133 : BitVec 32 := Scalar.addi v4 c19_i32_872
  let c32_i32_873 : BitVec 32 := 32#32
  let v1134 : BitVec 32 := Scalar.remsi v1133 c32_i32_873
  let v1192 : Index := Scalar.indexCast v1134
  ![v1192.toNat]
def k0_off131 (v1193 : BitVec 32) : Fin 2 → Nat :=
  let c1024_i32_920 : BitVec 32 := 1024#32
  let v1194 : BitVec 32 := Scalar.muli v1193 c1024_i32_920
  let c0_i32_923 : BitVec 32 := 0#32
  ![v1194.toNat, 0]

def k0_off132 (v1036 : BitVec 32) : Fin 2 → Nat :=
  let c1024_i32_793 : BitVec 32 := 1024#32
  let v1037 : BitVec 32 := Scalar.muli v1036 c1024_i32_793
  let c0_i32_928 : BitVec 32 := 0#32
  ![v1037.toNat, 0]

def k0_chk26 (v1036 : BitVec 32) : Prop :=
  (∀ a, (k0_off115 v1036) a + S1024x1024.size a ≤ S32768x1024.size a) ∧
  (∀ (hinb : ∀ a, (k0_off115 v1036) a + S1024x1024.size a ≤ S32768x1024.size a), (Rect.unit (s := S32768x1024) (k0_off115 v1036) S1024x1024.size hinb).WholeWords (EltTy.packing .bf16)) ∧
  (∀ a, (k0_off132 v1036) a + S1024x1024.size a ≤ S32768x1024.size a) ∧
  (∀ (hinb : ∀ a, (k0_off132 v1036) a + S1024x1024.size a ≤ S32768x1024.size a), (Rect.unit (s := S32768x1024) (k0_off132 v1036) S1024x1024.size hinb).WholeWords (EltTy.packing .bf16))
theorem k0_off115_inb : ∀ (v1036 : BitVec 32) (k0_hw26 : k0_chk26 v1036), ∀ a, (k0_off115 v1036) a + S1024x1024.size a ≤ S32768x1024.size a := fun v1036 k0_hw26 => k0_hw26.1
theorem k0_off115_wordsbf16 : ∀ (v1036 : BitVec 32) (k0_hw26 : k0_chk26 v1036), (Rect.unit (s := S32768x1024) (k0_off115 v1036) S1024x1024.size (k0_off115_inb v1036 k0_hw26)).WholeWords (EltTy.packing .bf16) := fun v1036 k0_hw26 => k0_hw26.2.1 (k0_off115_inb v1036 k0_hw26)
theorem k0_off132_inb : ∀ (v1036 : BitVec 32) (k0_hw26 : k0_chk26 v1036), ∀ a, (k0_off132 v1036) a + S1024x1024.size a ≤ S32768x1024.size a := fun v1036 k0_hw26 => k0_hw26.2.2.1
theorem k0_off132_wordsbf16 : ∀ (v1036 : BitVec 32) (k0_hw26 : k0_chk26 v1036), (Rect.unit (s := S32768x1024) (k0_off132 v1036) S1024x1024.size (k0_off132_inb v1036 k0_hw26)).WholeWords (EltTy.packing .bf16) := fun v1036 k0_hw26 => k0_hw26.2.2.2 (k0_off132_inb v1036 k0_hw26)

def k0_off133 (v4 : BitVec 32) : Fin 3 → Nat :=
  let c45_i32 : BitVec 32 := 45#32
  let v1143 : BitVec 32 := Scalar.addi v4 c45_i32
  let c32_i32_881 : BitVec 32 := 32#32
  let v1144 : BitVec 32 := Scalar.remsi v1143 c32_i32_881
  let v1205 : Index := Scalar.indexCast v1144
  let c0_931 : Index := 0#32
  let c0_932 : Index := 0#32
  ![v1205.toNat, 0, 0]
def k0_off134 (v4 : BitVec 32) : Fin 1 → Nat :=
  let c45_i32 : BitVec 32 := 45#32
  let v1143 : BitVec 32 := Scalar.addi v4 c45_i32
  let c32_i32_881 : BitVec 32 := 32#32
  let v1144 : BitVec 32 := Scalar.remsi v1143 c32_i32_881
  let v1215 : Index := Scalar.indexCast v1144
  ![v1215.toNat]
def k0_off135 (v1216 : BitVec 32) : Fin 2 → Nat :=
  let c1024_i32_939 : BitVec 32 := 1024#32
  let v1217 : BitVec 32 := Scalar.muli v1216 c1024_i32_939
  let c0_i32_942 : BitVec 32 := 0#32
  ![v1217.toNat, 0]

def k0_off136 (v4 : BitVec 32) (c18_i32_945 : BitVec 32) : Fin 1 → Nat :=
  let v1223 : BitVec 32 := Scalar.addi v4 c18_i32_945
  let c32_i32_946 : BitVec 32 := 32#32
  let v1224 : BitVec 32 := Scalar.remsi v1223 c32_i32_946
  ![v1224.toNat]
def k0_off137 (v4 : BitVec 32) (c18_i32_945 : BitVec 32) : Fin 3 → Nat :=
  let v1223 : BitVec 32 := Scalar.addi v4 c18_i32_945
  let c32_i32_946 : BitVec 32 := 32#32
  let v1224 : BitVec 32 := Scalar.remsi v1223 c32_i32_946
  let c0_i32_950 : BitVec 32 := 0#32
  let c0_i32_951 : BitVec 32 := 0#32
  ![v1224.toNat, 0, 0]
def k0_dev31 (v8 : BitVec 32) : Nat :=
  let c0_i32_966 : BitVec 32 := 0#32
  let c1_i32_965 : BitVec 32 := 1#32
  let v1245 : BitVec 32 := Scalar.muli v8 c1_i32_965
  let v1246 : BitVec 32 := Scalar.addi c0_i32_966 v1245
  v1246.toNat
def k0_dev32 (v13 : BitVec 32) : Nat :=
  let c0_i32_975 : BitVec 32 := 0#32
  let c1_i32_974 : BitVec 32 := 1#32
  let v1257 : BitVec 32 := Scalar.muli v13 c1_i32_974
  let v1258 : BitVec 32 := Scalar.addi c0_i32_975 v1257
  v1258.toNat

def k0_chk2 (v13 : BitVec 32) : Prop :=
  ((k0_dev1 v13) < nD) ∧
  ((k0_dev4 v13) < nD) ∧
  ((k0_dev6 v13) < nD) ∧
  ((k0_dev8 v13) < nD) ∧
  ((k0_dev10 v13) < nD) ∧
  ((k0_dev12 v13) < nD) ∧
  ((k0_dev14 v13) < nD) ∧
  ((k0_dev16 v13) < nD) ∧
  ((k0_dev18 v13) < nD) ∧
  ((k0_dev20 v13) < nD) ∧
  ((k0_dev22 v13) < nD) ∧
  ((k0_dev24 v13) < nD) ∧
  ((k0_dev26 v13) < nD) ∧
  ((k0_dev28 v13) < nD) ∧
  ((k0_dev30 v13) < nD) ∧
  ((k0_dev32 v13) < nD)
theorem k0_dev1_lt : ∀ (v13 : BitVec 32) (k0_hw2 : k0_chk2 v13), (k0_dev1 v13) < nD := fun v13 k0_hw2 => k0_hw2.1
theorem k0_dev4_lt : ∀ (v13 : BitVec 32) (k0_hw2 : k0_chk2 v13), (k0_dev4 v13) < nD := fun v13 k0_hw2 => k0_hw2.2.1
theorem k0_dev6_lt : ∀ (v13 : BitVec 32) (k0_hw2 : k0_chk2 v13), (k0_dev6 v13) < nD := fun v13 k0_hw2 => k0_hw2.2.2.1
theorem k0_dev8_lt : ∀ (v13 : BitVec 32) (k0_hw2 : k0_chk2 v13), (k0_dev8 v13) < nD := fun v13 k0_hw2 => k0_hw2.2.2.2.1
theorem k0_dev10_lt : ∀ (v13 : BitVec 32) (k0_hw2 : k0_chk2 v13), (k0_dev10 v13) < nD := fun v13 k0_hw2 => k0_hw2.2.2.2.2.1
theorem k0_dev12_lt : ∀ (v13 : BitVec 32) (k0_hw2 : k0_chk2 v13), (k0_dev12 v13) < nD := fun v13 k0_hw2 => k0_hw2.2.2.2.2.2.1
theorem k0_dev14_lt : ∀ (v13 : BitVec 32) (k0_hw2 : k0_chk2 v13), (k0_dev14 v13) < nD := fun v13 k0_hw2 => k0_hw2.2.2.2.2.2.2.1
theorem k0_dev16_lt : ∀ (v13 : BitVec 32) (k0_hw2 : k0_chk2 v13), (k0_dev16 v13) < nD := fun v13 k0_hw2 => k0_hw2.2.2.2.2.2.2.2.1
theorem k0_dev18_lt : ∀ (v13 : BitVec 32) (k0_hw2 : k0_chk2 v13), (k0_dev18 v13) < nD := fun v13 k0_hw2 => k0_hw2.2.2.2.2.2.2.2.2.1
theorem k0_dev20_lt : ∀ (v13 : BitVec 32) (k0_hw2 : k0_chk2 v13), (k0_dev20 v13) < nD := fun v13 k0_hw2 => k0_hw2.2.2.2.2.2.2.2.2.2.1
theorem k0_dev22_lt : ∀ (v13 : BitVec 32) (k0_hw2 : k0_chk2 v13), (k0_dev22 v13) < nD := fun v13 k0_hw2 => k0_hw2.2.2.2.2.2.2.2.2.2.2.1
theorem k0_dev24_lt : ∀ (v13 : BitVec 32) (k0_hw2 : k0_chk2 v13), (k0_dev24 v13) < nD := fun v13 k0_hw2 => k0_hw2.2.2.2.2.2.2.2.2.2.2.2.1
theorem k0_dev26_lt : ∀ (v13 : BitVec 32) (k0_hw2 : k0_chk2 v13), (k0_dev26 v13) < nD := fun v13 k0_hw2 => k0_hw2.2.2.2.2.2.2.2.2.2.2.2.2.1
theorem k0_dev28_lt : ∀ (v13 : BitVec 32) (k0_hw2 : k0_chk2 v13), (k0_dev28 v13) < nD := fun v13 k0_hw2 => k0_hw2.2.2.2.2.2.2.2.2.2.2.2.2.2.1
theorem k0_dev30_lt : ∀ (v13 : BitVec 32) (k0_hw2 : k0_chk2 v13), (k0_dev30 v13) < nD := fun v13 k0_hw2 => k0_hw2.2.2.2.2.2.2.2.2.2.2.2.2.2.2.1
theorem k0_dev32_lt : ∀ (v13 : BitVec 32) (k0_hw2 : k0_chk2 v13), (k0_dev32 v13) < nD := fun v13 k0_hw2 => k0_hw2.2.2.2.2.2.2.2.2.2.2.2.2.2.2.2

def k0_off138 (v1103 : BitVec 32) : Fin 2 → Nat :=
  let c1024_i32_847 : BitVec 32 := 1024#32
  let v1104 : BitVec 32 := Scalar.muli v1103 c1024_i32_847
  let c0_i32_982 : BitVec 32 := 0#32
  ![v1104.toNat, 0]

def k0_chk27 (v1103 : BitVec 32) : Prop :=
  (∀ a, (k0_off121 v1103) a + S1024x1024.size a ≤ S32768x1024.size a) ∧
  (∀ (hinb : ∀ a, (k0_off121 v1103) a + S1024x1024.size a ≤ S32768x1024.size a), (Rect.unit (s := S32768x1024) (k0_off121 v1103) S1024x1024.size hinb).WholeWords (EltTy.packing .bf16)) ∧
  (∀ a, (k0_off138 v1103) a + S1024x1024.size a ≤ S32768x1024.size a) ∧
  (∀ (hinb : ∀ a, (k0_off138 v1103) a + S1024x1024.size a ≤ S32768x1024.size a), (Rect.unit (s := S32768x1024) (k0_off138 v1103) S1024x1024.size hinb).WholeWords (EltTy.packing .bf16))
theorem k0_off121_inb : ∀ (v1103 : BitVec 32) (k0_hw27 : k0_chk27 v1103), ∀ a, (k0_off121 v1103) a + S1024x1024.size a ≤ S32768x1024.size a := fun v1103 k0_hw27 => k0_hw27.1
theorem k0_off121_wordsbf16 : ∀ (v1103 : BitVec 32) (k0_hw27 : k0_chk27 v1103), (Rect.unit (s := S32768x1024) (k0_off121 v1103) S1024x1024.size (k0_off121_inb v1103 k0_hw27)).WholeWords (EltTy.packing .bf16) := fun v1103 k0_hw27 => k0_hw27.2.1 (k0_off121_inb v1103 k0_hw27)
theorem k0_off138_inb : ∀ (v1103 : BitVec 32) (k0_hw27 : k0_chk27 v1103), ∀ a, (k0_off138 v1103) a + S1024x1024.size a ≤ S32768x1024.size a := fun v1103 k0_hw27 => k0_hw27.2.2.1
theorem k0_off138_wordsbf16 : ∀ (v1103 : BitVec 32) (k0_hw27 : k0_chk27 v1103), (Rect.unit (s := S32768x1024) (k0_off138 v1103) S1024x1024.size (k0_off138_inb v1103 k0_hw27)).WholeWords (EltTy.packing .bf16) := fun v1103 k0_hw27 => k0_hw27.2.2.2 (k0_off138_inb v1103 k0_hw27)

def k0_off139 (v4 : BitVec 32) : Fin 3 → Nat :=
  let c18_i32_945 : BitVec 32 := 18#32
  let v1223 : BitVec 32 := Scalar.addi v4 c18_i32_945
  let c32_i32_946 : BitVec 32 := 32#32
  let v1224 : BitVec 32 := Scalar.remsi v1223 c32_i32_946
  let v1272 : Index := Scalar.indexCast v1224
  let c0_985 : Index := 0#32
  let c0_986 : Index := 0#32
  ![v1272.toNat, 0, 0]
def k0_off140 (v4 : BitVec 32) : Fin 1 → Nat :=
  let c18_i32_945 : BitVec 32 := 18#32
  let v1223 : BitVec 32 := Scalar.addi v4 c18_i32_945
  let c32_i32_946 : BitVec 32 := 32#32
  let v1224 : BitVec 32 := Scalar.remsi v1223 c32_i32_946
  let v1282 : Index := Scalar.indexCast v1224
  ![v1282.toNat]
def k0_off141 (v1283 : BitVec 32) : Fin 2 → Nat :=
  let c1024_i32_993 : BitVec 32 := 1024#32
  let v1284 : BitVec 32 := Scalar.muli v1283 c1024_i32_993
  let c0_i32_996 : BitVec 32 := 0#32
  ![v1284.toNat, 0]

def k0_off142 (v1126 : BitVec 32) : Fin 2 → Nat :=
  let c1024_i32_866 : BitVec 32 := 1024#32
  let v1127 : BitVec 32 := Scalar.muli v1126 c1024_i32_866
  let c0_i32_1001 : BitVec 32 := 0#32
  ![v1127.toNat, 0]

def k0_chk28 (v1126 : BitVec 32) : Prop :=
  (∀ a, (k0_off125 v1126) a + S1024x1024.size a ≤ S32768x1024.size a) ∧
  (∀ (hinb : ∀ a, (k0_off125 v1126) a + S1024x1024.size a ≤ S32768x1024.size a), (Rect.unit (s := S32768x1024) (k0_off125 v1126) S1024x1024.size hinb).WholeWords (EltTy.packing .bf16)) ∧
  (∀ a, (k0_off142 v1126) a + S1024x1024.size a ≤ S32768x1024.size a) ∧
  (∀ (hinb : ∀ a, (k0_off142 v1126) a + S1024x1024.size a ≤ S32768x1024.size a), (Rect.unit (s := S32768x1024) (k0_off142 v1126) S1024x1024.size hinb).WholeWords (EltTy.packing .bf16))
theorem k0_off125_inb : ∀ (v1126 : BitVec 32) (k0_hw28 : k0_chk28 v1126), ∀ a, (k0_off125 v1126) a + S1024x1024.size a ≤ S32768x1024.size a := fun v1126 k0_hw28 => k0_hw28.1
theorem k0_off125_wordsbf16 : ∀ (v1126 : BitVec 32) (k0_hw28 : k0_chk28 v1126), (Rect.unit (s := S32768x1024) (k0_off125 v1126) S1024x1024.size (k0_off125_inb v1126 k0_hw28)).WholeWords (EltTy.packing .bf16) := fun v1126 k0_hw28 => k0_hw28.2.1 (k0_off125_inb v1126 k0_hw28)
theorem k0_off142_inb : ∀ (v1126 : BitVec 32) (k0_hw28 : k0_chk28 v1126), ∀ a, (k0_off142 v1126) a + S1024x1024.size a ≤ S32768x1024.size a := fun v1126 k0_hw28 => k0_hw28.2.2.1
theorem k0_off142_wordsbf16 : ∀ (v1126 : BitVec 32) (k0_hw28 : k0_chk28 v1126), (Rect.unit (s := S32768x1024) (k0_off142 v1126) S1024x1024.size (k0_off142_inb v1126 k0_hw28)).WholeWords (EltTy.packing .bf16) := fun v1126 k0_hw28 => k0_hw28.2.2.2 (k0_off142_inb v1126 k0_hw28)

def k0_off143 (v4 : BitVec 32) : Fin 3 → Nat :=
  let c46_i32 : BitVec 32 := 46#32
  let v1233 : BitVec 32 := Scalar.addi v4 c46_i32
  let c32_i32_954 : BitVec 32 := 32#32
  let v1234 : BitVec 32 := Scalar.remsi v1233 c32_i32_954
  let v1295 : Index := Scalar.indexCast v1234
  let c0_1004 : Index := 0#32
  let c0_1005 : Index := 0#32
  ![v1295.toNat, 0, 0]
def k0_off144 (v4 : BitVec 32) : Fin 1 → Nat :=
  let c46_i32 : BitVec 32 := 46#32
  let v1233 : BitVec 32 := Scalar.addi v4 c46_i32
  let c32_i32_954 : BitVec 32 := 32#32
  let v1234 : BitVec 32 := Scalar.remsi v1233 c32_i32_954
  let v1305 : Index := Scalar.indexCast v1234
  ![v1305.toNat]
def k0_off145 (v1306 : BitVec 32) : Fin 2 → Nat :=
  let c1024_i32_1012 : BitVec 32 := 1024#32
  let v1307 : BitVec 32 := Scalar.muli v1306 c1024_i32_1012
  let c0_i32_1015 : BitVec 32 := 0#32
  ![v1307.toNat, 0]

def k0_off146 (v4 : BitVec 32) (c17_i32_1018 : BitVec 32) : Fin 1 → Nat :=
  let v1313 : BitVec 32 := Scalar.addi v4 c17_i32_1018
  let c32_i32_1019 : BitVec 32 := 32#32
  let v1314 : BitVec 32 := Scalar.remsi v1313 c32_i32_1019
  ![v1314.toNat]
def k0_off147 (v4 : BitVec 32) (c17_i32_1018 : BitVec 32) : Fin 3 → Nat :=
  let v1313 : BitVec 32 := Scalar.addi v4 c17_i32_1018
  let c32_i32_1019 : BitVec 32 := 32#32
  let v1314 : BitVec 32 := Scalar.remsi v1313 c32_i32_1019
  let c0_i32_1023 : BitVec 32 := 0#32
  let c0_i32_1024 : BitVec 32 := 0#32
  ![v1314.toNat, 0, 0]
def k0_dev33 (v8 : BitVec 32) : Nat :=
  let c0_i32_1039 : BitVec 32 := 0#32
  let c1_i32_1038 : BitVec 32 := 1#32
  let v1335 : BitVec 32 := Scalar.muli v8 c1_i32_1038
  let v1336 : BitVec 32 := Scalar.addi c0_i32_1039 v1335
  v1336.toNat

def k0_chk3 (v8 : BitVec 32) : Prop :=
  ((k0_dev2 v8) < nD) ∧
  ((k0_dev3 v8) < nD) ∧
  ((k0_dev5 v8) < nD) ∧
  ((k0_dev7 v8) < nD) ∧
  ((k0_dev9 v8) < nD) ∧
  ((k0_dev11 v8) < nD) ∧
  ((k0_dev13 v8) < nD) ∧
  ((k0_dev15 v8) < nD) ∧
  ((k0_dev17 v8) < nD) ∧
  ((k0_dev19 v8) < nD) ∧
  ((k0_dev21 v8) < nD) ∧
  ((k0_dev23 v8) < nD) ∧
  ((k0_dev25 v8) < nD) ∧
  ((k0_dev27 v8) < nD) ∧
  ((k0_dev29 v8) < nD) ∧
  ((k0_dev31 v8) < nD) ∧
  ((k0_dev33 v8) < nD)
theorem k0_dev2_lt : ∀ (v8 : BitVec 32) (k0_hw3 : k0_chk3 v8), (k0_dev2 v8) < nD := fun v8 k0_hw3 => k0_hw3.1
theorem k0_dev3_lt : ∀ (v8 : BitVec 32) (k0_hw3 : k0_chk3 v8), (k0_dev3 v8) < nD := fun v8 k0_hw3 => k0_hw3.2.1
theorem k0_dev5_lt : ∀ (v8 : BitVec 32) (k0_hw3 : k0_chk3 v8), (k0_dev5 v8) < nD := fun v8 k0_hw3 => k0_hw3.2.2.1
theorem k0_dev7_lt : ∀ (v8 : BitVec 32) (k0_hw3 : k0_chk3 v8), (k0_dev7 v8) < nD := fun v8 k0_hw3 => k0_hw3.2.2.2.1
theorem k0_dev9_lt : ∀ (v8 : BitVec 32) (k0_hw3 : k0_chk3 v8), (k0_dev9 v8) < nD := fun v8 k0_hw3 => k0_hw3.2.2.2.2.1
theorem k0_dev11_lt : ∀ (v8 : BitVec 32) (k0_hw3 : k0_chk3 v8), (k0_dev11 v8) < nD := fun v8 k0_hw3 => k0_hw3.2.2.2.2.2.1
theorem k0_dev13_lt : ∀ (v8 : BitVec 32) (k0_hw3 : k0_chk3 v8), (k0_dev13 v8) < nD := fun v8 k0_hw3 => k0_hw3.2.2.2.2.2.2.1
theorem k0_dev15_lt : ∀ (v8 : BitVec 32) (k0_hw3 : k0_chk3 v8), (k0_dev15 v8) < nD := fun v8 k0_hw3 => k0_hw3.2.2.2.2.2.2.2.1
theorem k0_dev17_lt : ∀ (v8 : BitVec 32) (k0_hw3 : k0_chk3 v8), (k0_dev17 v8) < nD := fun v8 k0_hw3 => k0_hw3.2.2.2.2.2.2.2.2.1
theorem k0_dev19_lt : ∀ (v8 : BitVec 32) (k0_hw3 : k0_chk3 v8), (k0_dev19 v8) < nD := fun v8 k0_hw3 => k0_hw3.2.2.2.2.2.2.2.2.2.1
theorem k0_dev21_lt : ∀ (v8 : BitVec 32) (k0_hw3 : k0_chk3 v8), (k0_dev21 v8) < nD := fun v8 k0_hw3 => k0_hw3.2.2.2.2.2.2.2.2.2.2.1
theorem k0_dev23_lt : ∀ (v8 : BitVec 32) (k0_hw3 : k0_chk3 v8), (k0_dev23 v8) < nD := fun v8 k0_hw3 => k0_hw3.2.2.2.2.2.2.2.2.2.2.2.1
theorem k0_dev25_lt : ∀ (v8 : BitVec 32) (k0_hw3 : k0_chk3 v8), (k0_dev25 v8) < nD := fun v8 k0_hw3 => k0_hw3.2.2.2.2.2.2.2.2.2.2.2.2.1
theorem k0_dev27_lt : ∀ (v8 : BitVec 32) (k0_hw3 : k0_chk3 v8), (k0_dev27 v8) < nD := fun v8 k0_hw3 => k0_hw3.2.2.2.2.2.2.2.2.2.2.2.2.2.1
theorem k0_dev29_lt : ∀ (v8 : BitVec 32) (k0_hw3 : k0_chk3 v8), (k0_dev29 v8) < nD := fun v8 k0_hw3 => k0_hw3.2.2.2.2.2.2.2.2.2.2.2.2.2.2.1
theorem k0_dev31_lt : ∀ (v8 : BitVec 32) (k0_hw3 : k0_chk3 v8), (k0_dev31 v8) < nD := fun v8 k0_hw3 => k0_hw3.2.2.2.2.2.2.2.2.2.2.2.2.2.2.2.1
theorem k0_dev33_lt : ∀ (v8 : BitVec 32) (k0_hw3 : k0_chk3 v8), (k0_dev33 v8) < nD := fun v8 k0_hw3 => k0_hw3.2.2.2.2.2.2.2.2.2.2.2.2.2.2.2.2

def k0_off148 (v1193 : BitVec 32) : Fin 2 → Nat :=
  let c1024_i32_920 : BitVec 32 := 1024#32
  let v1194 : BitVec 32 := Scalar.muli v1193 c1024_i32_920
  let c0_i32_1046 : BitVec 32 := 0#32
  ![v1194.toNat, 0]

def k0_chk29 (v1193 : BitVec 32) : Prop :=
  (∀ a, (k0_off131 v1193) a + S1024x1024.size a ≤ S32768x1024.size a) ∧
  (∀ (hinb : ∀ a, (k0_off131 v1193) a + S1024x1024.size a ≤ S32768x1024.size a), (Rect.unit (s := S32768x1024) (k0_off131 v1193) S1024x1024.size hinb).WholeWords (EltTy.packing .bf16)) ∧
  (∀ a, (k0_off148 v1193) a + S1024x1024.size a ≤ S32768x1024.size a) ∧
  (∀ (hinb : ∀ a, (k0_off148 v1193) a + S1024x1024.size a ≤ S32768x1024.size a), (Rect.unit (s := S32768x1024) (k0_off148 v1193) S1024x1024.size hinb).WholeWords (EltTy.packing .bf16))
theorem k0_off131_inb : ∀ (v1193 : BitVec 32) (k0_hw29 : k0_chk29 v1193), ∀ a, (k0_off131 v1193) a + S1024x1024.size a ≤ S32768x1024.size a := fun v1193 k0_hw29 => k0_hw29.1
theorem k0_off131_wordsbf16 : ∀ (v1193 : BitVec 32) (k0_hw29 : k0_chk29 v1193), (Rect.unit (s := S32768x1024) (k0_off131 v1193) S1024x1024.size (k0_off131_inb v1193 k0_hw29)).WholeWords (EltTy.packing .bf16) := fun v1193 k0_hw29 => k0_hw29.2.1 (k0_off131_inb v1193 k0_hw29)
theorem k0_off148_inb : ∀ (v1193 : BitVec 32) (k0_hw29 : k0_chk29 v1193), ∀ a, (k0_off148 v1193) a + S1024x1024.size a ≤ S32768x1024.size a := fun v1193 k0_hw29 => k0_hw29.2.2.1
theorem k0_off148_wordsbf16 : ∀ (v1193 : BitVec 32) (k0_hw29 : k0_chk29 v1193), (Rect.unit (s := S32768x1024) (k0_off148 v1193) S1024x1024.size (k0_off148_inb v1193 k0_hw29)).WholeWords (EltTy.packing .bf16) := fun v1193 k0_hw29 => k0_hw29.2.2.2 (k0_off148_inb v1193 k0_hw29)

def k0_off149 (v4 : BitVec 32) : Fin 3 → Nat :=
  let c17_i32_1018 : BitVec 32 := 17#32
  let v1313 : BitVec 32 := Scalar.addi v4 c17_i32_1018
  let c32_i32_1019 : BitVec 32 := 32#32
  let v1314 : BitVec 32 := Scalar.remsi v1313 c32_i32_1019
  let v1350 : Index := Scalar.indexCast v1314
  let c0_1049 : Index := 0#32
  let c0_1050 : Index := 0#32
  ![v1350.toNat, 0, 0]
def k0_off150 (v4 : BitVec 32) : Fin 1 → Nat :=
  let c17_i32_1018 : BitVec 32 := 17#32
  let v1313 : BitVec 32 := Scalar.addi v4 c17_i32_1018
  let c32_i32_1019 : BitVec 32 := 32#32
  let v1314 : BitVec 32 := Scalar.remsi v1313 c32_i32_1019
  let v1360 : Index := Scalar.indexCast v1314
  ![v1360.toNat]
def k0_off151 (v1361 : BitVec 32) : Fin 2 → Nat :=
  let c1024_i32_1057 : BitVec 32 := 1024#32
  let v1362 : BitVec 32 := Scalar.muli v1361 c1024_i32_1057
  let c0_i32_1060 : BitVec 32 := 0#32
  ![v1362.toNat, 0]

def k0_off152 (v1216 : BitVec 32) : Fin 2 → Nat :=
  let c1024_i32_939 : BitVec 32 := 1024#32
  let v1217 : BitVec 32 := Scalar.muli v1216 c1024_i32_939
  let c0_i32_1065 : BitVec 32 := 0#32
  ![v1217.toNat, 0]

def k0_chk30 (v1216 : BitVec 32) : Prop :=
  (∀ a, (k0_off135 v1216) a + S1024x1024.size a ≤ S32768x1024.size a) ∧
  (∀ (hinb : ∀ a, (k0_off135 v1216) a + S1024x1024.size a ≤ S32768x1024.size a), (Rect.unit (s := S32768x1024) (k0_off135 v1216) S1024x1024.size hinb).WholeWords (EltTy.packing .bf16)) ∧
  (∀ a, (k0_off152 v1216) a + S1024x1024.size a ≤ S32768x1024.size a) ∧
  (∀ (hinb : ∀ a, (k0_off152 v1216) a + S1024x1024.size a ≤ S32768x1024.size a), (Rect.unit (s := S32768x1024) (k0_off152 v1216) S1024x1024.size hinb).WholeWords (EltTy.packing .bf16))
theorem k0_off135_inb : ∀ (v1216 : BitVec 32) (k0_hw30 : k0_chk30 v1216), ∀ a, (k0_off135 v1216) a + S1024x1024.size a ≤ S32768x1024.size a := fun v1216 k0_hw30 => k0_hw30.1
theorem k0_off135_wordsbf16 : ∀ (v1216 : BitVec 32) (k0_hw30 : k0_chk30 v1216), (Rect.unit (s := S32768x1024) (k0_off135 v1216) S1024x1024.size (k0_off135_inb v1216 k0_hw30)).WholeWords (EltTy.packing .bf16) := fun v1216 k0_hw30 => k0_hw30.2.1 (k0_off135_inb v1216 k0_hw30)
theorem k0_off152_inb : ∀ (v1216 : BitVec 32) (k0_hw30 : k0_chk30 v1216), ∀ a, (k0_off152 v1216) a + S1024x1024.size a ≤ S32768x1024.size a := fun v1216 k0_hw30 => k0_hw30.2.2.1
theorem k0_off152_wordsbf16 : ∀ (v1216 : BitVec 32) (k0_hw30 : k0_chk30 v1216), (Rect.unit (s := S32768x1024) (k0_off152 v1216) S1024x1024.size (k0_off152_inb v1216 k0_hw30)).WholeWords (EltTy.packing .bf16) := fun v1216 k0_hw30 => k0_hw30.2.2.2 (k0_off152_inb v1216 k0_hw30)

def k0_off153 (v4 : BitVec 32) : Fin 3 → Nat :=
  let c47_i32 : BitVec 32 := 47#32
  let v1323 : BitVec 32 := Scalar.addi v4 c47_i32
  let c32_i32_1027 : BitVec 32 := 32#32
  let v1324 : BitVec 32 := Scalar.remsi v1323 c32_i32_1027
  let v1373 : Index := Scalar.indexCast v1324
  let c0_1068 : Index := 0#32
  let c0_1069 : Index := 0#32
  ![v1373.toNat, 0, 0]
def k0_off154 (v4 : BitVec 32) : Fin 1 → Nat :=
  let c47_i32 : BitVec 32 := 47#32
  let v1323 : BitVec 32 := Scalar.addi v4 c47_i32
  let c32_i32_1027 : BitVec 32 := 32#32
  let v1324 : BitVec 32 := Scalar.remsi v1323 c32_i32_1027
  let v1383 : Index := Scalar.indexCast v1324
  ![v1383.toNat]
def k0_off155 (v1384 : BitVec 32) : Fin 2 → Nat :=
  let c1024_i32_1076 : BitVec 32 := 1024#32
  let v1385 : BitVec 32 := Scalar.muli v1384 c1024_i32_1076
  let c0_i32_1079 : BitVec 32 := 0#32
  ![v1385.toNat, 0]

def k0_off156 (v4 : BitVec 32) : Fin 1 → Nat :=
  let c16_i32_1082 : BitVec 32 := 16#32
  let v1391 : BitVec 32 := Scalar.addi v4 c16_i32_1082
  let c32_i32_1083 : BitVec 32 := 32#32
  let v1392 : BitVec 32 := Scalar.remsi v1391 c32_i32_1083
  ![v1392.toNat]
def k0_off157 (v4 : BitVec 32) : Fin 3 → Nat :=
  let c16_i32_1082 : BitVec 32 := 16#32
  let v1391 : BitVec 32 := Scalar.addi v4 c16_i32_1082
  let c32_i32_1083 : BitVec 32 := 32#32
  let v1392 : BitVec 32 := Scalar.remsi v1391 c32_i32_1083
  let c0_i32_1087 : BitVec 32 := 0#32
  let c0_i32_1088 : BitVec 32 := 0#32
  ![v1392.toNat, 0, 0]
def k0_off158 (v1283 : BitVec 32) : Fin 2 → Nat :=
  let c1024_i32_993 : BitVec 32 := 1024#32
  let v1284 : BitVec 32 := Scalar.muli v1283 c1024_i32_993
  let c0_i32_1093 : BitVec 32 := 0#32
  ![v1284.toNat, 0]

def k0_chk31 (v1283 : BitVec 32) : Prop :=
  (∀ a, (k0_off141 v1283) a + S1024x1024.size a ≤ S32768x1024.size a) ∧
  (∀ (hinb : ∀ a, (k0_off141 v1283) a + S1024x1024.size a ≤ S32768x1024.size a), (Rect.unit (s := S32768x1024) (k0_off141 v1283) S1024x1024.size hinb).WholeWords (EltTy.packing .bf16)) ∧
  (∀ a, (k0_off158 v1283) a + S1024x1024.size a ≤ S32768x1024.size a) ∧
  (∀ (hinb : ∀ a, (k0_off158 v1283) a + S1024x1024.size a ≤ S32768x1024.size a), (Rect.unit (s := S32768x1024) (k0_off158 v1283) S1024x1024.size hinb).WholeWords (EltTy.packing .bf16))
theorem k0_off141_inb : ∀ (v1283 : BitVec 32) (k0_hw31 : k0_chk31 v1283), ∀ a, (k0_off141 v1283) a + S1024x1024.size a ≤ S32768x1024.size a := fun v1283 k0_hw31 => k0_hw31.1
theorem k0_off141_wordsbf16 : ∀ (v1283 : BitVec 32) (k0_hw31 : k0_chk31 v1283), (Rect.unit (s := S32768x1024) (k0_off141 v1283) S1024x1024.size (k0_off141_inb v1283 k0_hw31)).WholeWords (EltTy.packing .bf16) := fun v1283 k0_hw31 => k0_hw31.2.1 (k0_off141_inb v1283 k0_hw31)
theorem k0_off158_inb : ∀ (v1283 : BitVec 32) (k0_hw31 : k0_chk31 v1283), ∀ a, (k0_off158 v1283) a + S1024x1024.size a ≤ S32768x1024.size a := fun v1283 k0_hw31 => k0_hw31.2.2.1
theorem k0_off158_wordsbf16 : ∀ (v1283 : BitVec 32) (k0_hw31 : k0_chk31 v1283), (Rect.unit (s := S32768x1024) (k0_off158 v1283) S1024x1024.size (k0_off158_inb v1283 k0_hw31)).WholeWords (EltTy.packing .bf16) := fun v1283 k0_hw31 => k0_hw31.2.2.2 (k0_off158_inb v1283 k0_hw31)

def k0_off159 (v4 : BitVec 32) : Fin 3 → Nat :=
  let c16_i32_1082 : BitVec 32 := 16#32
  let v1391 : BitVec 32 := Scalar.addi v4 c16_i32_1082
  let c32_i32_1083 : BitVec 32 := 32#32
  let v1392 : BitVec 32 := Scalar.remsi v1391 c32_i32_1083
  let v1406 : Index := Scalar.indexCast v1392
  let c0_1096 : Index := 0#32
  let c0_1097 : Index := 0#32
  ![v1406.toNat, 0, 0]
def k0_off160 (v4 : BitVec 32) : Fin 1 → Nat :=
  let c16_i32_1082 : BitVec 32 := 16#32
  let v1391 : BitVec 32 := Scalar.addi v4 c16_i32_1082
  let c32_i32_1083 : BitVec 32 := 32#32
  let v1392 : BitVec 32 := Scalar.remsi v1391 c32_i32_1083
  let v1416 : Index := Scalar.indexCast v1392
  ![v1416.toNat]
def k0_off161 (v1417 : BitVec 32) : Fin 2 → Nat :=
  let c1024_i32_1104 : BitVec 32 := 1024#32
  let v1418 : BitVec 32 := Scalar.muli v1417 c1024_i32_1104
  let c0_i32_1107 : BitVec 32 := 0#32
  ![v1418.toNat, 0]

def k0_chk35 (v1417 : BitVec 32) : Prop :=
  (∀ a, (k0_off161 v1417) a + S1024x1024.size a ≤ S32768x1024.size a) ∧
  (∀ (hinb : ∀ a, (k0_off161 v1417) a + S1024x1024.size a ≤ S32768x1024.size a), (Rect.unit (s := S32768x1024) (k0_off161 v1417) S1024x1024.size hinb).WholeWords (EltTy.packing .bf16))
theorem k0_off161_inb : ∀ (v1417 : BitVec 32) (k0_hw35 : k0_chk35 v1417), ∀ a, (k0_off161 v1417) a + S1024x1024.size a ≤ S32768x1024.size a := fun v1417 k0_hw35 => k0_hw35.1
theorem k0_off161_wordsbf16 : ∀ (v1417 : BitVec 32) (k0_hw35 : k0_chk35 v1417), (Rect.unit (s := S32768x1024) (k0_off161 v1417) S1024x1024.size (k0_off161_inb v1417 k0_hw35)).WholeWords (EltTy.packing .bf16) := fun v1417 k0_hw35 => k0_hw35.2 (k0_off161_inb v1417 k0_hw35)

def k0_off162 (v4 : BitVec 32) (c32_i32_13 : BitVec 32) : Fin 3 → Nat :=
  let v26 : BitVec 32 := Scalar.addi v4 c32_i32_13
  let c32_i32_14 : BitVec 32 := 32#32
  let v27 : BitVec 32 := Scalar.remsi v26 c32_i32_14
  let c0_i32_1112 : BitVec 32 := 0#32
  let c0_i32_1113 : BitVec 32 := 0#32
  ![v27.toNat, 0, 0]

def k0_chk1_0 (v4 : BitVec 32) : Prop :=
  (∀ a, (k0_off2 v4) a + S1.size a ≤ S32.size a) ∧
  (∀ a, (k0_off3 v4) a + S1.size a ≤ S32.size a) ∧
  (∀ a, (k0_off4 v4) a + S1x1024x512.size a ≤ S32x1024x512.size a) ∧
  (∀ (hinb : ∀ a, (k0_off4 v4) a + S1x1024x512.size a ≤ S32x1024x512.size a), (Rect.unit (s := S32x1024x512) (k0_off4 v4) S1x1024x512.size hinb).PackedRows (EltTy.packing .bf16)) ∧
  (∀ a, (k0_off5 v4) a + S1.size a ≤ S32.size a) ∧
  (∀ a, (k0_off6 v4) a + S1x1024x512.size a ≤ S32x1024x512.size a) ∧
  (∀ (hinb : ∀ a, (k0_off6 v4) a + S1x1024x512.size a ≤ S32x1024x512.size a), (Rect.unit (s := S32x1024x512) (k0_off6 v4) S1x1024x512.size hinb).WholeWords (EltTy.packing .bf16)) ∧
  (∀ a, (k0_off7 v4) a + S1.size a ≤ S32.size a) ∧
  (∀ (r : Fin 2), ∀ a, (k0_off9 v4 (BitVec.ofNat 32 (31 + 2 * r.val))) a + S1.size a ≤ S32.size a) ∧
  (∀ (r : Fin 2), ∀ a, (k0_off10 v4 (BitVec.ofNat 32 (31 + 2 * r.val))) a + S1x1024x512.size a ≤ S32x1024x512.size a) ∧
  (∀ (r : Fin 2), ∀ (hinb : ∀ a, (k0_off10 v4 (BitVec.ofNat 32 (31 + 2 * r.val))) a + S1x1024x512.size a ≤ S32x1024x512.size a), (Rect.unit (s := S32x1024x512) (k0_off10 v4 (BitVec.ofNat 32 (31 + 2 * r.val))) S1x1024x512.size hinb).WholeWords (EltTy.packing .bf16)) ∧
  (∀ a, (k0_off11 v4) a + S1x1024x512.size a ≤ S32x1024x512.size a) ∧
  (∀ a, (k0_off12 v4) a + S1.size a ≤ S32.size a) ∧
  (∀ a, (k0_off14 v4) a + S1x1024x512.size a ≤ S32x1024x512.size a) ∧
  (∀ a, (k0_off15 v4) a + S1.size a ≤ S32.size a) ∧
  (∀ (r : Fin 2), ∀ a, (k0_off17 v4 (BitVec.ofNat 32 (30 + 4 * r.val))) a + S1.size a ≤ S32.size a) ∧
  (∀ (r : Fin 2), ∀ a, (k0_off18 v4 (BitVec.ofNat 32 (30 + 4 * r.val))) a + S1x1024x512.size a ≤ S32x1024x512.size a) ∧
  (∀ (r : Fin 2), ∀ (hinb : ∀ a, (k0_off18 v4 (BitVec.ofNat 32 (30 + 4 * r.val))) a + S1x1024x512.size a ≤ S32x1024x512.size a), (Rect.unit (s := S32x1024x512) (k0_off18 v4 (BitVec.ofNat 32 (30 + 4 * r.val))) S1x1024x512.size hinb).WholeWords (EltTy.packing .bf16)) ∧
  (∀ a, (k0_off19 v4) a + S1x1024x512.size a ≤ S32x1024x512.size a) ∧
  (∀ a, (k0_off20 v4) a + S1.size a ≤ S32.size a) ∧
  (∀ a, (k0_off23 v4) a + S1x1024x512.size a ≤ S32x1024x512.size a) ∧
  (∀ a, (k0_off24 v4) a + S1.size a ≤ S32.size a) ∧
  (∀ (r : Fin 2), ∀ a, (k0_off26 v4 (BitVec.ofNat 32 (29 + 6 * r.val))) a + S1.size a ≤ S32.size a) ∧
  (∀ (r : Fin 2), ∀ a, (k0_off27 v4 (BitVec.ofNat 32 (29 + 6 * r.val))) a + S1x1024x512.size a ≤ S32x1024x512.size a) ∧
  (∀ (r : Fin 2), ∀ (hinb : ∀ a, (k0_off27 v4 (BitVec.ofNat 32 (29 + 6 * r.val))) a + S1x1024x512.size a ≤ S32x1024x512.size a), (Rect.unit (s := S32x1024x512) (k0_off27 v4 (BitVec.ofNat 32 (29 + 6 * r.val))) S1x1024x512.size hinb).WholeWords (EltTy.packing .bf16)) ∧
  (∀ a, (k0_off29 v4) a + S1x1024x512.size a ≤ S32x1024x512.size a) ∧
  (∀ a, (k0_off30 v4) a + S1.size a ≤ S32.size a) ∧
  (∀ a, (k0_off33 v4) a + S1x1024x512.size a ≤ S32x1024x512.size a) ∧
  (∀ a, (k0_off34 v4) a + S1.size a ≤ S32.size a) ∧
  (∀ (r : Fin 2), ∀ a, (k0_off36 v4 (BitVec.ofNat 32 (28 + 8 * r.val))) a + S1.size a ≤ S32.size a) ∧
  (∀ (r : Fin 2), ∀ a, (k0_off37 v4 (BitVec.ofNat 32 (28 + 8 * r.val))) a + S1x1024x512.size a ≤ S32x1024x512.size a) ∧
  (∀ (r : Fin 2), ∀ (hinb : ∀ a, (k0_off37 v4 (BitVec.ofNat 32 (28 + 8 * r.val))) a + S1x1024x512.size a ≤ S32x1024x512.size a), (Rect.unit (s := S32x1024x512) (k0_off37 v4 (BitVec.ofNat 32 (28 + 8 * r.val))) S1x1024x512.size hinb).WholeWords (EltTy.packing .bf16))
def k0_chk1_1 (v4 : BitVec 32) : Prop :=
  (∀ a, (k0_off39 v4) a + S1x1024x512.size a ≤ S32x1024x512.size a) ∧
  (∀ a, (k0_off40 v4) a + S1.size a ≤ S32.size a) ∧
  (∀ a, (k0_off43 v4) a + S1x1024x512.size a ≤ S32x1024x512.size a) ∧
  (∀ a, (k0_off44 v4) a + S1.size a ≤ S32.size a) ∧
  (∀ (r : Fin 2), ∀ a, (k0_off46 v4 (BitVec.ofNat 32 (27 + 10 * r.val))) a + S1.size a ≤ S32.size a) ∧
  (∀ (r : Fin 2), ∀ a, (k0_off47 v4 (BitVec.ofNat 32 (27 + 10 * r.val))) a + S1x1024x512.size a ≤ S32x1024x512.size a) ∧
  (∀ (r : Fin 2), ∀ (hinb : ∀ a, (k0_off47 v4 (BitVec.ofNat 32 (27 + 10 * r.val))) a + S1x1024x512.size a ≤ S32x1024x512.size a), (Rect.unit (s := S32x1024x512) (k0_off47 v4 (BitVec.ofNat 32 (27 + 10 * r.val))) S1x1024x512.size hinb).WholeWords (EltTy.packing .bf16)) ∧
  (∀ a, (k0_off49 v4) a + S1x1024x512.size a ≤ S32x1024x512.size a) ∧
  (∀ a, (k0_off50 v4) a + S1.size a ≤ S32.size a) ∧
  (∀ a, (k0_off53 v4) a + S1x1024x512.size a ≤ S32x1024x512.size a) ∧
  (∀ a, (k0_off54 v4) a + S1.size a ≤ S32.size a) ∧
  (∀ (r : Fin 2), ∀ a, (k0_off56 v4 (BitVec.ofNat 32 (26 + 12 * r.val))) a + S1.size a ≤ S32.size a) ∧
  (∀ (r : Fin 2), ∀ a, (k0_off57 v4 (BitVec.ofNat 32 (26 + 12 * r.val))) a + S1x1024x512.size a ≤ S32x1024x512.size a) ∧
  (∀ (r : Fin 2), ∀ (hinb : ∀ a, (k0_off57 v4 (BitVec.ofNat 32 (26 + 12 * r.val))) a + S1x1024x512.size a ≤ S32x1024x512.size a), (Rect.unit (s := S32x1024x512) (k0_off57 v4 (BitVec.ofNat 32 (26 + 12 * r.val))) S1x1024x512.size hinb).WholeWords (EltTy.packing .bf16)) ∧
  (∀ a, (k0_off59 v4) a + S1x1024x512.size a ≤ S32x1024x512.size a) ∧
  (∀ a, (k0_off60 v4) a + S1.size a ≤ S32.size a) ∧
  (∀ a, (k0_off63 v4) a + S1x1024x512.size a ≤ S32x1024x512.size a) ∧
  (∀ a, (k0_off64 v4) a + S1.size a ≤ S32.size a) ∧
  (∀ (r : Fin 2), ∀ a, (k0_off66 v4 (BitVec.ofNat 32 (25 + 14 * r.val))) a + S1.size a ≤ S32.size a) ∧
  (∀ (r : Fin 2), ∀ a, (k0_off67 v4 (BitVec.ofNat 32 (25 + 14 * r.val))) a + S1x1024x512.size a ≤ S32x1024x512.size a) ∧
  (∀ (r : Fin 2), ∀ (hinb : ∀ a, (k0_off67 v4 (BitVec.ofNat 32 (25 + 14 * r.val))) a + S1x1024x512.size a ≤ S32x1024x512.size a), (Rect.unit (s := S32x1024x512) (k0_off67 v4 (BitVec.ofNat 32 (25 + 14 * r.val))) S1x1024x512.size hinb).WholeWords (EltTy.packing .bf16)) ∧
  (∀ a, (k0_off69 v4) a + S1x1024x512.size a ≤ S32x1024x512.size a) ∧
  (∀ a, (k0_off70 v4) a + S1.size a ≤ S32.size a) ∧
  (∀ a, (k0_off73 v4) a + S1x1024x512.size a ≤ S32x1024x512.size a) ∧
  (∀ a, (k0_off74 v4) a + S1.size a ≤ S32.size a) ∧
  (∀ (r : Fin 2), ∀ a, (k0_off76 v4 (BitVec.ofNat 32 (24 + 16 * r.val))) a + S1.size a ≤ S32.size a) ∧
  (∀ (r : Fin 2), ∀ a, (k0_off77 v4 (BitVec.ofNat 32 (24 + 16 * r.val))) a + S1x1024x512.size a ≤ S32x1024x512.size a) ∧
  (∀ (r : Fin 2), ∀ (hinb : ∀ a, (k0_off77 v4 (BitVec.ofNat 32 (24 + 16 * r.val))) a + S1x1024x512.size a ≤ S32x1024x512.size a), (Rect.unit (s := S32x1024x512) (k0_off77 v4 (BitVec.ofNat 32 (24 + 16 * r.val))) S1x1024x512.size hinb).WholeWords (EltTy.packing .bf16)) ∧
  (∀ a, (k0_off79 v4) a + S1x1024x512.size a ≤ S32x1024x512.size a) ∧
  (∀ a, (k0_off80 v4) a + S1.size a ≤ S32.size a) ∧
  (∀ a, (k0_off83 v4) a + S1x1024x512.size a ≤ S32x1024x512.size a) ∧
  (∀ a, (k0_off84 v4) a + S1.size a ≤ S32.size a)
def k0_chk1_2 (v4 : BitVec 32) : Prop :=
  (∀ (r : Fin 2), ∀ a, (k0_off86 v4 (BitVec.ofNat 32 (23 + 18 * r.val))) a + S1.size a ≤ S32.size a) ∧
  (∀ (r : Fin 2), ∀ a, (k0_off87 v4 (BitVec.ofNat 32 (23 + 18 * r.val))) a + S1x1024x512.size a ≤ S32x1024x512.size a) ∧
  (∀ (r : Fin 2), ∀ (hinb : ∀ a, (k0_off87 v4 (BitVec.ofNat 32 (23 + 18 * r.val))) a + S1x1024x512.size a ≤ S32x1024x512.size a), (Rect.unit (s := S32x1024x512) (k0_off87 v4 (BitVec.ofNat 32 (23 + 18 * r.val))) S1x1024x512.size hinb).WholeWords (EltTy.packing .bf16)) ∧
  (∀ a, (k0_off89 v4) a + S1x1024x512.size a ≤ S32x1024x512.size a) ∧
  (∀ a, (k0_off90 v4) a + S1.size a ≤ S32.size a) ∧
  (∀ a, (k0_off93 v4) a + S1x1024x512.size a ≤ S32x1024x512.size a) ∧
  (∀ a, (k0_off94 v4) a + S1.size a ≤ S32.size a) ∧
  (∀ (r : Fin 2), ∀ a, (k0_off96 v4 (BitVec.ofNat 32 (22 + 20 * r.val))) a + S1.size a ≤ S32.size a) ∧
  (∀ (r : Fin 2), ∀ a, (k0_off97 v4 (BitVec.ofNat 32 (22 + 20 * r.val))) a + S1x1024x512.size a ≤ S32x1024x512.size a) ∧
  (∀ (r : Fin 2), ∀ (hinb : ∀ a, (k0_off97 v4 (BitVec.ofNat 32 (22 + 20 * r.val))) a + S1x1024x512.size a ≤ S32x1024x512.size a), (Rect.unit (s := S32x1024x512) (k0_off97 v4 (BitVec.ofNat 32 (22 + 20 * r.val))) S1x1024x512.size hinb).WholeWords (EltTy.packing .bf16)) ∧
  (∀ a, (k0_off99 v4) a + S1x1024x512.size a ≤ S32x1024x512.size a) ∧
  (∀ a, (k0_off100 v4) a + S1.size a ≤ S32.size a) ∧
  (∀ a, (k0_off103 v4) a + S1x1024x512.size a ≤ S32x1024x512.size a) ∧
  (∀ a, (k0_off104 v4) a + S1.size a ≤ S32.size a) ∧
  (∀ (r : Fin 2), ∀ a, (k0_off106 v4 (BitVec.ofNat 32 (21 + 22 * r.val))) a + S1.size a ≤ S32.size a) ∧
  (∀ (r : Fin 2), ∀ a, (k0_off107 v4 (BitVec.ofNat 32 (21 + 22 * r.val))) a + S1x1024x512.size a ≤ S32x1024x512.size a) ∧
  (∀ (r : Fin 2), ∀ (hinb : ∀ a, (k0_off107 v4 (BitVec.ofNat 32 (21 + 22 * r.val))) a + S1x1024x512.size a ≤ S32x1024x512.size a), (Rect.unit (s := S32x1024x512) (k0_off107 v4 (BitVec.ofNat 32 (21 + 22 * r.val))) S1x1024x512.size hinb).WholeWords (EltTy.packing .bf16)) ∧
  (∀ a, (k0_off109 v4) a + S1x1024x512.size a ≤ S32x1024x512.size a) ∧
  (∀ a, (k0_off110 v4) a + S1.size a ≤ S32.size a) ∧
  (∀ a, (k0_off113 v4) a + S1x1024x512.size a ≤ S32x1024x512.size a) ∧
  (∀ a, (k0_off114 v4) a + S1.size a ≤ S32.size a) ∧
  (∀ (r : Fin 2), ∀ a, (k0_off116 v4 (BitVec.ofNat 32 (20 + 24 * r.val))) a + S1.size a ≤ S32.size a) ∧
  (∀ (r : Fin 2), ∀ a, (k0_off117 v4 (BitVec.ofNat 32 (20 + 24 * r.val))) a + S1x1024x512.size a ≤ S32x1024x512.size a) ∧
  (∀ (r : Fin 2), ∀ (hinb : ∀ a, (k0_off117 v4 (BitVec.ofNat 32 (20 + 24 * r.val))) a + S1x1024x512.size a ≤ S32x1024x512.size a), (Rect.unit (s := S32x1024x512) (k0_off117 v4 (BitVec.ofNat 32 (20 + 24 * r.val))) S1x1024x512.size hinb).WholeWords (EltTy.packing .bf16)) ∧
  (∀ a, (k0_off119 v4) a + S1x1024x512.size a ≤ S32x1024x512.size a) ∧
  (∀ a, (k0_off120 v4) a + S1.size a ≤ S32.size a) ∧
  (∀ a, (k0_off123 v4) a + S1x1024x512.size a ≤ S32x1024x512.size a) ∧
  (∀ a, (k0_off124 v4) a + S1.size a ≤ S32.size a) ∧
  (∀ (r : Fin 2), ∀ a, (k0_off126 v4 (BitVec.ofNat 32 (19 + 26 * r.val))) a + S1.size a ≤ S32.size a) ∧
  (∀ (r : Fin 2), ∀ a, (k0_off127 v4 (BitVec.ofNat 32 (19 + 26 * r.val))) a + S1x1024x512.size a ≤ S32x1024x512.size a) ∧
  (∀ (r : Fin 2), ∀ (hinb : ∀ a, (k0_off127 v4 (BitVec.ofNat 32 (19 + 26 * r.val))) a + S1x1024x512.size a ≤ S32x1024x512.size a), (Rect.unit (s := S32x1024x512) (k0_off127 v4 (BitVec.ofNat 32 (19 + 26 * r.val))) S1x1024x512.size hinb).WholeWords (EltTy.packing .bf16)) ∧
  (∀ a, (k0_off129 v4) a + S1x1024x512.size a ≤ S32x1024x512.size a)
def k0_chk1_3 (v4 : BitVec 32) : Prop :=
  (∀ a, (k0_off130 v4) a + S1.size a ≤ S32.size a) ∧
  (∀ a, (k0_off133 v4) a + S1x1024x512.size a ≤ S32x1024x512.size a) ∧
  (∀ a, (k0_off134 v4) a + S1.size a ≤ S32.size a) ∧
  (∀ (r : Fin 2), ∀ a, (k0_off136 v4 (BitVec.ofNat 32 (18 + 28 * r.val))) a + S1.size a ≤ S32.size a) ∧
  (∀ (r : Fin 2), ∀ a, (k0_off137 v4 (BitVec.ofNat 32 (18 + 28 * r.val))) a + S1x1024x512.size a ≤ S32x1024x512.size a) ∧
  (∀ (r : Fin 2), ∀ (hinb : ∀ a, (k0_off137 v4 (BitVec.ofNat 32 (18 + 28 * r.val))) a + S1x1024x512.size a ≤ S32x1024x512.size a), (Rect.unit (s := S32x1024x512) (k0_off137 v4 (BitVec.ofNat 32 (18 + 28 * r.val))) S1x1024x512.size hinb).WholeWords (EltTy.packing .bf16)) ∧
  (∀ a, (k0_off139 v4) a + S1x1024x512.size a ≤ S32x1024x512.size a) ∧
  (∀ a, (k0_off140 v4) a + S1.size a ≤ S32.size a) ∧
  (∀ a, (k0_off143 v4) a + S1x1024x512.size a ≤ S32x1024x512.size a) ∧
  (∀ a, (k0_off144 v4) a + S1.size a ≤ S32.size a) ∧
  (∀ (r : Fin 2), ∀ a, (k0_off146 v4 (BitVec.ofNat 32 (17 + 30 * r.val))) a + S1.size a ≤ S32.size a) ∧
  (∀ (r : Fin 2), ∀ a, (k0_off147 v4 (BitVec.ofNat 32 (17 + 30 * r.val))) a + S1x1024x512.size a ≤ S32x1024x512.size a) ∧
  (∀ (r : Fin 2), ∀ (hinb : ∀ a, (k0_off147 v4 (BitVec.ofNat 32 (17 + 30 * r.val))) a + S1x1024x512.size a ≤ S32x1024x512.size a), (Rect.unit (s := S32x1024x512) (k0_off147 v4 (BitVec.ofNat 32 (17 + 30 * r.val))) S1x1024x512.size hinb).WholeWords (EltTy.packing .bf16)) ∧
  (∀ a, (k0_off149 v4) a + S1x1024x512.size a ≤ S32x1024x512.size a) ∧
  (∀ a, (k0_off150 v4) a + S1.size a ≤ S32.size a) ∧
  (∀ a, (k0_off153 v4) a + S1x1024x512.size a ≤ S32x1024x512.size a) ∧
  (∀ a, (k0_off154 v4) a + S1.size a ≤ S32.size a) ∧
  (∀ a, (k0_off156 v4) a + S1.size a ≤ S32.size a) ∧
  (∀ a, (k0_off157 v4) a + S1x1024x512.size a ≤ S32x1024x512.size a) ∧
  (∀ (hinb : ∀ a, (k0_off157 v4) a + S1x1024x512.size a ≤ S32x1024x512.size a), (Rect.unit (s := S32x1024x512) (k0_off157 v4) S1x1024x512.size hinb).WholeWords (EltTy.packing .bf16)) ∧
  (∀ a, (k0_off159 v4) a + S1x1024x512.size a ≤ S32x1024x512.size a) ∧
  (∀ a, (k0_off160 v4) a + S1.size a ≤ S32.size a) ∧
  (∀ (r : Fin 30), ∀ a, (k0_off162 v4 (BitVec.ofNat 32 (17 + r.val))) a + S1x1024x512.size a ≤ S32x1024x512.size a) ∧
  (∀ (r : Fin 30), ∀ (hinb : ∀ a, (k0_off162 v4 (BitVec.ofNat 32 (17 + r.val))) a + S1x1024x512.size a ≤ S32x1024x512.size a), (Rect.unit (s := S32x1024x512) (k0_off162 v4 (BitVec.ofNat 32 (17 + r.val))) S1x1024x512.size hinb).WholeWords (EltTy.packing .bf16))
def k0_chk1 (v4 : BitVec 32) : Prop :=
  k0_chk1_0 v4 ∧
  k0_chk1_1 v4 ∧
  k0_chk1_2 v4 ∧
  k0_chk1_3 v4
theorem k0_off2_inb : ∀ (v4 : BitVec 32) (k0_hw1 : k0_chk1 v4), ∀ a, (k0_off2 v4) a + S1.size a ≤ S32.size a := fun v4 k0_hw1 => k0_hw1.1.1
theorem k0_off3_inb : ∀ (v4 : BitVec 32) (k0_hw1 : k0_chk1 v4), ∀ a, (k0_off3 v4) a + S1.size a ≤ S32.size a := fun v4 k0_hw1 => k0_hw1.1.2.1
theorem k0_off4_inb : ∀ (v4 : BitVec 32) (k0_hw1 : k0_chk1 v4), ∀ a, (k0_off4 v4) a + S1x1024x512.size a ≤ S32x1024x512.size a := fun v4 k0_hw1 => k0_hw1.1.2.2.1
theorem k0_off4_packedbf16 : ∀ (v4 : BitVec 32) (k0_hw1 : k0_chk1 v4), (Rect.unit (s := S32x1024x512) (k0_off4 v4) S1x1024x512.size (k0_off4_inb v4 k0_hw1)).PackedRows (EltTy.packing .bf16) := fun v4 k0_hw1 => k0_hw1.1.2.2.2.1 (k0_off4_inb v4 k0_hw1)
theorem k0_off5_inb : ∀ (v4 : BitVec 32) (k0_hw1 : k0_chk1 v4), ∀ a, (k0_off5 v4) a + S1.size a ≤ S32.size a := fun v4 k0_hw1 => k0_hw1.1.2.2.2.2.1
theorem k0_off6_inb : ∀ (v4 : BitVec 32) (k0_hw1 : k0_chk1 v4), ∀ a, (k0_off6 v4) a + S1x1024x512.size a ≤ S32x1024x512.size a := fun v4 k0_hw1 => k0_hw1.1.2.2.2.2.2.1
theorem k0_off6_wordsbf16 : ∀ (v4 : BitVec 32) (k0_hw1 : k0_chk1 v4), (Rect.unit (s := S32x1024x512) (k0_off6 v4) S1x1024x512.size (k0_off6_inb v4 k0_hw1)).WholeWords (EltTy.packing .bf16) := fun v4 k0_hw1 => k0_hw1.1.2.2.2.2.2.2.1 (k0_off6_inb v4 k0_hw1)
theorem k0_off7_inb : ∀ (v4 : BitVec 32) (k0_hw1 : k0_chk1 v4), ∀ a, (k0_off7 v4) a + S1.size a ≤ S32.size a := fun v4 k0_hw1 => k0_hw1.1.2.2.2.2.2.2.2.1
theorem k0_off9_inb : ∀ (v4 : BitVec 32) (k0_hw1 : k0_chk1 v4), ∀ (r : Fin 2), ∀ a, (k0_off9 v4 (BitVec.ofNat 32 (31 + 2 * r.val))) a + S1.size a ≤ S32.size a := fun v4 k0_hw1 r => k0_hw1.1.2.2.2.2.2.2.2.2.1 r
theorem k0_off10_inb : ∀ (v4 : BitVec 32) (k0_hw1 : k0_chk1 v4), ∀ (r : Fin 2), ∀ a, (k0_off10 v4 (BitVec.ofNat 32 (31 + 2 * r.val))) a + S1x1024x512.size a ≤ S32x1024x512.size a := fun v4 k0_hw1 r => k0_hw1.1.2.2.2.2.2.2.2.2.2.1 r
theorem k0_off10_wordsbf16 : ∀ (v4 : BitVec 32) (k0_hw1 : k0_chk1 v4), ∀ (r : Fin 2), (Rect.unit (s := S32x1024x512) (k0_off10 v4 (BitVec.ofNat 32 (31 + 2 * r.val))) S1x1024x512.size (k0_off10_inb v4 k0_hw1 r)).WholeWords (EltTy.packing .bf16) := fun v4 k0_hw1 r => k0_hw1.1.2.2.2.2.2.2.2.2.2.2.1 r (k0_off10_inb v4 k0_hw1 r)
theorem k0_off11_inb : ∀ (v4 : BitVec 32) (k0_hw1 : k0_chk1 v4), ∀ a, (k0_off11 v4) a + S1x1024x512.size a ≤ S32x1024x512.size a := fun v4 k0_hw1 => k0_hw1.1.2.2.2.2.2.2.2.2.2.2.2.1
theorem k0_off12_inb : ∀ (v4 : BitVec 32) (k0_hw1 : k0_chk1 v4), ∀ a, (k0_off12 v4) a + S1.size a ≤ S32.size a := fun v4 k0_hw1 => k0_hw1.1.2.2.2.2.2.2.2.2.2.2.2.2.1
theorem k0_off14_inb : ∀ (v4 : BitVec 32) (k0_hw1 : k0_chk1 v4), ∀ a, (k0_off14 v4) a + S1x1024x512.size a ≤ S32x1024x512.size a := fun v4 k0_hw1 => k0_hw1.1.2.2.2.2.2.2.2.2.2.2.2.2.2.1
theorem k0_off15_inb : ∀ (v4 : BitVec 32) (k0_hw1 : k0_chk1 v4), ∀ a, (k0_off15 v4) a + S1.size a ≤ S32.size a := fun v4 k0_hw1 => k0_hw1.1.2.2.2.2.2.2.2.2.2.2.2.2.2.2.1
theorem k0_off17_inb : ∀ (v4 : BitVec 32) (k0_hw1 : k0_chk1 v4), ∀ (r : Fin 2), ∀ a, (k0_off17 v4 (BitVec.ofNat 32 (30 + 4 * r.val))) a + S1.size a ≤ S32.size a := fun v4 k0_hw1 r => k0_hw1.1.2.2.2.2.2.2.2.2.2.2.2.2.2.2.2.1 r
theorem k0_off18_inb : ∀ (v4 : BitVec 32) (k0_hw1 : k0_chk1 v4), ∀ (r : Fin 2), ∀ a, (k0_off18 v4 (BitVec.ofNat 32 (30 + 4 * r.val))) a + S1x1024x512.size a ≤ S32x1024x512.size a := fun v4 k0_hw1 r => k0_hw1.1.2.2.2.2.2.2.2.2.2.2.2.2.2.2.2.2.1 r
theorem k0_off18_wordsbf16 : ∀ (v4 : BitVec 32) (k0_hw1 : k0_chk1 v4), ∀ (r : Fin 2), (Rect.unit (s := S32x1024x512) (k0_off18 v4 (BitVec.ofNat 32 (30 + 4 * r.val))) S1x1024x512.size (k0_off18_inb v4 k0_hw1 r)).WholeWords (EltTy.packing .bf16) := fun v4 k0_hw1 r => k0_hw1.1.2.2.2.2.2.2.2.2.2.2.2.2.2.2.2.2.2.1 r (k0_off18_inb v4 k0_hw1 r)
theorem k0_off19_inb : ∀ (v4 : BitVec 32) (k0_hw1 : k0_chk1 v4), ∀ a, (k0_off19 v4) a + S1x1024x512.size a ≤ S32x1024x512.size a := fun v4 k0_hw1 => k0_hw1.1.2.2.2.2.2.2.2.2.2.2.2.2.2.2.2.2.2.2.1
theorem k0_off20_inb : ∀ (v4 : BitVec 32) (k0_hw1 : k0_chk1 v4), ∀ a, (k0_off20 v4) a + S1.size a ≤ S32.size a := fun v4 k0_hw1 => k0_hw1.1.2.2.2.2.2.2.2.2.2.2.2.2.2.2.2.2.2.2.2.1
theorem k0_off23_inb : ∀ (v4 : BitVec 32) (k0_hw1 : k0_chk1 v4), ∀ a, (k0_off23 v4) a + S1x1024x512.size a ≤ S32x1024x512.size a := fun v4 k0_hw1 => k0_hw1.1.2.2.2.2.2.2.2.2.2.2.2.2.2.2.2.2.2.2.2.2.1
theorem k0_off24_inb : ∀ (v4 : BitVec 32) (k0_hw1 : k0_chk1 v4), ∀ a, (k0_off24 v4) a + S1.size a ≤ S32.size a := fun v4 k0_hw1 => k0_hw1.1.2.2.2.2.2.2.2.2.2.2.2.2.2.2.2.2.2.2.2.2.2.1
theorem k0_off26_inb : ∀ (v4 : BitVec 32) (k0_hw1 : k0_chk1 v4), ∀ (r : Fin 2), ∀ a, (k0_off26 v4 (BitVec.ofNat 32 (29 + 6 * r.val))) a + S1.size a ≤ S32.size a := fun v4 k0_hw1 r => k0_hw1.1.2.2.2.2.2.2.2.2.2.2.2.2.2.2.2.2.2.2.2.2.2.2.1 r
theorem k0_off27_inb : ∀ (v4 : BitVec 32) (k0_hw1 : k0_chk1 v4), ∀ (r : Fin 2), ∀ a, (k0_off27 v4 (BitVec.ofNat 32 (29 + 6 * r.val))) a + S1x1024x512.size a ≤ S32x1024x512.size a := fun v4 k0_hw1 r => k0_hw1.1.2.2.2.2.2.2.2.2.2.2.2.2.2.2.2.2.2.2.2.2.2.2.2.1 r
theorem k0_off27_wordsbf16 : ∀ (v4 : BitVec 32) (k0_hw1 : k0_chk1 v4), ∀ (r : Fin 2), (Rect.unit (s := S32x1024x512) (k0_off27 v4 (BitVec.ofNat 32 (29 + 6 * r.val))) S1x1024x512.size (k0_off27_inb v4 k0_hw1 r)).WholeWords (EltTy.packing .bf16) := fun v4 k0_hw1 r => k0_hw1.1.2.2.2.2.2.2.2.2.2.2.2.2.2.2.2.2.2.2.2.2.2.2.2.2.1 r (k0_off27_inb v4 k0_hw1 r)
theorem k0_off29_inb : ∀ (v4 : BitVec 32) (k0_hw1 : k0_chk1 v4), ∀ a, (k0_off29 v4) a + S1x1024x512.size a ≤ S32x1024x512.size a := fun v4 k0_hw1 => k0_hw1.1.2.2.2.2.2.2.2.2.2.2.2.2.2.2.2.2.2.2.2.2.2.2.2.2.2.1
theorem k0_off30_inb : ∀ (v4 : BitVec 32) (k0_hw1 : k0_chk1 v4), ∀ a, (k0_off30 v4) a + S1.size a ≤ S32.size a := fun v4 k0_hw1 => k0_hw1.1.2.2.2.2.2.2.2.2.2.2.2.2.2.2.2.2.2.2.2.2.2.2.2.2.2.2.1
theorem k0_off33_inb : ∀ (v4 : BitVec 32) (k0_hw1 : k0_chk1 v4), ∀ a, (k0_off33 v4) a + S1x1024x512.size a ≤ S32x1024x512.size a := fun v4 k0_hw1 => k0_hw1.1.2.2.2.2.2.2.2.2.2.2.2.2.2.2.2.2.2.2.2.2.2.2.2.2.2.2.2.1
theorem k0_off34_inb : ∀ (v4 : BitVec 32) (k0_hw1 : k0_chk1 v4), ∀ a, (k0_off34 v4) a + S1.size a ≤ S32.size a := fun v4 k0_hw1 => k0_hw1.1.2.2.2.2.2.2.2.2.2.2.2.2.2.2.2.2.2.2.2.2.2.2.2.2.2.2.2.2.1
theorem k0_off36_inb : ∀ (v4 : BitVec 32) (k0_hw1 : k0_chk1 v4), ∀ (r : Fin 2), ∀ a, (k0_off36 v4 (BitVec.ofNat 32 (28 + 8 * r.val))) a + S1.size a ≤ S32.size a := fun v4 k0_hw1 r => k0_hw1.1.2.2.2.2.2.2.2.2.2.2.2.2.2.2.2.2.2.2.2.2.2.2.2.2.2.2.2.2.2.1 r
theorem k0_off37_inb : ∀ (v4 : BitVec 32) (k0_hw1 : k0_chk1 v4), ∀ (r : Fin 2), ∀ a, (k0_off37 v4 (BitVec.ofNat 32 (28 + 8 * r.val))) a + S1x1024x512.size a ≤ S32x1024x512.size a := fun v4 k0_hw1 r => k0_hw1.1.2.2.2.2.2.2.2.2.2.2.2.2.2.2.2.2.2.2.2.2.2.2.2.2.2.2.2.2.2.2.1 r
theorem k0_off37_wordsbf16 : ∀ (v4 : BitVec 32) (k0_hw1 : k0_chk1 v4), ∀ (r : Fin 2), (Rect.unit (s := S32x1024x512) (k0_off37 v4 (BitVec.ofNat 32 (28 + 8 * r.val))) S1x1024x512.size (k0_off37_inb v4 k0_hw1 r)).WholeWords (EltTy.packing .bf16) := fun v4 k0_hw1 r => k0_hw1.1.2.2.2.2.2.2.2.2.2.2.2.2.2.2.2.2.2.2.2.2.2.2.2.2.2.2.2.2.2.2.2 r (k0_off37_inb v4 k0_hw1 r)
theorem k0_off39_inb : ∀ (v4 : BitVec 32) (k0_hw1 : k0_chk1 v4), ∀ a, (k0_off39 v4) a + S1x1024x512.size a ≤ S32x1024x512.size a := fun v4 k0_hw1 => k0_hw1.2.1.1
theorem k0_off40_inb : ∀ (v4 : BitVec 32) (k0_hw1 : k0_chk1 v4), ∀ a, (k0_off40 v4) a + S1.size a ≤ S32.size a := fun v4 k0_hw1 => k0_hw1.2.1.2.1
theorem k0_off43_inb : ∀ (v4 : BitVec 32) (k0_hw1 : k0_chk1 v4), ∀ a, (k0_off43 v4) a + S1x1024x512.size a ≤ S32x1024x512.size a := fun v4 k0_hw1 => k0_hw1.2.1.2.2.1
theorem k0_off44_inb : ∀ (v4 : BitVec 32) (k0_hw1 : k0_chk1 v4), ∀ a, (k0_off44 v4) a + S1.size a ≤ S32.size a := fun v4 k0_hw1 => k0_hw1.2.1.2.2.2.1
theorem k0_off46_inb : ∀ (v4 : BitVec 32) (k0_hw1 : k0_chk1 v4), ∀ (r : Fin 2), ∀ a, (k0_off46 v4 (BitVec.ofNat 32 (27 + 10 * r.val))) a + S1.size a ≤ S32.size a := fun v4 k0_hw1 r => k0_hw1.2.1.2.2.2.2.1 r
theorem k0_off47_inb : ∀ (v4 : BitVec 32) (k0_hw1 : k0_chk1 v4), ∀ (r : Fin 2), ∀ a, (k0_off47 v4 (BitVec.ofNat 32 (27 + 10 * r.val))) a + S1x1024x512.size a ≤ S32x1024x512.size a := fun v4 k0_hw1 r => k0_hw1.2.1.2.2.2.2.2.1 r
theorem k0_off47_wordsbf16 : ∀ (v4 : BitVec 32) (k0_hw1 : k0_chk1 v4), ∀ (r : Fin 2), (Rect.unit (s := S32x1024x512) (k0_off47 v4 (BitVec.ofNat 32 (27 + 10 * r.val))) S1x1024x512.size (k0_off47_inb v4 k0_hw1 r)).WholeWords (EltTy.packing .bf16) := fun v4 k0_hw1 r => k0_hw1.2.1.2.2.2.2.2.2.1 r (k0_off47_inb v4 k0_hw1 r)
theorem k0_off49_inb : ∀ (v4 : BitVec 32) (k0_hw1 : k0_chk1 v4), ∀ a, (k0_off49 v4) a + S1x1024x512.size a ≤ S32x1024x512.size a := fun v4 k0_hw1 => k0_hw1.2.1.2.2.2.2.2.2.2.1
theorem k0_off50_inb : ∀ (v4 : BitVec 32) (k0_hw1 : k0_chk1 v4), ∀ a, (k0_off50 v4) a + S1.size a ≤ S32.size a := fun v4 k0_hw1 => k0_hw1.2.1.2.2.2.2.2.2.2.2.1
theorem k0_off53_inb : ∀ (v4 : BitVec 32) (k0_hw1 : k0_chk1 v4), ∀ a, (k0_off53 v4) a + S1x1024x512.size a ≤ S32x1024x512.size a := fun v4 k0_hw1 => k0_hw1.2.1.2.2.2.2.2.2.2.2.2.1
theorem k0_off54_inb : ∀ (v4 : BitVec 32) (k0_hw1 : k0_chk1 v4), ∀ a, (k0_off54 v4) a + S1.size a ≤ S32.size a := fun v4 k0_hw1 => k0_hw1.2.1.2.2.2.2.2.2.2.2.2.2.1
theorem k0_off56_inb : ∀ (v4 : BitVec 32) (k0_hw1 : k0_chk1 v4), ∀ (r : Fin 2), ∀ a, (k0_off56 v4 (BitVec.ofNat 32 (26 + 12 * r.val))) a + S1.size a ≤ S32.size a := fun v4 k0_hw1 r => k0_hw1.2.1.2.2.2.2.2.2.2.2.2.2.2.1 r
theorem k0_off57_inb : ∀ (v4 : BitVec 32) (k0_hw1 : k0_chk1 v4), ∀ (r : Fin 2), ∀ a, (k0_off57 v4 (BitVec.ofNat 32 (26 + 12 * r.val))) a + S1x1024x512.size a ≤ S32x1024x512.size a := fun v4 k0_hw1 r => k0_hw1.2.1.2.2.2.2.2.2.2.2.2.2.2.2.1 r
theorem k0_off57_wordsbf16 : ∀ (v4 : BitVec 32) (k0_hw1 : k0_chk1 v4), ∀ (r : Fin 2), (Rect.unit (s := S32x1024x512) (k0_off57 v4 (BitVec.ofNat 32 (26 + 12 * r.val))) S1x1024x512.size (k0_off57_inb v4 k0_hw1 r)).WholeWords (EltTy.packing .bf16) := fun v4 k0_hw1 r => k0_hw1.2.1.2.2.2.2.2.2.2.2.2.2.2.2.2.1 r (k0_off57_inb v4 k0_hw1 r)
theorem k0_off59_inb : ∀ (v4 : BitVec 32) (k0_hw1 : k0_chk1 v4), ∀ a, (k0_off59 v4) a + S1x1024x512.size a ≤ S32x1024x512.size a := fun v4 k0_hw1 => k0_hw1.2.1.2.2.2.2.2.2.2.2.2.2.2.2.2.2.1
theorem k0_off60_inb : ∀ (v4 : BitVec 32) (k0_hw1 : k0_chk1 v4), ∀ a, (k0_off60 v4) a + S1.size a ≤ S32.size a := fun v4 k0_hw1 => k0_hw1.2.1.2.2.2.2.2.2.2.2.2.2.2.2.2.2.2.1
theorem k0_off63_inb : ∀ (v4 : BitVec 32) (k0_hw1 : k0_chk1 v4), ∀ a, (k0_off63 v4) a + S1x1024x512.size a ≤ S32x1024x512.size a := fun v4 k0_hw1 => k0_hw1.2.1.2.2.2.2.2.2.2.2.2.2.2.2.2.2.2.2.1
theorem k0_off64_inb : ∀ (v4 : BitVec 32) (k0_hw1 : k0_chk1 v4), ∀ a, (k0_off64 v4) a + S1.size a ≤ S32.size a := fun v4 k0_hw1 => k0_hw1.2.1.2.2.2.2.2.2.2.2.2.2.2.2.2.2.2.2.2.1
theorem k0_off66_inb : ∀ (v4 : BitVec 32) (k0_hw1 : k0_chk1 v4), ∀ (r : Fin 2), ∀ a, (k0_off66 v4 (BitVec.ofNat 32 (25 + 14 * r.val))) a + S1.size a ≤ S32.size a := fun v4 k0_hw1 r => k0_hw1.2.1.2.2.2.2.2.2.2.2.2.2.2.2.2.2.2.2.2.2.1 r
theorem k0_off67_inb : ∀ (v4 : BitVec 32) (k0_hw1 : k0_chk1 v4), ∀ (r : Fin 2), ∀ a, (k0_off67 v4 (BitVec.ofNat 32 (25 + 14 * r.val))) a + S1x1024x512.size a ≤ S32x1024x512.size a := fun v4 k0_hw1 r => k0_hw1.2.1.2.2.2.2.2.2.2.2.2.2.2.2.2.2.2.2.2.2.2.1 r
theorem k0_off67_wordsbf16 : ∀ (v4 : BitVec 32) (k0_hw1 : k0_chk1 v4), ∀ (r : Fin 2), (Rect.unit (s := S32x1024x512) (k0_off67 v4 (BitVec.ofNat 32 (25 + 14 * r.val))) S1x1024x512.size (k0_off67_inb v4 k0_hw1 r)).WholeWords (EltTy.packing .bf16) := fun v4 k0_hw1 r => k0_hw1.2.1.2.2.2.2.2.2.2.2.2.2.2.2.2.2.2.2.2.2.2.2.1 r (k0_off67_inb v4 k0_hw1 r)
theorem k0_off69_inb : ∀ (v4 : BitVec 32) (k0_hw1 : k0_chk1 v4), ∀ a, (k0_off69 v4) a + S1x1024x512.size a ≤ S32x1024x512.size a := fun v4 k0_hw1 => k0_hw1.2.1.2.2.2.2.2.2.2.2.2.2.2.2.2.2.2.2.2.2.2.2.2.1
theorem k0_off70_inb : ∀ (v4 : BitVec 32) (k0_hw1 : k0_chk1 v4), ∀ a, (k0_off70 v4) a + S1.size a ≤ S32.size a := fun v4 k0_hw1 => k0_hw1.2.1.2.2.2.2.2.2.2.2.2.2.2.2.2.2.2.2.2.2.2.2.2.2.1
theorem k0_off73_inb : ∀ (v4 : BitVec 32) (k0_hw1 : k0_chk1 v4), ∀ a, (k0_off73 v4) a + S1x1024x512.size a ≤ S32x1024x512.size a := fun v4 k0_hw1 => k0_hw1.2.1.2.2.2.2.2.2.2.2.2.2.2.2.2.2.2.2.2.2.2.2.2.2.2.1
theorem k0_off74_inb : ∀ (v4 : BitVec 32) (k0_hw1 : k0_chk1 v4), ∀ a, (k0_off74 v4) a + S1.size a ≤ S32.size a := fun v4 k0_hw1 => k0_hw1.2.1.2.2.2.2.2.2.2.2.2.2.2.2.2.2.2.2.2.2.2.2.2.2.2.2.1
theorem k0_off76_inb : ∀ (v4 : BitVec 32) (k0_hw1 : k0_chk1 v4), ∀ (r : Fin 2), ∀ a, (k0_off76 v4 (BitVec.ofNat 32 (24 + 16 * r.val))) a + S1.size a ≤ S32.size a := fun v4 k0_hw1 r => k0_hw1.2.1.2.2.2.2.2.2.2.2.2.2.2.2.2.2.2.2.2.2.2.2.2.2.2.2.2.1 r
theorem k0_off77_inb : ∀ (v4 : BitVec 32) (k0_hw1 : k0_chk1 v4), ∀ (r : Fin 2), ∀ a, (k0_off77 v4 (BitVec.ofNat 32 (24 + 16 * r.val))) a + S1x1024x512.size a ≤ S32x1024x512.size a := fun v4 k0_hw1 r => k0_hw1.2.1.2.2.2.2.2.2.2.2.2.2.2.2.2.2.2.2.2.2.2.2.2.2.2.2.2.2.1 r
theorem k0_off77_wordsbf16 : ∀ (v4 : BitVec 32) (k0_hw1 : k0_chk1 v4), ∀ (r : Fin 2), (Rect.unit (s := S32x1024x512) (k0_off77 v4 (BitVec.ofNat 32 (24 + 16 * r.val))) S1x1024x512.size (k0_off77_inb v4 k0_hw1 r)).WholeWords (EltTy.packing .bf16) := fun v4 k0_hw1 r => k0_hw1.2.1.2.2.2.2.2.2.2.2.2.2.2.2.2.2.2.2.2.2.2.2.2.2.2.2.2.2.2.1 r (k0_off77_inb v4 k0_hw1 r)
theorem k0_off79_inb : ∀ (v4 : BitVec 32) (k0_hw1 : k0_chk1 v4), ∀ a, (k0_off79 v4) a + S1x1024x512.size a ≤ S32x1024x512.size a := fun v4 k0_hw1 => k0_hw1.2.1.2.2.2.2.2.2.2.2.2.2.2.2.2.2.2.2.2.2.2.2.2.2.2.2.2.2.2.2.1
theorem k0_off80_inb : ∀ (v4 : BitVec 32) (k0_hw1 : k0_chk1 v4), ∀ a, (k0_off80 v4) a + S1.size a ≤ S32.size a := fun v4 k0_hw1 => k0_hw1.2.1.2.2.2.2.2.2.2.2.2.2.2.2.2.2.2.2.2.2.2.2.2.2.2.2.2.2.2.2.2.1
theorem k0_off83_inb : ∀ (v4 : BitVec 32) (k0_hw1 : k0_chk1 v4), ∀ a, (k0_off83 v4) a + S1x1024x512.size a ≤ S32x1024x512.size a := fun v4 k0_hw1 => k0_hw1.2.1.2.2.2.2.2.2.2.2.2.2.2.2.2.2.2.2.2.2.2.2.2.2.2.2.2.2.2.2.2.2.1
theorem k0_off84_inb : ∀ (v4 : BitVec 32) (k0_hw1 : k0_chk1 v4), ∀ a, (k0_off84 v4) a + S1.size a ≤ S32.size a := fun v4 k0_hw1 => k0_hw1.2.1.2.2.2.2.2.2.2.2.2.2.2.2.2.2.2.2.2.2.2.2.2.2.2.2.2.2.2.2.2.2.2
theorem k0_off86_inb : ∀ (v4 : BitVec 32) (k0_hw1 : k0_chk1 v4), ∀ (r : Fin 2), ∀ a, (k0_off86 v4 (BitVec.ofNat 32 (23 + 18 * r.val))) a + S1.size a ≤ S32.size a := fun v4 k0_hw1 r => k0_hw1.2.2.1.1 r
theorem k0_off87_inb : ∀ (v4 : BitVec 32) (k0_hw1 : k0_chk1 v4), ∀ (r : Fin 2), ∀ a, (k0_off87 v4 (BitVec.ofNat 32 (23 + 18 * r.val))) a + S1x1024x512.size a ≤ S32x1024x512.size a := fun v4 k0_hw1 r => k0_hw1.2.2.1.2.1 r
theorem k0_off87_wordsbf16 : ∀ (v4 : BitVec 32) (k0_hw1 : k0_chk1 v4), ∀ (r : Fin 2), (Rect.unit (s := S32x1024x512) (k0_off87 v4 (BitVec.ofNat 32 (23 + 18 * r.val))) S1x1024x512.size (k0_off87_inb v4 k0_hw1 r)).WholeWords (EltTy.packing .bf16) := fun v4 k0_hw1 r => k0_hw1.2.2.1.2.2.1 r (k0_off87_inb v4 k0_hw1 r)
theorem k0_off89_inb : ∀ (v4 : BitVec 32) (k0_hw1 : k0_chk1 v4), ∀ a, (k0_off89 v4) a + S1x1024x512.size a ≤ S32x1024x512.size a := fun v4 k0_hw1 => k0_hw1.2.2.1.2.2.2.1
theorem k0_off90_inb : ∀ (v4 : BitVec 32) (k0_hw1 : k0_chk1 v4), ∀ a, (k0_off90 v4) a + S1.size a ≤ S32.size a := fun v4 k0_hw1 => k0_hw1.2.2.1.2.2.2.2.1
theorem k0_off93_inb : ∀ (v4 : BitVec 32) (k0_hw1 : k0_chk1 v4), ∀ a, (k0_off93 v4) a + S1x1024x512.size a ≤ S32x1024x512.size a := fun v4 k0_hw1 => k0_hw1.2.2.1.2.2.2.2.2.1
theorem k0_off94_inb : ∀ (v4 : BitVec 32) (k0_hw1 : k0_chk1 v4), ∀ a, (k0_off94 v4) a + S1.size a ≤ S32.size a := fun v4 k0_hw1 => k0_hw1.2.2.1.2.2.2.2.2.2.1
theorem k0_off96_inb : ∀ (v4 : BitVec 32) (k0_hw1 : k0_chk1 v4), ∀ (r : Fin 2), ∀ a, (k0_off96 v4 (BitVec.ofNat 32 (22 + 20 * r.val))) a + S1.size a ≤ S32.size a := fun v4 k0_hw1 r => k0_hw1.2.2.1.2.2.2.2.2.2.2.1 r
theorem k0_off97_inb : ∀ (v4 : BitVec 32) (k0_hw1 : k0_chk1 v4), ∀ (r : Fin 2), ∀ a, (k0_off97 v4 (BitVec.ofNat 32 (22 + 20 * r.val))) a + S1x1024x512.size a ≤ S32x1024x512.size a := fun v4 k0_hw1 r => k0_hw1.2.2.1.2.2.2.2.2.2.2.2.1 r
theorem k0_off97_wordsbf16 : ∀ (v4 : BitVec 32) (k0_hw1 : k0_chk1 v4), ∀ (r : Fin 2), (Rect.unit (s := S32x1024x512) (k0_off97 v4 (BitVec.ofNat 32 (22 + 20 * r.val))) S1x1024x512.size (k0_off97_inb v4 k0_hw1 r)).WholeWords (EltTy.packing .bf16) := fun v4 k0_hw1 r => k0_hw1.2.2.1.2.2.2.2.2.2.2.2.2.1 r (k0_off97_inb v4 k0_hw1 r)
theorem k0_off99_inb : ∀ (v4 : BitVec 32) (k0_hw1 : k0_chk1 v4), ∀ a, (k0_off99 v4) a + S1x1024x512.size a ≤ S32x1024x512.size a := fun v4 k0_hw1 => k0_hw1.2.2.1.2.2.2.2.2.2.2.2.2.2.1
theorem k0_off100_inb : ∀ (v4 : BitVec 32) (k0_hw1 : k0_chk1 v4), ∀ a, (k0_off100 v4) a + S1.size a ≤ S32.size a := fun v4 k0_hw1 => k0_hw1.2.2.1.2.2.2.2.2.2.2.2.2.2.2.1
theorem k0_off103_inb : ∀ (v4 : BitVec 32) (k0_hw1 : k0_chk1 v4), ∀ a, (k0_off103 v4) a + S1x1024x512.size a ≤ S32x1024x512.size a := fun v4 k0_hw1 => k0_hw1.2.2.1.2.2.2.2.2.2.2.2.2.2.2.2.1
theorem k0_off104_inb : ∀ (v4 : BitVec 32) (k0_hw1 : k0_chk1 v4), ∀ a, (k0_off104 v4) a + S1.size a ≤ S32.size a := fun v4 k0_hw1 => k0_hw1.2.2.1.2.2.2.2.2.2.2.2.2.2.2.2.2.1
theorem k0_off106_inb : ∀ (v4 : BitVec 32) (k0_hw1 : k0_chk1 v4), ∀ (r : Fin 2), ∀ a, (k0_off106 v4 (BitVec.ofNat 32 (21 + 22 * r.val))) a + S1.size a ≤ S32.size a := fun v4 k0_hw1 r => k0_hw1.2.2.1.2.2.2.2.2.2.2.2.2.2.2.2.2.2.1 r
theorem k0_off107_inb : ∀ (v4 : BitVec 32) (k0_hw1 : k0_chk1 v4), ∀ (r : Fin 2), ∀ a, (k0_off107 v4 (BitVec.ofNat 32 (21 + 22 * r.val))) a + S1x1024x512.size a ≤ S32x1024x512.size a := fun v4 k0_hw1 r => k0_hw1.2.2.1.2.2.2.2.2.2.2.2.2.2.2.2.2.2.2.1 r
theorem k0_off107_wordsbf16 : ∀ (v4 : BitVec 32) (k0_hw1 : k0_chk1 v4), ∀ (r : Fin 2), (Rect.unit (s := S32x1024x512) (k0_off107 v4 (BitVec.ofNat 32 (21 + 22 * r.val))) S1x1024x512.size (k0_off107_inb v4 k0_hw1 r)).WholeWords (EltTy.packing .bf16) := fun v4 k0_hw1 r => k0_hw1.2.2.1.2.2.2.2.2.2.2.2.2.2.2.2.2.2.2.2.1 r (k0_off107_inb v4 k0_hw1 r)
theorem k0_off109_inb : ∀ (v4 : BitVec 32) (k0_hw1 : k0_chk1 v4), ∀ a, (k0_off109 v4) a + S1x1024x512.size a ≤ S32x1024x512.size a := fun v4 k0_hw1 => k0_hw1.2.2.1.2.2.2.2.2.2.2.2.2.2.2.2.2.2.2.2.2.1
theorem k0_off110_inb : ∀ (v4 : BitVec 32) (k0_hw1 : k0_chk1 v4), ∀ a, (k0_off110 v4) a + S1.size a ≤ S32.size a := fun v4 k0_hw1 => k0_hw1.2.2.1.2.2.2.2.2.2.2.2.2.2.2.2.2.2.2.2.2.2.1
theorem k0_off113_inb : ∀ (v4 : BitVec 32) (k0_hw1 : k0_chk1 v4), ∀ a, (k0_off113 v4) a + S1x1024x512.size a ≤ S32x1024x512.size a := fun v4 k0_hw1 => k0_hw1.2.2.1.2.2.2.2.2.2.2.2.2.2.2.2.2.2.2.2.2.2.2.1
theorem k0_off114_inb : ∀ (v4 : BitVec 32) (k0_hw1 : k0_chk1 v4), ∀ a, (k0_off114 v4) a + S1.size a ≤ S32.size a := fun v4 k0_hw1 => k0_hw1.2.2.1.2.2.2.2.2.2.2.2.2.2.2.2.2.2.2.2.2.2.2.2.1
theorem k0_off116_inb : ∀ (v4 : BitVec 32) (k0_hw1 : k0_chk1 v4), ∀ (r : Fin 2), ∀ a, (k0_off116 v4 (BitVec.ofNat 32 (20 + 24 * r.val))) a + S1.size a ≤ S32.size a := fun v4 k0_hw1 r => k0_hw1.2.2.1.2.2.2.2.2.2.2.2.2.2.2.2.2.2.2.2.2.2.2.2.2.1 r
theorem k0_off117_inb : ∀ (v4 : BitVec 32) (k0_hw1 : k0_chk1 v4), ∀ (r : Fin 2), ∀ a, (k0_off117 v4 (BitVec.ofNat 32 (20 + 24 * r.val))) a + S1x1024x512.size a ≤ S32x1024x512.size a := fun v4 k0_hw1 r => k0_hw1.2.2.1.2.2.2.2.2.2.2.2.2.2.2.2.2.2.2.2.2.2.2.2.2.2.1 r
theorem k0_off117_wordsbf16 : ∀ (v4 : BitVec 32) (k0_hw1 : k0_chk1 v4), ∀ (r : Fin 2), (Rect.unit (s := S32x1024x512) (k0_off117 v4 (BitVec.ofNat 32 (20 + 24 * r.val))) S1x1024x512.size (k0_off117_inb v4 k0_hw1 r)).WholeWords (EltTy.packing .bf16) := fun v4 k0_hw1 r => k0_hw1.2.2.1.2.2.2.2.2.2.2.2.2.2.2.2.2.2.2.2.2.2.2.2.2.2.2.1 r (k0_off117_inb v4 k0_hw1 r)
theorem k0_off119_inb : ∀ (v4 : BitVec 32) (k0_hw1 : k0_chk1 v4), ∀ a, (k0_off119 v4) a + S1x1024x512.size a ≤ S32x1024x512.size a := fun v4 k0_hw1 => k0_hw1.2.2.1.2.2.2.2.2.2.2.2.2.2.2.2.2.2.2.2.2.2.2.2.2.2.2.2.1
theorem k0_off120_inb : ∀ (v4 : BitVec 32) (k0_hw1 : k0_chk1 v4), ∀ a, (k0_off120 v4) a + S1.size a ≤ S32.size a := fun v4 k0_hw1 => k0_hw1.2.2.1.2.2.2.2.2.2.2.2.2.2.2.2.2.2.2.2.2.2.2.2.2.2.2.2.2.1
theorem k0_off123_inb : ∀ (v4 : BitVec 32) (k0_hw1 : k0_chk1 v4), ∀ a, (k0_off123 v4) a + S1x1024x512.size a ≤ S32x1024x512.size a := fun v4 k0_hw1 => k0_hw1.2.2.1.2.2.2.2.2.2.2.2.2.2.2.2.2.2.2.2.2.2.2.2.2.2.2.2.2.2.1
theorem k0_off124_inb : ∀ (v4 : BitVec 32) (k0_hw1 : k0_chk1 v4), ∀ a, (k0_off124 v4) a + S1.size a ≤ S32.size a := fun v4 k0_hw1 => k0_hw1.2.2.1.2.2.2.2.2.2.2.2.2.2.2.2.2.2.2.2.2.2.2.2.2.2.2.2.2.2.2.1
theorem k0_off126_inb : ∀ (v4 : BitVec 32) (k0_hw1 : k0_chk1 v4), ∀ (r : Fin 2), ∀ a, (k0_off126 v4 (BitVec.ofNat 32 (19 + 26 * r.val))) a + S1.size a ≤ S32.size a := fun v4 k0_hw1 r => k0_hw1.2.2.1.2.2.2.2.2.2.2.2.2.2.2.2.2.2.2.2.2.2.2.2.2.2.2.2.2.2.2.2.1 r
theorem k0_off127_inb : ∀ (v4 : BitVec 32) (k0_hw1 : k0_chk1 v4), ∀ (r : Fin 2), ∀ a, (k0_off127 v4 (BitVec.ofNat 32 (19 + 26 * r.val))) a + S1x1024x512.size a ≤ S32x1024x512.size a := fun v4 k0_hw1 r => k0_hw1.2.2.1.2.2.2.2.2.2.2.2.2.2.2.2.2.2.2.2.2.2.2.2.2.2.2.2.2.2.2.2.2.1 r
theorem k0_off127_wordsbf16 : ∀ (v4 : BitVec 32) (k0_hw1 : k0_chk1 v4), ∀ (r : Fin 2), (Rect.unit (s := S32x1024x512) (k0_off127 v4 (BitVec.ofNat 32 (19 + 26 * r.val))) S1x1024x512.size (k0_off127_inb v4 k0_hw1 r)).WholeWords (EltTy.packing .bf16) := fun v4 k0_hw1 r => k0_hw1.2.2.1.2.2.2.2.2.2.2.2.2.2.2.2.2.2.2.2.2.2.2.2.2.2.2.2.2.2.2.2.2.2.1 r (k0_off127_inb v4 k0_hw1 r)
theorem k0_off129_inb : ∀ (v4 : BitVec 32) (k0_hw1 : k0_chk1 v4), ∀ a, (k0_off129 v4) a + S1x1024x512.size a ≤ S32x1024x512.size a := fun v4 k0_hw1 => k0_hw1.2.2.1.2.2.2.2.2.2.2.2.2.2.2.2.2.2.2.2.2.2.2.2.2.2.2.2.2.2.2.2.2.2.2
theorem k0_off130_inb : ∀ (v4 : BitVec 32) (k0_hw1 : k0_chk1 v4), ∀ a, (k0_off130 v4) a + S1.size a ≤ S32.size a := fun v4 k0_hw1 => k0_hw1.2.2.2.1
theorem k0_off133_inb : ∀ (v4 : BitVec 32) (k0_hw1 : k0_chk1 v4), ∀ a, (k0_off133 v4) a + S1x1024x512.size a ≤ S32x1024x512.size a := fun v4 k0_hw1 => k0_hw1.2.2.2.2.1
theorem k0_off134_inb : ∀ (v4 : BitVec 32) (k0_hw1 : k0_chk1 v4), ∀ a, (k0_off134 v4) a + S1.size a ≤ S32.size a := fun v4 k0_hw1 => k0_hw1.2.2.2.2.2.1
theorem k0_off136_inb : ∀ (v4 : BitVec 32) (k0_hw1 : k0_chk1 v4), ∀ (r : Fin 2), ∀ a, (k0_off136 v4 (BitVec.ofNat 32 (18 + 28 * r.val))) a + S1.size a ≤ S32.size a := fun v4 k0_hw1 r => k0_hw1.2.2.2.2.2.2.1 r
theorem k0_off137_inb : ∀ (v4 : BitVec 32) (k0_hw1 : k0_chk1 v4), ∀ (r : Fin 2), ∀ a, (k0_off137 v4 (BitVec.ofNat 32 (18 + 28 * r.val))) a + S1x1024x512.size a ≤ S32x1024x512.size a := fun v4 k0_hw1 r => k0_hw1.2.2.2.2.2.2.2.1 r
theorem k0_off137_wordsbf16 : ∀ (v4 : BitVec 32) (k0_hw1 : k0_chk1 v4), ∀ (r : Fin 2), (Rect.unit (s := S32x1024x512) (k0_off137 v4 (BitVec.ofNat 32 (18 + 28 * r.val))) S1x1024x512.size (k0_off137_inb v4 k0_hw1 r)).WholeWords (EltTy.packing .bf16) := fun v4 k0_hw1 r => k0_hw1.2.2.2.2.2.2.2.2.1 r (k0_off137_inb v4 k0_hw1 r)
theorem k0_off139_inb : ∀ (v4 : BitVec 32) (k0_hw1 : k0_chk1 v4), ∀ a, (k0_off139 v4) a + S1x1024x512.size a ≤ S32x1024x512.size a := fun v4 k0_hw1 => k0_hw1.2.2.2.2.2.2.2.2.2.1
theorem k0_off140_inb : ∀ (v4 : BitVec 32) (k0_hw1 : k0_chk1 v4), ∀ a, (k0_off140 v4) a + S1.size a ≤ S32.size a := fun v4 k0_hw1 => k0_hw1.2.2.2.2.2.2.2.2.2.2.1
theorem k0_off143_inb : ∀ (v4 : BitVec 32) (k0_hw1 : k0_chk1 v4), ∀ a, (k0_off143 v4) a + S1x1024x512.size a ≤ S32x1024x512.size a := fun v4 k0_hw1 => k0_hw1.2.2.2.2.2.2.2.2.2.2.2.1
theorem k0_off144_inb : ∀ (v4 : BitVec 32) (k0_hw1 : k0_chk1 v4), ∀ a, (k0_off144 v4) a + S1.size a ≤ S32.size a := fun v4 k0_hw1 => k0_hw1.2.2.2.2.2.2.2.2.2.2.2.2.1
theorem k0_off146_inb : ∀ (v4 : BitVec 32) (k0_hw1 : k0_chk1 v4), ∀ (r : Fin 2), ∀ a, (k0_off146 v4 (BitVec.ofNat 32 (17 + 30 * r.val))) a + S1.size a ≤ S32.size a := fun v4 k0_hw1 r => k0_hw1.2.2.2.2.2.2.2.2.2.2.2.2.2.1 r
theorem k0_off147_inb : ∀ (v4 : BitVec 32) (k0_hw1 : k0_chk1 v4), ∀ (r : Fin 2), ∀ a, (k0_off147 v4 (BitVec.ofNat 32 (17 + 30 * r.val))) a + S1x1024x512.size a ≤ S32x1024x512.size a := fun v4 k0_hw1 r => k0_hw1.2.2.2.2.2.2.2.2.2.2.2.2.2.2.1 r
theorem k0_off147_wordsbf16 : ∀ (v4 : BitVec 32) (k0_hw1 : k0_chk1 v4), ∀ (r : Fin 2), (Rect.unit (s := S32x1024x512) (k0_off147 v4 (BitVec.ofNat 32 (17 + 30 * r.val))) S1x1024x512.size (k0_off147_inb v4 k0_hw1 r)).WholeWords (EltTy.packing .bf16) := fun v4 k0_hw1 r => k0_hw1.2.2.2.2.2.2.2.2.2.2.2.2.2.2.2.1 r (k0_off147_inb v4 k0_hw1 r)
theorem k0_off149_inb : ∀ (v4 : BitVec 32) (k0_hw1 : k0_chk1 v4), ∀ a, (k0_off149 v4) a + S1x1024x512.size a ≤ S32x1024x512.size a := fun v4 k0_hw1 => k0_hw1.2.2.2.2.2.2.2.2.2.2.2.2.2.2.2.2.1
theorem k0_off150_inb : ∀ (v4 : BitVec 32) (k0_hw1 : k0_chk1 v4), ∀ a, (k0_off150 v4) a + S1.size a ≤ S32.size a := fun v4 k0_hw1 => k0_hw1.2.2.2.2.2.2.2.2.2.2.2.2.2.2.2.2.2.1
theorem k0_off153_inb : ∀ (v4 : BitVec 32) (k0_hw1 : k0_chk1 v4), ∀ a, (k0_off153 v4) a + S1x1024x512.size a ≤ S32x1024x512.size a := fun v4 k0_hw1 => k0_hw1.2.2.2.2.2.2.2.2.2.2.2.2.2.2.2.2.2.2.1
theorem k0_off154_inb : ∀ (v4 : BitVec 32) (k0_hw1 : k0_chk1 v4), ∀ a, (k0_off154 v4) a + S1.size a ≤ S32.size a := fun v4 k0_hw1 => k0_hw1.2.2.2.2.2.2.2.2.2.2.2.2.2.2.2.2.2.2.2.1
theorem k0_off156_inb : ∀ (v4 : BitVec 32) (k0_hw1 : k0_chk1 v4), ∀ a, (k0_off156 v4) a + S1.size a ≤ S32.size a := fun v4 k0_hw1 => k0_hw1.2.2.2.2.2.2.2.2.2.2.2.2.2.2.2.2.2.2.2.2.1
theorem k0_off157_inb : ∀ (v4 : BitVec 32) (k0_hw1 : k0_chk1 v4), ∀ a, (k0_off157 v4) a + S1x1024x512.size a ≤ S32x1024x512.size a := fun v4 k0_hw1 => k0_hw1.2.2.2.2.2.2.2.2.2.2.2.2.2.2.2.2.2.2.2.2.2.1
theorem k0_off157_wordsbf16 : ∀ (v4 : BitVec 32) (k0_hw1 : k0_chk1 v4), (Rect.unit (s := S32x1024x512) (k0_off157 v4) S1x1024x512.size (k0_off157_inb v4 k0_hw1)).WholeWords (EltTy.packing .bf16) := fun v4 k0_hw1 => k0_hw1.2.2.2.2.2.2.2.2.2.2.2.2.2.2.2.2.2.2.2.2.2.2.1 (k0_off157_inb v4 k0_hw1)
theorem k0_off159_inb : ∀ (v4 : BitVec 32) (k0_hw1 : k0_chk1 v4), ∀ a, (k0_off159 v4) a + S1x1024x512.size a ≤ S32x1024x512.size a := fun v4 k0_hw1 => k0_hw1.2.2.2.2.2.2.2.2.2.2.2.2.2.2.2.2.2.2.2.2.2.2.2.1
theorem k0_off160_inb : ∀ (v4 : BitVec 32) (k0_hw1 : k0_chk1 v4), ∀ a, (k0_off160 v4) a + S1.size a ≤ S32.size a := fun v4 k0_hw1 => k0_hw1.2.2.2.2.2.2.2.2.2.2.2.2.2.2.2.2.2.2.2.2.2.2.2.2.1
theorem k0_off162_inb : ∀ (v4 : BitVec 32) (k0_hw1 : k0_chk1 v4), ∀ (r : Fin 30), ∀ a, (k0_off162 v4 (BitVec.ofNat 32 (17 + r.val))) a + S1x1024x512.size a ≤ S32x1024x512.size a := fun v4 k0_hw1 r => k0_hw1.2.2.2.2.2.2.2.2.2.2.2.2.2.2.2.2.2.2.2.2.2.2.2.2.2.1 r
theorem k0_off162_wordsbf16 : ∀ (v4 : BitVec 32) (k0_hw1 : k0_chk1 v4), ∀ (r : Fin 30), (Rect.unit (s := S32x1024x512) (k0_off162 v4 (BitVec.ofNat 32 (17 + r.val))) S1x1024x512.size (k0_off162_inb v4 k0_hw1 r)).WholeWords (EltTy.packing .bf16) := fun v4 k0_hw1 r => k0_hw1.2.2.2.2.2.2.2.2.2.2.2.2.2.2.2.2.2.2.2.2.2.2.2.2.2.2 r (k0_off162_inb v4 k0_hw1 r)

def k0_off163 (v1306 : BitVec 32) : Fin 2 → Nat :=
  let c1024_i32_1012 : BitVec 32 := 1024#32
  let v1307 : BitVec 32 := Scalar.muli v1306 c1024_i32_1012
  let c0_i32_1298 : BitVec 32 := 0#32
  ![v1307.toNat, 0]

def k0_chk32 (v1306 : BitVec 32) : Prop :=
  (∀ a, (k0_off145 v1306) a + S1024x1024.size a ≤ S32768x1024.size a) ∧
  (∀ (hinb : ∀ a, (k0_off145 v1306) a + S1024x1024.size a ≤ S32768x1024.size a), (Rect.unit (s := S32768x1024) (k0_off145 v1306) S1024x1024.size hinb).WholeWords (EltTy.packing .bf16)) ∧
  (∀ a, (k0_off163 v1306) a + S1024x1024.size a ≤ S32768x1024.size a) ∧
  (∀ (hinb : ∀ a, (k0_off163 v1306) a + S1024x1024.size a ≤ S32768x1024.size a), (Rect.unit (s := S32768x1024) (k0_off163 v1306) S1024x1024.size hinb).WholeWords (EltTy.packing .bf16))
theorem k0_off145_inb : ∀ (v1306 : BitVec 32) (k0_hw32 : k0_chk32 v1306), ∀ a, (k0_off145 v1306) a + S1024x1024.size a ≤ S32768x1024.size a := fun v1306 k0_hw32 => k0_hw32.1
theorem k0_off145_wordsbf16 : ∀ (v1306 : BitVec 32) (k0_hw32 : k0_chk32 v1306), (Rect.unit (s := S32768x1024) (k0_off145 v1306) S1024x1024.size (k0_off145_inb v1306 k0_hw32)).WholeWords (EltTy.packing .bf16) := fun v1306 k0_hw32 => k0_hw32.2.1 (k0_off145_inb v1306 k0_hw32)
theorem k0_off163_inb : ∀ (v1306 : BitVec 32) (k0_hw32 : k0_chk32 v1306), ∀ a, (k0_off163 v1306) a + S1024x1024.size a ≤ S32768x1024.size a := fun v1306 k0_hw32 => k0_hw32.2.2.1
theorem k0_off163_wordsbf16 : ∀ (v1306 : BitVec 32) (k0_hw32 : k0_chk32 v1306), (Rect.unit (s := S32768x1024) (k0_off163 v1306) S1024x1024.size (k0_off163_inb v1306 k0_hw32)).WholeWords (EltTy.packing .bf16) := fun v1306 k0_hw32 => k0_hw32.2.2.2 (k0_off163_inb v1306 k0_hw32)

def k0_off164 (v1361 : BitVec 32) : Fin 2 → Nat :=
  let c1024_i32_1057 : BitVec 32 := 1024#32
  let v1362 : BitVec 32 := Scalar.muli v1361 c1024_i32_1057
  let c0_i32_1303 : BitVec 32 := 0#32
  ![v1362.toNat, 0]

def k0_chk33 (v1361 : BitVec 32) : Prop :=
  (∀ a, (k0_off151 v1361) a + S1024x1024.size a ≤ S32768x1024.size a) ∧
  (∀ (hinb : ∀ a, (k0_off151 v1361) a + S1024x1024.size a ≤ S32768x1024.size a), (Rect.unit (s := S32768x1024) (k0_off151 v1361) S1024x1024.size hinb).WholeWords (EltTy.packing .bf16)) ∧
  (∀ a, (k0_off164 v1361) a + S1024x1024.size a ≤ S32768x1024.size a) ∧
  (∀ (hinb : ∀ a, (k0_off164 v1361) a + S1024x1024.size a ≤ S32768x1024.size a), (Rect.unit (s := S32768x1024) (k0_off164 v1361) S1024x1024.size hinb).WholeWords (EltTy.packing .bf16))
theorem k0_off151_inb : ∀ (v1361 : BitVec 32) (k0_hw33 : k0_chk33 v1361), ∀ a, (k0_off151 v1361) a + S1024x1024.size a ≤ S32768x1024.size a := fun v1361 k0_hw33 => k0_hw33.1
theorem k0_off151_wordsbf16 : ∀ (v1361 : BitVec 32) (k0_hw33 : k0_chk33 v1361), (Rect.unit (s := S32768x1024) (k0_off151 v1361) S1024x1024.size (k0_off151_inb v1361 k0_hw33)).WholeWords (EltTy.packing .bf16) := fun v1361 k0_hw33 => k0_hw33.2.1 (k0_off151_inb v1361 k0_hw33)
theorem k0_off164_inb : ∀ (v1361 : BitVec 32) (k0_hw33 : k0_chk33 v1361), ∀ a, (k0_off164 v1361) a + S1024x1024.size a ≤ S32768x1024.size a := fun v1361 k0_hw33 => k0_hw33.2.2.1
theorem k0_off164_wordsbf16 : ∀ (v1361 : BitVec 32) (k0_hw33 : k0_chk33 v1361), (Rect.unit (s := S32768x1024) (k0_off164 v1361) S1024x1024.size (k0_off164_inb v1361 k0_hw33)).WholeWords (EltTy.packing .bf16) := fun v1361 k0_hw33 => k0_hw33.2.2.2 (k0_off164_inb v1361 k0_hw33)

def k0_off165 (v1384 : BitVec 32) : Fin 2 → Nat :=
  let c1024_i32_1076 : BitVec 32 := 1024#32
  let v1385 : BitVec 32 := Scalar.muli v1384 c1024_i32_1076
  let c0_i32_1308 : BitVec 32 := 0#32
  ![v1385.toNat, 0]

def k0_chk34 (v1384 : BitVec 32) : Prop :=
  (∀ a, (k0_off155 v1384) a + S1024x1024.size a ≤ S32768x1024.size a) ∧
  (∀ (hinb : ∀ a, (k0_off155 v1384) a + S1024x1024.size a ≤ S32768x1024.size a), (Rect.unit (s := S32768x1024) (k0_off155 v1384) S1024x1024.size hinb).WholeWords (EltTy.packing .bf16)) ∧
  (∀ a, (k0_off165 v1384) a + S1024x1024.size a ≤ S32768x1024.size a) ∧
  (∀ (hinb : ∀ a, (k0_off165 v1384) a + S1024x1024.size a ≤ S32768x1024.size a), (Rect.unit (s := S32768x1024) (k0_off165 v1384) S1024x1024.size hinb).WholeWords (EltTy.packing .bf16))
theorem k0_off155_inb : ∀ (v1384 : BitVec 32) (k0_hw34 : k0_chk34 v1384), ∀ a, (k0_off155 v1384) a + S1024x1024.size a ≤ S32768x1024.size a := fun v1384 k0_hw34 => k0_hw34.1
theorem k0_off155_wordsbf16 : ∀ (v1384 : BitVec 32) (k0_hw34 : k0_chk34 v1384), (Rect.unit (s := S32768x1024) (k0_off155 v1384) S1024x1024.size (k0_off155_inb v1384 k0_hw34)).WholeWords (EltTy.packing .bf16) := fun v1384 k0_hw34 => k0_hw34.2.1 (k0_off155_inb v1384 k0_hw34)
theorem k0_off165_inb : ∀ (v1384 : BitVec 32) (k0_hw34 : k0_chk34 v1384), ∀ a, (k0_off165 v1384) a + S1024x1024.size a ≤ S32768x1024.size a := fun v1384 k0_hw34 => k0_hw34.2.2.1
theorem k0_off165_wordsbf16 : ∀ (v1384 : BitVec 32) (k0_hw34 : k0_chk34 v1384), (Rect.unit (s := S32768x1024) (k0_off165 v1384) S1024x1024.size (k0_off165_inb v1384 k0_hw34)).WholeWords (EltTy.packing .bf16) := fun v1384 k0_hw34 => k0_hw34.2.2.2 (k0_off165_inb v1384 k0_hw34)

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32768x512 : Shape := ⟨2, ![32768, 512]⟩
abbrev S512x1024 : Shape := ⟨2, ![512, 1024]⟩
abbrev S32768x1024 : Shape := ⟨2, ![32768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S512x1024, .bf16⟩
  | .hbm, ⟨2, _⟩ => ⟨S32768x1024, .f32⟩
  | .hbm, ⟨3, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Kernel.Checks.lean ====
/- The side conditions the body assumes of the words it reads, which hold of every word the two tables list. -/
module

public import proofs.«01_k».proof.Proof.Kernel.Ring

@[expose] public section

namespace Cert.Kernel.Walk

open Idealize.ShloMosaic

theorem chk_pos : ∀ p : Fin 32, k0_chk1 (wd p) := by decide +kernel
theorem chk_prev : ∀ d : Fin 32, k0_chk2 (wd d) := by decide +kernel
theorem chk_next : ∀ d : Fin 32, k0_chk3 (wd d) := by decide +kernel
theorem chk_origin : ∀ d : Fin 32, k0_chk4 (wd d) := by decide +kernel

end Cert.Kernel.Walk
-- ==== Proof.KernelIdeal.Ring.lean ====
/- The ring of the 32 devices: the position of a device, its neighbours, the slots by their distance along the ring
   from a position, and the words by which the program names them. -/
module

public import proofs.«01_k».proof.Proof.Gen.KernelIdeal.Frame

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The device at ring position `p`. -/
def dev (p : Fin 32) : Dev nD :=
  (![0, 3, 4, 7, 15, 12, 11, 8, 16, 19, 20, 23, 31, 28, 27, 24, 25, 26, 29, 30, 22, 21, 18, 17, 9, 10, 13, 14, 6, 5, 2, 1] : Fin 32 → Fin 32) p

/-- The ring position of device `c`. -/
def pos (c : Dev nD) : Fin 32 :=
  (![0, 31, 30, 1, 2, 29, 28, 3, 7, 24, 25, 6, 5, 26, 27, 4, 8, 23, 22, 9, 10, 21, 20, 11, 15, 16, 17, 14, 13, 18, 19, 12] : Fin 32 → Fin 32) c

theorem pos_dev : ∀ p : Fin 32, pos (dev p) = p := by decide
theorem dev_pos : ∀ c : Dev nD, dev (pos c) = c := by decide

/-- The positions and the devices correspond one to one. -/
def ring : Fin 32 ≃ Dev nD := ⟨dev, pos, pos_dev, dev_pos⟩

/-- The neighbour of device `c` towards which the blocks of direction `o` travel (`true`: to the next position). -/
def nb (o : Bool) (c : Dev nD) : Dev nD := dev (if o then pos c + 1 else pos c - 1)

/-- The slot at distance `i` behind position `p` as direction `o` travels. -/
def sl (o : Bool) (p : Fin 32) (i : ℕ) : Fin 32 := if o then p - Fin.ofNat 32 i else p + Fin.ofNat 32 i

/-- How many blocks each device sends in direction `o`. -/
def lim (o : Bool) : ℕ := if o then 16 else 15

theorem lim_true : lim true = 16 := rfl
theorem lim_false : lim false = 15 := rfl
theorem lim_le : ∀ o, lim o ≤ 16 := by decide

theorem nb_nb : ∀ (o : Bool) (c : Dev nD), nb o (nb (!o) c) = c := by decide
theorem nb_nb' : ∀ (o : Bool) (c : Dev nD), nb (!o) (nb o c) = c := by decide
theorem pos_nb : ∀ (o : Bool) (c : Dev nD), pos (nb o c) = if o then pos c + 1 else pos c - 1 := by decide

/-- Going to the neighbour is a bijection of the devices. -/
def nbEquiv (o : Bool) : Dev nD ≃ Dev nD := ⟨nb o, nb (!o), nb_nb' o, nb_nb o⟩

theorem nb_injective (o : Bool) : Function.Injective (nb o) := (nbEquiv o).injective

theorem nb_ne : ∀ c : Dev nD, nb true c ≠ nb false c := by decide

theorem sl_zero (o : Bool) (p : Fin 32) : sl o p 0 = p := by
  cases o <;> revert p <;> decide

/-- What is at distance `i` behind a device is at distance `i + 1` behind its neighbour. -/
theorem sl_nb (o : Bool) (c : Dev nD) (i : ℕ) : sl o (pos (nb o c)) (i + 1) = sl o (pos c) i := by
  rw [pos_nb]
  unfold sl
  have h : (Fin.ofNat 32 (i + 1)) = Fin.ofNat 32 i + 1 := by
    apply Fin.ext; simp [Fin.ofNat, Fin.add_def]
  rw [h]
  generalize Fin.ofNat 32 i = k
  generalize pos c = p
  revert o p k
  decide +kernel

/-- The distance of slot `q` from position `p` along the shorter way. -/
def rank (p q : Fin 32) : ℕ := if (p - q).val ≤ 16 then (p - q).val else 32 - (p - q).val

theorem rank_le : ∀ p q : Fin 32, rank p q ≤ 16 := by decide +kernel

theorem rank_sl' : ∀ (o : Bool) (p : Fin 32) (i : Fin 17), i.val ≤ lim o → rank p (sl o p i.val) = i.val := by decide +kernel

theorem rank_sl (o : Bool) (p : Fin 32) (i : ℕ) (h : i ≤ lim o) : rank p (sl o p i) = i :=
  rank_sl' o p ⟨i, by have := lim_le o; omega⟩ h

/-- The slot behind which device `c` sends lies at distance `i + 1` at the receiver. -/
theorem rank_nb (o : Bool) (c : Dev nD) (i : ℕ) (h : i < lim o) : rank (pos (nb o c)) (sl o (pos c) i) = i + 1 := by
  rw [← sl_nb]; exact rank_sl o _ _ h

/-- The slots in the order in which the kernel multiplies them. -/
def ord (p : Fin 32) (j : ℕ) : Fin 32 := if j % 2 = 1 then sl true p ((j + 1) / 2) else sl false p (j / 2)

theorem ord_bij : ∀ p : Fin 32, (Finset.range 32).image (ord p) = Finset.univ := by decide +kernel

theorem sl_true_inj : ∀ (p : Fin 32) (i j : Fin 17), sl true p i.val = sl true p j.val → i = j := by decide +kernel
theorem sl_false_inj : ∀ (p : Fin 32) (i j : Fin 16), sl false p i.val = sl false p j.val → i = j := by decide +kernel

theorem univ_slots : ∀ p : Fin 32,
    (Finset.univ : Finset (Fin 32)) = insert p ((Finset.Ico 1 17).image (sl true p) ∪ (Finset.Ico 1 16).image (sl false p)) := by
  decide +kernel
theorem slots_disjoint : ∀ p : Fin 32, Disjoint ((Finset.Ico 1 17).image (sl true p)) ((Finset.Ico 1 16).image (sl false p)) := by
  decide +kernel
theorem slots_notMem : ∀ p : Fin 32, p ∉ (Finset.Ico 1 17).image (sl true p) ∪ (Finset.Ico 1 16).image (sl false p) := by
  decide +kernel

section Sep

variable {M : Type _} [URA M]

theorem bigSep_image_inj {I J : Type*} [DecidableEq J] (s : Finset I) (f : I → J) (h : ∀ i ∈ s, ∀ j ∈ s, f i = f j → i = j)
    (Φ : J → sProp M) : bigSep (s.image f) Φ = bigSep s fun i => Φ (f i) := by
  unfold bigSep
  exact Finset.fold_image h

/-- All slots, seen from position `p`: its own, those behind it clockwise and those behind it the other way. -/
theorem slots_split (p : Fin 32) (Φ : Fin 32 → sProp M) :
    bigSep Finset.univ Φ = iprop(Φ p ∗ bigSep (Finset.Ico 1 17) (fun i => Φ (sl true p i)) ∗ bigSep (Finset.Ico 1 16) (fun i => Φ (sl false p i))) := by
  rw [univ_slots p, bigSep_insert (slots_notMem p), bigSep_union (slots_disjoint p)]
  rw [bigSep_image_inj _ _ (fun i hi j hj h => ?_), bigSep_image_inj _ _ (fun i hi j hj h => ?_)]
  · rfl
  · rw [Finset.mem_Ico] at hi hj
    exact congrArg Fin.val (sl_false_inj p ⟨i, by omega⟩ ⟨j, by omega⟩ h)
  · rw [Finset.mem_Ico] at hi hj
    exact congrArg Fin.val (sl_true_inj p ⟨i, by omega⟩ ⟨j, by omega⟩ h)

theorem ord_inj : ∀ (p : Fin 32) (i j : Fin 32), ord p i.val = ord p j.val → i = j := by decide +kernel

/-- All slots in the order in which they are multiplied. -/
theorem slots_ord (p : Fin 32) (Φ : Fin 32 → sProp M) :
    bigSep Finset.univ Φ = bigSep (Finset.Ico 0 32) (fun j => Φ (ord p j)) := by
  rw [← ord_bij p, bigSep_image_inj _ _ (fun i hi j hj h => ?_), Finset.range_eq_Ico]
  rw [Finset.mem_range] at hi hj
  exact congrArg Fin.val (ord_inj p ⟨i, hi⟩ ⟨j, hj⟩ h)

end Sep

/-! ## The words -/

/-- The word of a position. -/
abbrev wd (q : Fin 32) : BitVec 32 := BitVec.ofNat 32 q.val

theorem lit0_eq : ∀ p : Fin 32, lit0 p = wd (dev p) := by decide
theorem lit1_eq : ∀ c : Fin 32, lit1 c = wd (pos c) := by decide

end Cert.KernelIdeal.Walk
-- ==== Proof.KernelIdeal.Slots.lean ====
/- The buffers by their blocks: the slots of the gathered array, the slots of the product buffer, the row blocks of the
   result; what each holds, and what a store or a copy leaves in it. -/
module

public import proofs.«01_k».proof.Proof.KernelIdeal.Ring
public import Idealize.ShloMosaic.Lib.ValueLayout

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

open Facts₀ Facts

variable {F : FTy → Type} [FloatOps F]

/-! ## The blocks -/

abbrev commM : Memref sig .tc .vmem S32x1024x512 .bf16 := Memref.whole cc0_scratch0
abbrev voutM : Memref sig .tc .vmem S4x1024x1024 .bf16 := Memref.whole cc0_scratch1
abbrev resM : Memref sig .tc .hbm S32768x1024 .bf16 := Memref.whole main_v1

theorem slot_inb (q : Fin 32) : ∀ a, (![q.val, 0, 0] : Fin 3 → ℕ) a + S1x1024x512.size a ≤ S32x1024x512.size a := by
  intro a
  fin_cases a
  · show q.val + 1 ≤ 32; omega
  · show 0 + 1024 ≤ 1024; omega
  · show 0 + 512 ≤ 512; omega
theorem vslot_inb (s : Fin 4) : ∀ a, (![s.val, 0, 0] : Fin 3 → ℕ) a + S1x1024x1024.size a ≤ S4x1024x1024.size a := by
  intro a
  fin_cases a
  · show s.val + 1 ≤ 4; omega
  · show 0 + 1024 ≤ 1024; omega
  · show 0 + 1024 ≤ 1024; omega
theorem rows_inb (d : Fin 32) : ∀ a, (![d.val * 1024, 0] : Fin 2 → ℕ) a + S1024x1024.size a ≤ S32768x1024.size a := by
  intro a
  fin_cases a
  · show d.val * 1024 + 1024 ≤ 32768; omega
  · show 0 + 1024 ≤ 1024; omega

/-- Slot `q` of the gathered array. -/
abbrev slotR (q : Fin 32) : Rect S32x1024x512 := Rect.unit (s := S32x1024x512) ![q.val, 0, 0] S1x1024x512.size (slot_inb q)
/-- Slot `s` of the product buffer. -/
abbrev vslotR (s : Fin 4) : Rect S4x1024x1024 := Rect.unit (s := S4x1024x1024) ![s.val, 0, 0] S1x1024x1024.size (vslot_inb s)
/-- The rows of the result that device `d`'s block of the left factor makes. -/
abbrev rowsR (d : Fin 32) : Rect S32768x1024 := Rect.unit (s := S32768x1024) ![d.val * 1024, 0] S1024x1024.size (rows_inb d)

abbrev slotM (q : Fin 32) : Memref sig .tc .vmem S1024x512 .bf16 :=
  (commM.slice (slotR q) (fun _ => rfl)).squeeze S1024x512 squeezes_S1x1024x512_S1024x512
abbrev vslotM (s : Fin 4) : Memref sig .tc .vmem S1024x1024 .bf16 :=
  (voutM.slice (vslotR s) (fun _ => rfl)).squeeze S1024x1024 squeezes_S1x1024x1024_S1024x1024
abbrev rowsM (d : Fin 32) : Memref sig .tc .hbm S1024x1024 .bf16 := resM.slice (rowsR d) (fun _ => rfl)

theorem slotM_set (q : Fin 32) : (slotM q).view.set = (slotR q).set := by
  show (((commM.view.slice (slotR q)).reshape S1024x512 _).set) = _
  rw [View.set_reshape]; exact View.set_slice_whole _ _
theorem vslotM_set (s : Fin 4) : (vslotM s).view.set = (vslotR s).set := by
  show (((voutM.view.slice (vslotR s)).reshape S1024x1024 _).set) = _
  rw [View.set_reshape]; exact View.set_slice_whole _ _
theorem rowsM_set (d : Fin 32) : (rowsM d).view.set = (rowsR d).set := View.set_slice_whole _ _

/-! ## The contents -/

/-- The left factors of the devices, and each device's right factor. -/
abbrev LeftC (F : FTy → Type) : Type := Dev nD → S1024x512.Idx → Elt F .bf16
abbrev RightC (F : FTy → Type) : Type := Dev nD → S512x1024.Idx → Elt F .bf16

variable (A : LeftC F) (B : RightC F)

/-- The gathered array: slot `q` holds the left factor of the device at position `q`. -/
def G : S32x1024x512.Idx → Elt F .bf16 := fun i => A (dev (i 0)) (ix2 (i 1) (i 2))

/-- The rows a load of slot `q` reads. -/
def rows (q : Fin 32) : S1x1024x512.Idx → Elt F .bf16 := fun i => A (dev q) (ix2 (i 1) (i 2))

/-- The block of products device `c` makes of slot `q`. -/
def tile (c : Dev nD) (q : Fin 32) : S1024x1024.Idx → Elt F .bf16 :=
  truncf .bf16 (matmul dot_S1024x512_S512x1024_S1024x1024_1_0_0_1_n_n none
    (shapeCast S1024x512 (rows A q) shapeCasts_S1x1024x512_S1024x512 : FVec F S1024x512 .bf16)
    (shapeCast S512x1024 (B c) shapeCasts_S512x1024_S512x1024 : FVec F S512x1024 .bf16)
    (constant S1024x1024 .f32 0x00000000#32 : FVec F S1024x1024 .f32)) bitsLt_bf16_f32

/-- The product buffer with the block `T` in every slot. -/
def VF (T : S1024x1024.Idx → Elt F .bf16) : S4x1024x1024.Idx → Elt F .bf16 := fun i => T (ix2 (i 1) (i 2))

/-- The result of device `c`: the row block of device `d` is the product of the slot at `d`'s position. -/
def OutF (c : Dev nD) : S32768x1024.Idx → Elt F .bf16 := fun i =>
  tile A B c (pos (⟨(i 0).val / 1024, by have : (i 0).val < 32768 := (i 0).isLt; omega⟩ : Fin 32))
    (ix2 (⟨(i 0).val % 1024, Nat.mod_lt _ (by norm_num)⟩ : Fin 1024) (i 1))

theorem G_at (q : Fin 32) (x : S1x1024x512.Idx) : G A ((slotR q).emb x) = rows A q x := by
  unfold G rows
  have h0 : ((slotR q).emb x) 0 = q := Fin.ext (by
    have h : (x 0).val < 1 := (x 0).isLt
    show q.val + 1 * (x 0).val = q.val
    omega)
  have h1 : ((slotR q).emb x) 1 = x 1 := Fin.ext (by show 0 + 1 * (x 1).val = (x 1).val; omega)
  have h2 : ((slotR q).emb x) 2 = x 2 := Fin.ext (by show 0 + 1 * (x 2).val = (x 2).val; omega)
  rw [h0, h1, h2]

theorem VF_at (T : S1024x1024.Idx → Elt F .bf16) (s : Fin 4) (x : S1x1024x1024.Idx) :
    VF T ((vslotR s).emb x) = T (ix2 (x 1) (x 2)) := by
  unfold VF
  have h1 : ((vslotR s).emb x) 1 = x 1 := Fin.ext (by show 0 + 1 * (x 1).val = (x 1).val; omega)
  have h2 : ((vslotR s).emb x) 2 = x 2 := Fin.ext (by show 0 + 1 * (x 2).val = (x 2).val; omega)
  rw [h1, h2]

theorem OutF_at (c : Dev nD) (q : Fin 32) (x : S1024x1024.Idx) : OutF A B c ((rowsR (dev q)).emb x) = tile A B c q x := by
  have h : (x 0).val < 1024 := (x 0).isLt
  have hv : (((rowsR (dev q)).emb x) 0).val = (dev q).val * 1024 + (x 0).val := by
    show (dev q).val * 1024 + 1 * (x 0).val = _; omega
  have e0 : (⟨(((rowsR (dev q)).emb x) 0).val / 1024, by have : (((rowsR (dev q)).emb x) 0).val < 32768 := (((rowsR (dev q)).emb x) 0).isLt; omega⟩ : Fin 32) = dev q :=
    Fin.ext (by show (((rowsR (dev q)).emb x) 0).val / 1024 = _; rw [hv]; omega)
  have e1 : (⟨(((rowsR (dev q)).emb x) 0).val % 1024, Nat.mod_lt _ (by norm_num)⟩ : Fin 1024) = x 0 :=
    Fin.ext (by show (((rowsR (dev q)).emb x) 0).val % 1024 = _; rw [hv]; omega)
  have e2 : ((rowsR (dev q)).emb x) 1 = x 1 := Fin.ext (by show 0 + 1 * (x 1).val = (x 1).val; omega)
  unfold OutF
  rw [e0, e1, e2, pos_dev]
  exact congrArg _ (eq_ix2 x).symm

/-! ## What is read, stored and copied -/

/-- A load of slot `q` reads its rows. -/
theorem read_slot (q : Fin 32) : (commM.access (slotR q)).read (Elt F) (G A) = rows A q := by
  funext x; exact G_at A q x

/-- Storing a left factor into its own slot leaves the gathered array's slot. -/
theorem store_slot (c : Dev nD) (f : S32x1024x512.Idx → Elt F .bf16) (w : S1x1024x512.Idx → Elt F .bf16) (hw : w = rows A (pos c)) :
    ∀ i ∈ (slotR (pos c)).set, (commM.access (slotR (pos c))).write (Elt F) f w Finset.univ i = G A i := by
  intro i hi
  rw [← Rect.map_emb_univ] at hi
  obtain ⟨x, -, rfl⟩ := Finset.mem_map.mp hi
  rw [G_at, ← hw]
  exact View.write_emb_of_mem (v := commM.access (slotR (pos c))) f w (Finset.mem_univ x)

/-- A block stored into a slot of the product buffer is there. -/
theorem store_vslot (s : Fin 4) (f : S4x1024x1024.Idx → Elt F .bf16) (T : S1024x1024.Idx → Elt F .bf16)
    (h : S1024x1024.ShapeCasts S1x1024x1024) :
    ∀ i ∈ (vslotR s).set, (voutM.access (vslotR s)).write (Elt F) f (shapeCast S1x1024x1024 T h) Finset.univ i = VF T i := by
  intro i hi
  rw [← Rect.map_emb_univ] at hi
  obtain ⟨x, -, rfl⟩ := Finset.mem_map.mp hi
  rw [VF_at]
  refine (View.write_emb_of_mem (v := voutM.access (vslotR s)) f _ (Finset.mem_univ x)).trans ?_
  show shapeCast S1x1024x1024 T h x = _
  rw [eq_ix3 x]
  exact shapeCast_ab_1ab_apply T h _ _ _

/-- A slot copied between two devices' gathered arrays arrives as it was. -/
theorem land_slot (q : Fin 32) (f g : S32x1024x512.Idx → Elt F .bf16) :
    ∀ i ∈ (slotR q).set, (slotM q).view.write (Elt F) f ((slotM q).view.read (Elt F) g) Finset.univ i = g i := by
  intro i hi
  rw [View.write_read_eq_piecewise, View.setOn_univ, slotM_set]
  exact Finset.piecewise_eq_of_mem _ _ _ hi

theorem vslotM_emb (s : Fin 4) (a b : Fin 1024) : (vslotM s).view.emb (ix2 a b) = (vslotR s).emb (ix3 (0 : Fin 1) a b) :=
  congrArg (vslotR s).emb (reshapeEquiv_ix2_1ab _ a b)

/-- A slot of the product buffer, read as the block it is. -/
theorem VF_view (T : S1024x1024.Idx → Elt F .bf16) (s : Fin 4) (x : S1024x1024.Idx) : VF T ((vslotM s).view.emb x) = T x := by
  obtain ⟨a, b, rfl⟩ : ∃ a b : Fin 1024, x = ix2 a b := ⟨x 0, x 1, eq_ix2 x⟩
  rw [vslotM_emb, VF_at]

/-- A slot of the product buffer copied to the rows of device `dev q` makes them the result's. -/
theorem land_rows (c : Dev nD) (q : Fin 32) (s : Fin 4) (f : S32768x1024.Idx → Elt F .bf16) :
    ∀ i ∈ (rowsR (dev q)).set, (rowsM (dev q)).view.write (Elt F) f ((vslotM s).view.read (Elt F) (VF (tile A B c q))) Finset.univ i = OutF A B c i := by
  intro i hi
  rw [← Rect.map_emb_univ] at hi
  obtain ⟨x, -, rfl⟩ := Finset.mem_map.mp hi
  rw [OutF_at]
  refine (View.write_emb_of_mem (v := (rowsM (dev q)).view) f _ (Finset.mem_univ x)).trans ?_
  exact VF_view (F := F) (tile A B c q) s x

/-- What the prologue stores is the rows of the device's own slot. -/
theorem own_rows (c : Dev nD) (h1 : S1024x512.ShapeCasts S1024x512) (h2 : S1024x512.ShapeCasts S1x1024x512) (h3 : S1x1024x512.ShapeCasts S1x1024x512) :
    shapeCast S1x1024x512 (shapeCast S1x1024x512 (shapeCast S1024x512 (A c) h1) h2) h3 = rows A (pos c) := by
  have e1 : shapeCast S1024x512 (A c) h1 = A c := by
    funext x; exact shapeCast_apply _ _ _ _ rfl
  rw [e1]
  funext x
  unfold rows
  rw [dev_pos]
  refine (shapeCast_apply _ h3 x x rfl).trans ?_
  rw [eq_ix3 x]
  exact shapeCast_ab_1ab_apply (A c) h2 _ _ _

end Cert.KernelIdeal.Walk
-- ==== Proof.KernelIdeal.Talk.lean ====
/- What the devices tell one another through their semaphores: the cells, what each payment of a cell brings, what each
   device owes, and in which order the waits may stand. -/
module

public import proofs.«01_k».proof.Proof.KernelIdeal.Slots

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

abbrev UB : Type := URounds (GSem nD τ sig) Bool
abbrev UU : Type := UR sig nD τ × UB

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The cells -/

abbrev barS : Sem sig := (0 : Fin 1)
/-- The transfer semaphore of number `n`. -/
def dsem (n : ℕ) : DmaSem sig := (Fin.ofNat 99 n : Fin 99)
/-- The semaphore of the `i`-th send of direction `o`. -/
def sS (o : Bool) (i : ℕ) : DmaSem sig := dsem ((if o then 36 else 52) + i)
/-- The semaphore of arrivals in slot `q`. -/
def rS (q : Fin 32) : DmaSem sig := dsem (4 + q.val)
/-- The semaphore of the `j`-th copy into the result. -/
def kS (j : ℕ) : DmaSem sig := dsem (67 + j)

abbrev barCell (c : Dev nD) : GSem nD τ sig := ((c : Thread nD τ), .reg barS)
abbrev sCell (o : Bool) (c : Dev nD) (i : ℕ) : GSem nD τ sig := ((c : Thread nD τ), .dma (sS o i))
abbrev rCell (c : Dev nD) (q : Fin 32) : GSem nD τ sig := ((c : Thread nD τ), .dma (rS q))
abbrev kCell (c : Dev nD) (j : ℕ) : GSem nD τ sig := ((c : Thread nD τ), .dma (kS j))

theorem dsem_val (n : ℕ) (h : n < 99) : (dsem n).val = n := Nat.mod_eq_of_lt h

theorem rS_val (q : Fin 32) : (rS q).val = 4 + q.val := dsem_val _ (by omega)
theorem sS_val (o : Bool) (i : ℕ) (h : i < lim o) : (sS o i).val = (if o then 36 else 52) + i :=
  dsem_val _ (by cases o <;> simp [lim] at * <;> omega)
theorem kS_val (j : ℕ) (h : j < 32) : (kS j).val = 67 + j := dsem_val _ (by omega)

/-- The amount of a slot's transfer, and of a row block's copy. -/
@[irreducible] def N : ℕ := (slotM 0).view.dmaCredit
@[irreducible] def NO : ℕ := (rowsM 0).view.dmaCredit

theorem slotM_credit (q : Fin 32) : (slotM q).view.dmaCredit = N := by unfold N; rfl
theorem rowsM_credit (x : Fin 32) : (rowsM x).view.dmaCredit = NO := by unfold NO; rfl

theorem N_pos : 0 < N := by unfold N; exact View.dmaCredit_pos _ (by decide)
theorem NO_pos : 0 < NO := by unfold NO; exact View.dmaCredit_pos _ (by decide)

/-! ## The parts of the buffers -/

/-- Slot `q` of device `d`'s gathered array, at share `sh`, holding `f`. -/
def slotPt (d : Dev nD) (q : Fin 32) (sh : PosShare TreeShare) (f : S32x1024x512.Idx → Elt F .bf16) : sProp 𝕄 :=
  ((d : Thread nD τ).loc cc0_scratch0) ↦[(slotR q).set]{sh} f
/-- Slot `s` of device `d`'s product buffer, holding `f`. -/
def voutPt (d : Dev nD) (s : Fin 4) (f : S4x1024x1024.Idx → Elt F .bf16) : sProp 𝕄 :=
  ((d : Thread nD τ).loc cc0_scratch1) ↦[(vslotR s).set]{fullShare} f
/-- The rows of device `d`'s result made of `x`'s left factor, holding `f`. -/
def rowsPt (d : Dev nD) (x : Fin 32) (f : S32768x1024.Idx → Elt F .bf16) : sProp 𝕄 :=
  ((d : Thread nD τ).loc main_v1) ↦[(rowsR x).set]{fullShare} f

omit [FloatOps F] in
instance slotPt_storable (d : Dev nD) (q sh) (f) : BI.Storable (upEmb : UEmb _ 𝕄) (slotPt (F := F) d q sh f) := by unfold slotPt; infer_instance
omit [FloatOps F] in
instance voutPt_storable (d : Dev nD) (s) (f) : BI.Storable (upEmb : UEmb _ 𝕄) (voutPt (F := F) d s f) := by unfold voutPt; infer_instance
omit [FloatOps F] in
instance rowsPt_storable (d : Dev nD) (x) (f) : BI.Storable (upEmb : UEmb _ 𝕄) (rowsPt (F := F) d x f) := by unfold rowsPt; infer_instance

/-- The share of its slot that the `i`-th send of direction `o` reads: the device's own slot is sent both ways. -/
def sh (o : Bool) (i : ℕ) : PosShare TreeShare :=
  if i = 0 then (if o then fullShare.left.left else fullShare.left.right) else fullShare.left

/-- The slot of the product buffer the `j`-th block goes through. -/
def vs (j : ℕ) : Fin 4 := Fin.ofNat 4 j

theorem vs_add (j : ℕ) : vs (j + 4) = vs j := Fin.ext (by simp [vs, Fin.ofNat])

/-! ## The schedule -/

variable (A : LeftC F) (B : RightC F)

/-- What the barrier payment of duty `o` brings device `d`: its neighbour's slots that `d` will fill, free. -/
def barPay (d : Dev nD) (o : Bool) : sProp 𝕄 :=
  bigSep (Finset.Ico 0 (lim o)) fun i =>
    iprop((∃ f, slotPt (F := F) (nb o d) (sl o (pos d) i) fullShare f) ∗ reached ER (rCell (nb o d) (sl o (pos d) i)) 0)

/-- What the `j`-th copy of device `d` brings: the rows done and the slot of the product buffer free. -/
def copyPay (d : Dev nD) (j : ℕ) : sProp 𝕄 :=
  iprop(rowsPt d (dev (ord (pos d) j)) (OutF A B d) ∗ ∃ f, voutPt (F := F) d (vs j) f)

/-- What the transfer on device `d`'s semaphore `n` brings it. -/
def dmaPay (d : Dev nD) (n : ℕ) : sProp 𝕄 :=
  if n < 36 then slotPt d (Fin.ofNat 32 (n - 4)) fullShare (G A)
  else if n < 52 then slotPt d (sl true (pos d) (n - 36)) (sh true (n - 36)) (G A)
  else if n < 67 then slotPt d (sl false (pos d) (n - 52)) (sh false (n - 52)) (G A)
  else copyPay A B d (n - 67)

instance barPay_storable (d : Dev nD) (o : Bool) : BI.Storable (upEmb : UEmb _ 𝕄) (barPay (F := F) d o) := by
  unfold barPay; infer_instance
instance dmaPay_storable (d : Dev nD) (n : ℕ) : BI.Storable (upEmb : UEmb _ 𝕄) (dmaPay A B d n) := by
  unfold dmaPay copyPay
  (repeat' split) <;> infer_instance

def Rd : Rounds.Schedule (GSem nD τ sig) Bool 𝕄 where
  duties g r := if r = 0 ∧ g.1.2 = .tc then (match g.2 with | .reg _ => Finset.univ | .dma n => if 4 ≤ n.val then {false} else ∅) else ∅
  unitless _ := False
  amount g _ _ := match g.2 with | .reg _ => 1 | .dma n => if n.val < 67 then N else NO
  payload g _ d := match g.2 with | .reg _ => barPay g.1.1 d | .dma n => dmaPay A B g.1.1 n.val
  amount_pos g _ _ _ := by
    split
    · exact Nat.one_pos
    · split
      · exact N_pos
      · exact NO_pos

instance Rd_payload_storable (g : GSem nD τ sig) (r : ℕ) (d : Bool) : BI.Storable (upEmb : UEmb _ 𝕄) ((Rd A B).payload g r d) := by
  show BI.Storable upEmb (match g.2 with | .reg _ => barPay g.1.1 d | .dma n => dmaPay A B g.1.1 n.val)
  split <;> infer_instance

section Sched
variable (c : Dev nD)

theorem duties_bar : (Rd A B).duties (barCell c) 0 = Finset.univ := by
  dsimp only [Rd]; exact if_pos ⟨rfl, rfl⟩
theorem duties_dma (n : DmaSem sig) (h : 4 ≤ n.val) : (Rd A B).duties ((c : Thread nD τ), .dma n) 0 = {false} := by
  dsimp only [Rd]
  simp only [true_and, if_true, if_pos h]
theorem duties_later (g : GSem nD τ sig) : ∀ r, 1 ≤ r → (Rd A B).duties g r = ∅ :=
  fun r hr => if_neg fun h => by omega

theorem amount_bar (d : Bool) : (Rd A B).amount (barCell c) 0 d = 1 := rfl
theorem amount_slot (n : DmaSem sig) (h : n.val < 67) (d : Bool) : (Rd A B).amount ((c : Thread nD τ), .dma n) 0 d = N := if_pos h
theorem amount_rows (n : DmaSem sig) (h : ¬ n.val < 67) (d : Bool) : (Rd A B).amount ((c : Thread nD τ), .dma n) 0 d = NO := if_neg h

theorem expect_bar : (Rd A B).expect (barCell c) 0 = 2 := by
  unfold Schedule.expect Schedule.amountOf
  rw [duties_bar, Finset.sum_congr rfl fun d _ => amount_bar A B c d, Finset.sum_const, Finset.card_univ, Fintype.card_bool, smul_eq_mul]
theorem expect_dma (n : DmaSem sig) (h : 4 ≤ n.val) : (Rd A B).expect ((c : Thread nD τ), .dma n) 0 = if n.val < 67 then N else NO := by
  unfold Schedule.expect Schedule.amountOf
  rw [duties_dma A B c n h, Finset.sum_singleton]; rfl

theorem payload_bar (o : Bool) : (Rd A B).payload (barCell c) 0 o = barPay c o := rfl
theorem payload_dma (n : DmaSem sig) (d : Bool) : (Rd A B).payload ((c : Thread nD τ), .dma n) 0 d = dmaPay A B c n.val := rfl

theorem payload_r (q : Fin 32) (d : Bool) : (Rd A B).payload (rCell c q) 0 d = slotPt c q fullShare (G A) := by
  rw [payload_dma, rS_val]; unfold dmaPay
  rw [if_pos (by omega)]
  congr 1
  exact Fin.ext (by show (4 + q.val - 4) % 32 = q.val; omega)
theorem payload_s (o : Bool) (i : ℕ) (h : i < lim o) (d : Bool) :
    (Rd A B).payload (sCell o c i) 0 d = slotPt c (sl o (pos c) i) (sh o i) (G A) := by
  rw [payload_dma, sS_val o i h]; unfold dmaPay
  cases o
  · simp only [lim, Bool.false_eq_true, if_false] at h ⊢
    rw [if_neg (by omega), if_neg (by omega), if_pos (by omega), Nat.add_sub_cancel_left]
  · simp only [lim, if_true] at h ⊢
    rw [if_neg (by omega), if_pos (by omega), Nat.add_sub_cancel_left]
theorem payload_k (j : ℕ) (h : j < 32) (d : Bool) : (Rd A B).payload (kCell c j) 0 d = copyPay A B c j := by
  rw [payload_dma, kS_val j h]; unfold dmaPay
  rw [if_neg (by omega), if_neg (by omega), if_neg (by omega), Nat.add_sub_cancel_left]

theorem rest_bar : bigSep ((Rd A B).duties (barCell c) 0 \ ∅) (fun d => (Rd A B).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_dma (n : DmaSem sig) (h : 4 ≤ n.val) :
    bigSep ((Rd A B).duties ((c : Thread nD τ), .dma n) 0 \ ∅) (fun d => (Rd A B).payload ((c : Thread nD τ), .dma n) 0 d)
      = (Rd A B).payload ((c : Thread nD τ), .dma n) 0 false := by
  rw [Finset.sdiff_empty, duties_dma A B c n h, bigSep_singleton]

end Sched

/-! ## What each device owes, and the levels -/

/-- What device `c` owes its neighbour in direction `o` from its `a`-th send on. -/
def Ot (o : Bool) (c : Dev nD) (a : ℕ) : CellTallies nD τ sig Unit :=
  ∑ i ∈ Finset.Ico a (lim o), tallyAt (rCell (nb o c) (sl o (pos c) i)) () N

/-- What device `c` owes before its `a`-th clockwise and its `b`-th other send. -/
def O (c : Dev nD) (a b : ℕ) : CellTallies nD τ sig Unit := Ot true c a + Ot false c b
/-- What it owes before its second, and before its first barrier signal. -/
def O₁ (c : Dev nD) : CellTallies nD τ sig Unit := O c 0 0 + tallyAt (barCell (nb true c)) () 1
def O₀ (c : Dev nD) : CellTallies nD τ sig Unit := O₁ c + tallyAt (barCell (nb false c)) () 1

theorem Ot_step (o : Bool) (c : Dev nD) (a : ℕ) (h : a < lim o) :
    Ot o c a = Ot o c (a + 1) + tallyAt (rCell (nb o c) (sl o (pos c) a)) () N := by
  unfold Ot
  rw [Ring.sum_Ico_succ h, add_comm]

theorem Ot_end (o : Bool) (c : Dev nD) : Ot o c (lim o) = 0 := by unfold Ot; rw [Finset.Ico_self, Finset.sum_empty]
theorem O_end (c : Dev nD) : O c 16 15 = 0 := by
  unfold O; rw [show (16 : ℕ) = lim true from rfl, show (15 : ℕ) = lim false from rfl, Ot_end, Ot_end, add_zero]

def L (g : GSem nD τ sig) : Finset Unit := if g.1.2 = .tc then {()} else ∅
def lv (g : GSem nD τ sig) (_ : Unit) : ℕ :=
  match g.2 with
  | .reg _ => 1
  | .dma n => if 4 ≤ n.val ∧ n.val < 36 then rank (pos g.1.1) (Fin.ofNat 32 (n.val - 4)) + 1 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_r (c : Dev nD) (q : Fin 32) : lv (rCell c q) () = rank (pos c) q + 1 := by
  show (if 4 ≤ (rS q).val ∧ (rS q).val < 36 then rank (pos c) (Fin.ofNat 32 ((rS q).val - 4)) + 1 else 0) = _
  rw [rS_val, if_pos ⟨by omega, by omega⟩]
  congr 2
  exact Fin.ext (by show (4 + q.val - 4) % 32 = q.val; omega)
theorem lv_other (c : Dev nD) (n : DmaSem sig) (h : ¬ (4 ≤ n.val ∧ n.val < 36)) : lv ((c : Thread nD τ), .dma n) () = 0 := if_neg h

theorem Ot_pos {o : Bool} {c : Dev nD} {a : ℕ} {g : GSem nD τ sig} {u : Unit} (h : 0 < Ot o c a g u) :
    ∃ i, a ≤ i ∧ i < lim o ∧ g = rCell (nb o c) (sl o (pos c) i) := by
  unfold Ot at h
  rw [Finset.sum_apply, Finsupp.finset_sum_apply] at h
  obtain ⟨i, hi, hne⟩ := Finset.exists_ne_zero_of_sum_ne_zero (Nat.pos_iff_ne_zero.mp h)
  rw [tallyAt_apply] at hne
  rw [Finset.mem_Ico] at hi
  refine ⟨i, hi.1, hi.2, ?_⟩
  by_contra hg
  exact hne (if_neg fun h' => hg h'.1)

/-- Owing from the `a`-th clockwise and the `b`-th other send on, a device may wait on a cell of level at most `k`. -/
theorem mayWait (c : Dev nD) (sm : SemLoc sig) (a b k : ℕ) (hk : lv ((c : Thread nD τ), sm) () ≤ k)
    (ha : k < a + 2 ∨ a = 16) (hb : k < b + 2 ∨ b = 15) :
    (levAts L lv : sProp 𝕄) ⊢ MayWait (c : Thread nD τ) sm () (O c a b) := by
  have key : ∀ (g : GSem nD τ sig) (u : Unit), 0 < O c a b g u → ∃ d q, g = rCell d q ∧ k < lv g u := by
    intro g u hg
    unfold O at hg
    rw [Pi.add_apply, Finsupp.add_apply] at hg
    rcases Nat.lt_or_ge 0 (Ot true c a g u) with h | h
    · obtain ⟨i, h1, h2, rfl⟩ := Ot_pos h
      have h3 : i < 16 := h2
      refine ⟨_, _, rfl, ?_⟩
      rw [show u = () from rfl, lv_r, rank_nb true c i h2]; omega
    · obtain ⟨i, h1, h2, rfl⟩ := Ot_pos (show 0 < Ot false c b g u by omega)
      have h3 : i < 15 := h2
      refine ⟨_, _, rfl, ?_⟩
      rw [show u = () from rfl, lv_r, rank_nb false c i h2]; omega
  exact MayOwe.of_cut (L := L) (lev := lv) k (fun p hp => by rw [Finset.mem_singleton.mp hp, L_tc]; exact Finset.mem_singleton_self _)
    (fun g u hg => by obtain ⟨d, q, rfl, -⟩ := key g u hg; rw [L_tc]; exact Finset.mem_singleton_self _)
    (fun p hp => by rw [Finset.mem_singleton.mp hp]; exact hk)
    (fun g u hg => by obtain ⟨d, q, -, h⟩ := key g u hg; exact h)

end Cert.KernelIdeal.Walk
-- ==== Proof.KernelIdeal.State.lean ====
/- What a device holds as its body runs: the two directions of its ring, by how many blocks it has sent, received and
   seen leave, and its copies into the result, by how many blocks it has computed and seen copied. -/
module

public import proofs.«01_k».proof.Proof.KernelIdeal.Talk
public import Idealize.SL.BI.BigOpNat

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (A : LeftC F) (B : RightC F)

/-! ## The records -/

theorem barCell_injective : Function.Injective (barCell : Dev nD → GSem nD τ sig) := fun a b h =>
  congrArg (fun g : GSem nD τ sig => g.1.1) h

abbrev scCell (x : Dev nD × Fin 95) : GSem nD τ sig := ((x.1 : Thread nD τ), .dma (dsem (4 + x.2.val)))

theorem scCell_injective : Function.Injective scCell := fun a b h => by
  have h1 : a.1 = b.1 := congrArg (fun g : GSem nD τ sig => g.1.1) h
  have h2 : dsem (4 + a.2.val) = dsem (4 + b.2.val) := SemLoc.dma.inj (congrArg (fun g : GSem nD τ sig => g.2) h)
  have h3 : 4 + a.2.val = 4 + b.2.val := by
    rw [← dsem_val (4 + a.2.val) (by omega), ← dsem_val (4 + b.2.val) (by omega), h2]
  exact Prod.ext h1 (Fin.ext (by omega))

/-- The cells open from the start, and those each device opens for itself. -/
def barCells : Finset (GSem nD τ sig) := Finset.univ.map ⟨barCell, barCell_injective⟩
def scCells : Finset (GSem nD τ sig) := Finset.univ.map ⟨scCell, scCell_injective⟩

theorem bar_mem (c : Dev nD) : barCell c ∈ barCells ∪ scCells :=
  Finset.mem_union_left _ (Finset.mem_map.mpr ⟨c, Finset.mem_univ _, rfl⟩)
theorem dma_mem (c : Dev nD) (n : DmaSem sig) (h : 4 ≤ n.val) : ((c : Thread nD τ), SemLoc.dma n) ∈ barCells ∪ scCells := by
  have hn : n.val < 99 := n.isLt
  refine Finset.mem_union_right _ (Finset.mem_map.mpr ⟨(c, ⟨n.val - 4, by omega⟩), Finset.mem_univ _, ?_⟩)
  show ((c : Thread nD τ), SemLoc.dma (dsem (4 + (n.val - 4)))) = _
  congr 2
  exact Fin.ext (by rw [dsem_val _ (by omega)]; omega)

/-- Every cell's invariant, under one map of names. -/
def records (κ : GSem nD τ sig → ℕ) : sProp 𝕄 := bigSep (barCells ∪ scCells) fun g => cellInv ER (Rd A B) (κ g) g

instance records_persistent (κ : GSem nD τ sig → ℕ) : BI.Persistent (records A B κ) := by unfold records; infer_instance

theorem records_at (κ : GSem nD τ sig → ℕ) (g : GSem nD τ sig) (h : g ∈ barCells ∪ scCells) :
    records A B κ ⊢ cellInv ER (Rd A B) (κ g) g := by unfold records; exact bigSep_elim h

theorem rS_ge (q : Fin 32) : 4 ≤ (rS q).val := by rw [rS_val]; omega
theorem sS_ge (o : Bool) (i : ℕ) (h : i < lim o) : 4 ≤ (sS o i).val := by rw [sS_val o i h]; cases o <;> simp <;> omega
theorem kS_ge (j : ℕ) (h : j < 32) : 4 ≤ (kS j).val := by rw [kS_val j h]; omega

theorem rS_lt (q : Fin 32) : (rS q).val < 67 := by rw [rS_val]; omega
theorem sS_lt (o : Bool) (i : ℕ) (h : i < lim o) : (sS o i).val < 67 := by
  rw [sS_val o i h]; revert h; cases o <;> simp [lim] <;> omega

/-! ## One direction -/

/-- What a device pays its `i`-th send of direction `o` with: the tokens of both cells and the free slot at the neighbour. -/
def sendTodo (o : Bool) (c : Dev nD) (i : ℕ) : sProp 𝕄 :=
  iprop(dutyTok ER (sCell o c i) 0 false ∗ reached ER (sCell o c i) 0
    ∗ dutyTok ER (rCell (nb o c) (sl o (pos c) i)) 0 false ∗ reached ER (rCell (nb o c) (sl o (pos c) i)) 0
    ∗ ∃ f, slotPt (F := F) (nb o c) (sl o (pos c) i) fullShare f)
/-- A send that has been waited for: its semaphore at rest and the lent part of the slot back. -/
def sentDone (o : Bool) (c : Dev nD) (i : ℕ) : sProp 𝕄 :=
  iprop(semVal (sCell o c i) 0 ∗ slotPt c (sl o (pos c) i) (sh o i) (G A))
/-- A block to come: the position at its arrival and the right to wait. -/
def recvTodo (o : Bool) (c : Dev nD) (i : ℕ) : sProp 𝕄 :=
  iprop(atPos ER (rCell c (sl o (pos c) i)) 0 ∅ 0 ∗ cred (tallyAt (rCell c (sl o (pos c) i)) () N))
/-- The part of a slot the device keeps to read, and the part it lends to its next send. -/
def keep (o : Bool) (c : Dev nD) (i : ℕ) : sProp 𝕄 := slotPt c (sl o (pos c) i) fullShare.right (G A)
def lend (o : Bool) (c : Dev nD) (i : ℕ) : sProp 𝕄 := slotPt c (sl o (pos c) i) (sh o i) (G A)

/-- The least distance at which direction `o` keeps a slot: the own slot counts once. -/
def lo (o : Bool) : ℕ := if o then 1 else 0

/-- Direction `o` of device `c` after `a` sends, with the blocks at distance below `r` there and `w` sends waited for. -/
def dirPart (o : Bool) (c : Dev nD) (a r w : ℕ) : sProp 𝕄 :=
  iprop(bigSep (Finset.Ico a (lim o)) (sendTodo (F := F) o c)
    ∗ bigSep (Finset.Ico w a) (fun i => cred (tallyAt (sCell o c i) () N))
    ∗ bigSep (Finset.Ico w (lim o)) (fun i => atPos ER (sCell o c i) 0 ∅ 0)
    ∗ bigSep (Finset.Ico 0 w) (sentDone A o c)
    ∗ bigSep (Finset.Ico r (lim o + 1)) (recvTodo (F := F) o c)
    ∗ bigSep (Finset.Ico 1 r) (fun i => semVal (rCell c (sl o (pos c) i)) 0)
    ∗ bigSep (Finset.Ico (lo o) r) (keep A o c)
    ∗ bigSep (Finset.Ico a r) (lend A o c))

/-- The runs of a device's body. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
/-- A slot's part as the memref of the slot sees it. -/
theorem slotPt_view (d : Dev nD) (q : Fin 32) (sh : PosShare TreeShare) (f : S32x1024x512.Idx → Elt F .bf16) :
    slotPt d q sh f = (((slotM q).view.loc (d : Thread nD τ)) ↦[(slotM q).view.set]{sh} f : sProp 𝕄) := by
  rw [slotM_set]; rfl

/-- A slot written over with another's contents holds them. -/
theorem slotPt_landed (d : Dev nD) (q : Fin 32) (f g : S32x1024x512.Idx → Elt F .bf16) :
    (((slotM q).view.loc (d : Thread nD τ)) ↦[(slotM q).view.set]{fullShare}
        ((slotM q).view.write (Elt F) f ((slotM q).view.read (Elt F) g) Finset.univ) : sProp 𝕄) ⊢ slotPt d q fullShare g := by
  rw [slotPt_view]
  refine Entails.of_eq (pointsTo_congr fun i hi => ?_)
  rw [slotM_set] at hi
  exact land_slot q f g i hi

/-- The transfer of one slot to another device. -/
theorem send_slot (c n : Dev nD) (q : Fin 32) (sv rv : DmaSem sig)
    (κ₁ κ₂ : ℕ) (sh : PosShare TreeShare) (g fd : S32x1024x512.Idx → Elt F .bf16)
    (O₀ O : CellTallies nD τ sig Unit) (W : Waits sig Unit)
    (hd₁ : false ∈ (Rd A B).duties ((c : Thread nD τ), .dma sv) 0) (hd₂ : false ∈ (Rd A B).duties ((n : Thread nD τ), .dma rv) 0)
    (hk₁ : (Rd A B).amount ((c : Thread nD τ), .dma sv) 0 false = N) (hk₂ : (Rd A B).amount ((n : Thread nD τ), .dma rv) 0 false = N)
    (hO : O₀ = O + tallyAt ((n : Thread nD τ), .dma rv) () N)
    (hp₁ : slotPt c q sh g ⊢ (Rd A B).payload ((c : Thread nD τ), .dma sv) 0 false)
    (hp₂ : slotPt n q fullShare g ⊢ (Rd A B).payload ((n : Thread nD τ), .dma rv) 0 false)
    {hsc : (slotM q : Memref sig (Dev.tc n : Thread nD τ).2.kind .vmem S1024x512 .bf16).view.ref.isScScratch = false}
    {hsrc : (slotM q).view.WordExact} {hdst : (slotM q).view.WordExact}
    {hsem : DmaTarget.Typed .vmem (.dma rv) (.remote (Dev.tc n : Thread nD τ) (slotM q) (.dma sv) hsc)}
    {α : Type} {Q : α → sProp 𝕄} {k : PUnit → Prog (TpuEff nD τ sig (Elt F) Λ₀ .tc) α} :
    iprop(cellInv ER (Rd A B) κ₁ ((c : Thread nD τ), .dma sv) ∗ cellInv ER (Rd A B) κ₂ ((n : Thread nD τ), .dma rv)
        ∗ slotPt c q sh g ∗ slotPt n q fullShare fd
        ∗ owes (c : Thread nD τ) O₀ W
        ∗ dutyTok ER ((c : Thread nD τ), .dma sv) 0 false ∗ reached ER ((c : Thread nD τ), .dma sv) 0
        ∗ dutyTok ER ((n : Thread nD τ), .dma rv) 0 false ∗ reached ER ((n : Thread nD τ), .dma rv) 0)
      ⊢ iprop(((cred (tallyAt ((c : Thread nD τ), .dma sv) () N) ∗ owes (c : Thread nD τ) O W) -∗ Runs c (k ⟨⟩) Q)
          -∗ Runs c (.op (.enqueueDma (slotM q) (.remote (Dev.tc n : Thread nD τ) (slotM q) (.dma sv) hsc)
                (.dma rv) hsrc hdst hsem) k) Q) := by
  rw [slotPt_view] at hp₁
  rw [slotPt_view, slotPt_view]
  exact @Rounds.wp_send_pointsTo nD τ sig Unit _ Bool _ (Elt F) ℕ _ UU _ ℕ Λ₀ _ (defs₀ (F := F)) 𝒱₀ ER (Rd A B) (c : Thread nD τ) none .empty α Q
     .vmem .vmem S1024x512 .bf16 (n : Thread nD τ) (slotM q) (slotM q) hsc (.dma sv) (.dma rv) hsrc hdst hsem k sh g fd 0 0 false false κ₁ κ₂
     hd₁ hd₂ () () N (slotM_credit q) hk₁ hk₂ O₀ O hO W hp₁ ((slotPt_landed n q fd g).trans hp₂) Set.univ (by routes)

/-- A wait on a transfer's semaphore, which takes what the transfer left and puts the semaphore to rest. -/
theorem wait_close (c : Dev nD) (n : DmaSem sig) (h : 4 ≤ n.val) (κ K : ℕ) (O : CellTallies nD τ sig Unit)
    (hE : (Rd A B).expect ((c : Thread nD τ), .dma n) 0 = K)
    {sp sp' : Space} {s s' : Shape} {e e' : EltTy} {src : Memref sig .tc sp s e} {dst : Memref sig .tc sp' s' e'}
    {hsrc : src.view.WordExact} {hdst : dst.view.WordExact} (hN : dst.view.dmaCredit = K)
    {α : Type} {Q : α → sProp 𝕄} {k : PUnit → Prog (TpuEff nD τ sig (Elt F) Λ₀ .tc) α} :
    iprop(cellInv ER (Rd A B) κ ((c : Thread nD τ), .dma n) ∗ cred (tallyAt ((c : Thread nD τ), SemLoc.dma n) () K)
        ∗ (∃ W, owes (c : Thread nD τ) O W) ∗ MayWait (c : Thread nD τ) (.dma n) () O ∗ atPos ER ((c : Thread nD τ), .dma n) 0 ∅ 0)
      ⊢ iprop((((∃ W, owes (c : Thread nD τ) O W) ∗ semVal ((c : Thread nD τ), .dma n) 0
            ∗ (Rd A B).payload ((c : Thread nD τ), .dma n) 0 false) -∗ Runs c (k ⟨⟩) Q)
          -∗ Runs c (.op (.waitDma2 n src dst hsrc hdst) k) Q) := by
  subst hN
  iintro ⟨#HI, Hc, ⟨%W, HO⟩, HM, Hat⟩ Hk
  iapply (Rounds.wp_wait_rest_token 𝒱₀ ER (Rd A B) (c : Thread nD τ) none (κ := κ)
      (wpE_waitDma2_eq 𝒱₀ (c : Thread nD τ) none Set.univ) (Set.mem_univ _) () (O := O) (W := W) (R := 0) (m := 0) (T := ∅)
      (by rw [Nat.zero_add, hE])) $$ [Hc HO HM Hat]
  · isplitr; · iexact HI
    isplitl [Hc]; · iexact Hc
    isplitl [HO]; · iexact HO
    isplitl [HM]; · iexact HM
    iexact Hat
  iintro ⟨HO, Hat, -, Hpay⟩
  imod (Rounds.cell_close ER (Rd A B) (Set.mem_univ κ) (fun h => h) (R := 0 + 1) (duties_later A B _)) $$ [Hat] with Hz
  · isplitr; · iexact HI
    iexact Hat
  iapply Hk
  isplitl [HO]; · iexists (insert (SemLoc.dma n, ()) W); iexact HO
  isplitl [Hz]; · iexact Hz
  iapply (Entails.of_eq (rest_dma A B c n h)); iexact Hpay

end Cert.KernelIdeal.Walk
-- ==== Proof.KernelIdeal.Dir.lean ====
/- The three steps of one direction of the ring: a send, the wait for a block, the wait for a send. -/
module

public import proofs.«01_k».proof.Proof.KernelIdeal.State

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (A : LeftC F) (B : RightC F)
/- What persists of the cells: from it, the invariant of every transfer's cell. -/
variable (κ : GSem nD τ sig → ℕ) (RR : sProp (MT nD τ sig Unit (Elt F) ℕ UU ℕ)) [BI.Persistent RR]
  (hR : ∀ (d : Dev nD) (n : DmaSem sig), 4 ≤ n.val → RR ⊢ cellInv ER (Rd A B) (κ ((d : Thread nD τ), .dma n)) ((d : Thread nD τ), .dma n))

include hR in
/-- Send `a` of direction `o`. -/
theorem send_dir (o : Bool) (c n : Dev nD) (hn : n = nb o c) (a r w : ℕ) (ha : a < lim o) (har : a < r) (hw : w ≤ a)
    (X : CellTallies nD τ sig Unit)
    {hsc : (slotM (sl o (pos c) a) : Memref sig (Dev.tc n : Thread nD τ).2.kind .vmem S1024x512 .bf16).view.ref.isScScratch = false}
    {hsrc : (slotM (sl o (pos c) a)).view.WordExact} {hdst : (slotM (sl o (pos c) a)).view.WordExact}
    {hsem : DmaTarget.Typed .vmem (.dma (rS (sl o (pos c) a))) (.remote (Dev.tc n : Thread nD τ) (slotM (sl o (pos c) a)) (.dma (sS o a)) hsc)}
    {α : Type} {Q : α → sProp 𝕄} {k : PUnit → Prog (TpuEff nD τ sig (Elt F) Λ₀ .tc) α} :
    iprop(RR ∗ dirPart A o c a r w ∗ ∃ W, owes (c : Thread nD τ) (X + Ot o c a) W)
      ⊢ iprop(((dirPart A o c (a + 1) r w ∗ ∃ W, owes (c : Thread nD τ) (X + Ot o c (a + 1)) W) -∗ Runs c (k ⟨⟩) Q)
          -∗ Runs c (.op (.enqueueDma (slotM (sl o (pos c) a)) (.remote (Dev.tc n : Thread nD τ) (slotM (sl o (pos c) a)) (.dma (sS o a)) hsc)
                (.dma (rS (sl o (pos c) a))) hsrc hdst hsem) k) Q) := by
  subst hn
  unfold dirPart
  rw [bigSep_Ico_succ_bot ha, bigSep_Ico_succ_bot har, bigSep_Ico_succ_top hw]
  unfold sendTodo lend
  iintro ⟨#HR, ⟨⟨⟨Ht1, #Hr1, Ht2, #Hr2, %fd, Hd⟩, Hs⟩, Hc, Hat, Hdone, Hrt, Hrd, Hk, Hl, Hls⟩, %W, HO⟩ Hnext
  ihave #HI1 := (hR c _ (sS_ge o a ha)) $$ HR
  ihave #HI2 := (hR _ _ (rS_ge _)) $$ HR
  iapply (send_slot A B c (nb o c) (sl o (pos c) a) (sS o a) (rS (sl o (pos c) a)) (κ (sCell o c a)) (κ (rCell (nb o c) (sl o (pos c) a)))
    (sh o a) (G A) fd (X + Ot o c a) (X + Ot o c (a + 1)) W
    (by rw [duties_dma A B c _ (sS_ge o a ha)]; exact Finset.mem_singleton_self _)
    (by rw [duties_dma A B _ _ (rS_ge _)]; exact Finset.mem_singleton_self _)
    (amount_slot A B c _ (sS_lt o a ha) false) (amount_slot A B _ _ (rS_lt _) false)
    (by rw [Ot_step o c a ha, add_assoc])
    (Entails.of_eq (payload_s A B c o a ha false).symm) (Entails.of_eq (payload_r A B _ _ false).symm)) $$ [Ht1 Ht2 Hd Hl HO]
  · isplitr; · iexact HI1
    isplitr; · iexact HI2
    isplitl [Hl]; · iexact Hl
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply Hnext
  isplitr [HO]
  · isplitl [Hs]; · iexact Hs
    isplitl [Hc Hcr]
    · isplitl [Hcr]; · iexact Hcr
      iexact Hc
    isplitl [Hat]; · iexact Hat
    isplitl [Hdone]; · iexact Hdone
    isplitl [Hrt]; · iexact Hrt
    isplitl [Hrd]; · iexact Hrd
    isplitl [Hk]; · iexact Hk
    iexact Hls
  · iexists W; iexact HO

include hR in
/-- The wait for the block at distance `r`. -/
theorem recv_dir (o : Bool) (c : Dev nD) (a r w : ℕ) (hr : r < lim o + 1) (h1 : 1 ≤ r) (har : a ≤ r)
    (x y : ℕ) (hx : r + 1 < x + 2 ∨ x = 16) (hy : r + 1 < y + 2 ∨ y = 15)
    {src dst : Memref sig .tc .vmem S1024x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(RR ∗ levAts L lv ∗ dirPart A o c a r w ∗ ∃ W, owes (c : Thread nD τ) (O c x y) W)
      ⊢ iprop(((dirPart A o c a (r + 1) w ∗ ∃ W, owes (c : Thread nD τ) (O c x y) W) -∗ Runs c (k ⟨⟩) Q)
          -∗ Runs c (.op (.waitDma2 (rS (sl o (pos c) r)) src dst hsrc hdst) k) Q) := by
  have hlo : lo o ≤ r := le_trans (by unfold lo; split <;> omega) h1
  have hshare : slotPt c (sl o (pos c) r) fullShare (G A) ⊢ iprop(lend A o c r ∗ keep A o c r) := by
    unfold lend keep slotPt
    rw [show sh o r = fullShare.left from if_neg (by omega)]
    exact (pointsTo_share (PosShare.mem_left_op_right fullShare)).1
  unfold dirPart
  rw [bigSep_Ico_succ_bot hr, bigSep_Ico_succ_top h1, bigSep_Ico_succ_top hlo, bigSep_Ico_succ_top har]
  unfold recvTodo
  iintro ⟨#HR, #HL, ⟨Hs, Hc, Hat, Hdone, ⟨⟨Hp, Hcr⟩, Hrt⟩, Hrd, Hk, Hls⟩, HO⟩ Hnext
  ihave #HI := (hR _ _ (rS_ge _)) $$ HR
  ihave HM := (mayWait (F := F) c (.dma (rS (sl o (pos c) r))) x y (r + 1) (by rw [lv_r, rank_sl o (pos c) r (by omega)]) hx hy) $$ HL
  iapply (wait_close A B c (rS (sl o (pos c) r)) (rS_ge _) (κ (rCell c (sl o (pos c) r))) N (O c x y)
    (by rw [expect_dma A B c _ (rS_ge _), if_pos (rS_lt _)]) hN) $$ [Hcr HO HM Hp]
  · isplitr; · iexact HI
    isplitl [Hcr]; · iexact Hcr
    isplitl [HO]; · iexact HO
    isplitl [HM]; · iexact HM
    iexact Hp
  iintro ⟨HO, Hz, Hpay⟩
  ihave Hpay := ((Entails.of_eq (payload_r A B c (sl o (pos c) r) false)).trans hshare) $$ Hpay
  icases Hpay with ⟨Hl, Hkp⟩
  iapply Hnext
  isplitr [HO]
  · isplitl [Hs]; · iexact Hs
    isplitl [Hc]; · iexact Hc
    isplitl [Hat]; · iexact Hat
    isplitl [Hdone]; · iexact Hdone
    isplitl [Hrt]; · iexact Hrt
    isplitl [Hrd Hz]
    · isplitl [Hz]; · iexact Hz
      iexact Hrd
    isplitl [Hk Hkp]
    · isplitl [Hkp]; · iexact Hkp
      iexact Hk
    isplitl [Hl]; · iexact Hl
    iexact Hls
  · iexact HO

include hR in
/-- The wait for send `w`, once every block has been sent. -/
theorem back_dir (o : Bool) (c : Dev nD) (a r w : ℕ) (hwa : w < a) (hw : w < lim o)
    (x y : ℕ)
    {src dst : Memref sig .tc .vmem S1024x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(RR ∗ levAts L lv ∗ dirPart A o c a r w ∗ ∃ W, owes (c : Thread nD τ) (O c x y) W)
      ⊢ iprop(((dirPart A o c a r (w + 1) ∗ ∃ W, owes (c : Thread nD τ) (O c x y) W) -∗ Runs c (k ⟨⟩) Q)
          -∗ Runs c (.op (.waitDma2 (sS o w) src dst hsrc hdst) k) Q) := by
  unfold dirPart
  rw [bigSep_Ico_succ_bot hwa, bigSep_Ico_succ_bot hw, bigSep_Ico_succ_top (Nat.zero_le w)]
  unfold sentDone
  iintro ⟨#HR, #HL, ⟨Hs, ⟨Hcr, Hc⟩, ⟨Hp, Hat⟩, Hdone, Hrt, Hrd, Hk, Hls⟩, HO⟩ Hnext
  ihave #HI := (hR _ _ (sS_ge o w hw)) $$ HR
  ihave HM := (mayWait (F := F) c (.dma (sS o w)) x y 0
    (by rw [lv_other c _ (by rw [sS_val o w hw]; split <;> omega)]) (Or.inl (by omega)) (Or.inl (by omega))) $$ HL
  iapply (wait_close A B c (sS o w) (sS_ge o w hw) (κ (sCell o c w)) N (O c x y)
    (by rw [expect_dma A B c _ (sS_ge o w hw), if_pos (sS_lt o w hw)]) hN) $$ [Hcr HO HM Hp]
  · isplitr; · iexact HI
    isplitl [Hcr]; · iexact Hcr
    isplitl [HO]; · iexact HO
    isplitl [HM]; · iexact HM
    iexact Hp
  iintro ⟨HO, Hz, Hpay⟩
  ihave Hpay := (Entails.of_eq (payload_s A B c o w hw false)) $$ Hpay
  iapply Hnext
  isplitr [HO]
  · isplitl [Hs]; · iexact Hs
    isplitl [Hc]; · iexact Hc
    isplitl [Hat]; · iexact Hat
    isplitl [Hdone Hz Hpay]
    · isplitl [Hz Hpay]
      · isplitl [Hz]; · iexact Hz
        iexact Hpay
      iexact Hdone
    isplitl [Hrt]; · iexact Hrt
    isplitl [Hrd]; · iexact Hrd
    isplitl [Hk]; · iexact Hk
    iexact Hls
  · iexact HO

end Cert.KernelIdeal.Walk
-- ==== Proof.KernelIdeal.Out.lean ====
/- The products: a load of a gathered block, its product stored, the product's copy into the result and the wait for it. -/
module

public import proofs.«01_k».proof.Proof.KernelIdeal.State

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (A : LeftC F) (B : RightC F)
/- What persists of the cells: from it, the invariant of every transfer's cell. -/
variable (κ : GSem nD τ sig → ℕ) (RR : sProp (MT nD τ sig Unit (Elt F) ℕ UU ℕ)) [BI.Persistent RR]
  (hR : ∀ (d : Dev nD) (n : DmaSem sig), 4 ≤ n.val → RR ⊢ cellInv ER (Rd A B) (κ ((d : Thread nD τ), .dma n)) ((d : Thread nD τ), .dma n))

/-- A copy to come: its token and the rows it overwrites. -/
def copyTodo (c : Dev nD) (j : ℕ) : sProp 𝕄 :=
  iprop(dutyTok ER (kCell c j) 0 false ∗ reached ER (kCell c j) 0 ∗ ∃ f, rowsPt (F := F) c (dev (ord (pos c) j)) f)
/-- A copy that has been waited for: its semaphore at rest and the rows written. -/
def copyDone (c : Dev nD) (j : ℕ) : sProp 𝕄 :=
  iprop(semVal (kCell c j) 0 ∗ rowsPt c (dev (ord (pos c) j)) (OutF A B c))
/-- A slot of the product buffer free for block `k`, and one that holds it. -/
def slotFree (c : Dev nD) (k : ℕ) : sProp 𝕄 := iprop(∃ f, voutPt (F := F) c (vs k) f)
def slotFull (c : Dev nD) (k : ℕ) : sProp 𝕄 := voutPt c (vs k) (VF (tile A B c (ord (pos c) k)))

/-- The result of device `c` after `j` copies were started and `u` waited for, with `v` blocks computed. -/
def outPart (c : Dev nD) (j u v : ℕ) : sProp 𝕄 :=
  iprop(bigSep (Finset.Ico j 32) (copyTodo (F := F) c)
    ∗ bigSep (Finset.Ico u j) (fun i => cred (tallyAt (kCell c i) () NO))
    ∗ bigSep (Finset.Ico u 32) (fun i => atPos ER (kCell c i) 0 ∅ 0)
    ∗ bigSep (Finset.Ico 0 u) (copyDone A B c)
    ∗ bigSep (Finset.Ico v (u + 4)) (slotFree (F := F) c)
    ∗ bigSep (Finset.Ico j v) (slotFull A B c))

omit [FloatOps F] in
theorem voutPt_view (d : Dev nD) (s : Fin 4) (f : S4x1024x1024.Idx → Elt F .bf16) :
    voutPt d s f = (((vslotM s).view.loc (d : Thread nD τ)) ↦[(vslotM s).view.set]{fullShare} f : sProp 𝕄) := by
  rw [vslotM_set]; rfl
omit [FloatOps F] in
theorem rowsPt_view (d : Dev nD) (x : Fin 32) (f : S32768x1024.Idx → Elt F .bf16) :
    rowsPt d x f = (((rowsM x).view.loc (d : Thread nD τ)) ↦[(rowsM x).view.set]{fullShare} f : sProp 𝕄) := by
  rw [rowsM_set]; rfl

/-- A block copied into its rows leaves the result there and the block where it was. -/
theorem copy_landed (c : Dev nD) (j : ℕ) (f : S32768x1024.Idx → Elt F .bf16) :
    iprop((((rowsM (dev (ord (pos c) j))).view.loc (c : Thread nD τ)) ↦[(rowsM (dev (ord (pos c) j))).view.set]{fullShare}
        ((rowsM (dev (ord (pos c) j))).view.write (Elt F) f ((vslotM (vs j)).view.read (Elt F) (VF (tile A B c (ord (pos c) j)))) Finset.univ))
      ∗ (((vslotM (vs j)).view.loc (c : Thread nD τ)) ↦[(vslotM (vs j)).view.set]{fullShare} VF (tile A B c (ord (pos c) j))))
      ⊢ (copyPay A B c j : sProp 𝕄) := by
  unfold copyPay
  rw [← voutPt_view c (vs j), rowsPt_view]
  refine BI.sep_mono (Entails.of_eq (pointsTo_congr fun i hi => ?_)) (exists_intro (Φ := fun f => voutPt (F := F) c (vs j) f) _)
  rw [rowsM_set] at hi
  exact land_rows A B c (ord (pos c) j) (vs j) f i hi

include hR in
/-- The start of the copy of block `j`. -/
theorem copy_out (c : Dev nD) (j u : ℕ) (hj : j < 32) (hu : u ≤ j)
    {hsrc : (vslotM (vs j)).view.WordExact} {hdst : (rowsM (dev (ord (pos c) j))).view.WordExact}
    {hsem : DmaTarget.Typed .vmem (.dma (kS j)) (.here (rowsM (dev (ord (pos c) j))) : DmaTarget nD τ sig Proc.tc .hbm S1024x1024 .bf16)}
    {α : Type} {Q : α → sProp 𝕄} {k : PUnit → Prog (TpuEff nD τ sig (Elt F) Λ₀ .tc) α} :
    iprop(RR ∗ outPart A B c j u (j + 1))
      ⊢ iprop((outPart A B c (j + 1) u (j + 1) -∗ Runs c (k ⟨⟩) Q)
          -∗ Runs c (.op (.enqueueDma (vslotM (vs j)) (.here (rowsM (dev (ord (pos c) j)))) (.dma (kS j)) hsrc hdst hsem) k) Q) := by
  have hv : 67 + j < 99 := by omega
  unfold outPart
  rw [bigSep_Ico_succ_bot hj, bigSep_Ico_succ_top hu, bigSep_Ico_succ_bot (Nat.lt_succ_self j)]
  unfold copyTodo slotFull
  iintro ⟨#HR, ⟨⟨Ht, #Hr, %fd, Hd⟩, Hs⟩, Hc, Hat, Hdone, Hfree, Hf, Hfs⟩ Hnext
  ihave #HI := (hR c _ (kS_ge j hj)) $$ HR
  ihave Hf := (Entails.of_eq (voutPt_view c (vs j) (VF (tile A B c (ord (pos c) j))))) $$ Hf
  ihave Hd := (Entails.of_eq (rowsPt_view c (dev (ord (pos c) j)) fd)) $$ Hd
  iapply (@Rounds.wp_copy_pointsTo nD τ sig Unit _ Bool _ (Elt F) ℕ _ UU _ ℕ Λ₀ _ (defs₀ (F := F)) 𝒱₀ ER (Rd A B) (c : Thread nD τ) none .empty α Q
     .vmem .hbm S1024x1024 .bf16 (vslotM (vs j)) (rowsM (dev (ord (pos c) j))) (.dma (kS j)) hsrc hdst hsem k fullShare
     (VF (tile A B c (ord (pos c) j))) fd 0 false (κ (kCell c j))
     (by rw [duties_dma A B c _ (kS_ge j hj)]; exact Finset.mem_singleton_self _) () NO (rowsM_credit _)
     (amount_rows A B c _ (by rw [kS_val j hj]; omega) false)
     ((copy_landed A B c j fd).trans (Entails.of_eq (payload_k A B c j hj false).symm)) Set.univ) $$ [Ht Hd Hf]
  · isplitr; · iexact HI
    isplitl [Hf]; · iexact Hf
    isplitl [Hd]; · iexact Hd
    isplitl [Ht]; · iexact Ht
    iexact Hr
  iintro Hcr
  iapply Hnext
  isplitl [Hs]; · iexact Hs
  isplitl [Hc Hcr]
  · isplitl [Hcr]; · iexact Hcr
    iexact Hc
  isplitl [Hat]; · iexact Hat
  isplitl [Hdone]; · iexact Hdone
  isplitl [Hfree]; · iexact Hfree
  iexact Hfs

omit [FloatOps F] in
/-- The slot a copy leaves is the one the block four further takes. -/
theorem slot_again (c : Dev nD) (u : ℕ) : iprop(∃ f, voutPt (F := F) c (vs u) f) ⊢ (slotFree c (u + 4) : sProp 𝕄) := by
  unfold slotFree; rw [vs_add]

include hR in
/-- The wait for copy `u`. -/
theorem back_out (c : Dev nD) (j u v : ℕ) (huj : u < j) (hu : u < 32) (hv : v ≤ u + 4) (x y : ℕ)
    {src : Memref sig .tc .vmem S1024x1024 .bf16} {dst : Memref sig .tc .hbm S1024x1024 .bf16} {hsrc : src.view.WordExact} {hdst : dst.view.WordExact}
    (hN : dst.view.dmaCredit = NO)
    {α : Type} {Q : α → sProp 𝕄} {k : PUnit → Prog (TpuEff nD τ sig (Elt F) Λ₀ .tc) α} :
    iprop(RR ∗ levAts L lv ∗ outPart A B c j u v ∗ ∃ W, owes (c : Thread nD τ) (O c x y) W)
      ⊢ iprop(((outPart A B c j (u + 1) v ∗ ∃ W, owes (c : Thread nD τ) (O c x y) W) -∗ Runs c (k ⟨⟩) Q)
          -∗ Runs c (.op (.waitDma2 (kS u) src dst hsrc hdst) k) Q) := by
  unfold outPart
  rw [bigSep_Ico_succ_bot huj, bigSep_Ico_succ_bot hu, bigSep_Ico_succ_top (Nat.zero_le u),
    Nat.add_right_comm u 1 4, bigSep_Ico_succ_top hv]
  unfold copyDone
  iintro ⟨#HR, #HL, ⟨Hs, ⟨Hcr, Hc⟩, ⟨Hp, Hat⟩, Hdone, Hfree, Hfull⟩, HO⟩ Hnext
  ihave #HI := (hR _ _ (kS_ge u hu)) $$ HR
  ihave HM := (mayWait (F := F) c (.dma (kS u)) x y 0
    (by rw [lv_other c _ (by rw [kS_val u hu]; omega)]) (Or.inl (by omega)) (Or.inl (by omega))) $$ HL
  iapply (wait_close A B c (kS u) (kS_ge u hu) (κ (kCell c u)) NO (O c x y)
    (by rw [expect_dma A B c _ (kS_ge u hu), if_neg (by rw [kS_val u hu]; omega)]) hN) $$ [Hcr HO HM Hp]
  · isplitr; · iexact HI
    isplitl [Hcr]; · iexact Hcr
    isplitl [HO]; · iexact HO
    isplitl [HM]; · iexact HM
    iexact Hp
  iintro ⟨HO, Hz, Hpay⟩
  ihave Hpay := (Entails.of_eq (payload_k A B c u hu false)) $$ Hpay
  unfold copyPay
  icases Hpay with ⟨Hrow, Hv⟩
  iapply Hnext
  isplitr [HO]
  · isplitl [Hs]; · iexact Hs
    isplitl [Hc]; · iexact Hc
    isplitl [Hat]; · iexact Hat
    isplitl [Hdone Hz Hrow]
    · isplitl [Hz Hrow]
      · isplitl [Hz]; · iexact Hz
        iexact Hrow
      iexact Hdone
    isplitl [Hfree Hv]
    · isplitl [Hv]
      · iapply (slot_again c u); iexact Hv
      iexact Hfree
    iexact Hfull
  · iexact HO

/-- A load from the slot for block `j`, whose result is not used. -/
theorem peek_out (c : Dev nD) (j u : ℕ) (hj : j < u + 4)
    {hl : voutM.view.LoadsAt (vslotR (vs j)).toLoadRect}
    {α : Type} {Q : α → sProp 𝕄} {k : (S1x1024x1024.Idx → Elt F .bf16) → Prog (TpuEff nD τ sig (Elt F) Λ₀ .tc) α} :
    outPart A B c j u j
      ⊢ iprop((∀ x, outPart A B c j u j -∗ Runs c (k x) Q) -∗ Runs c (.op (.load voutM (vslotR (vs j)).toLoadRect hl) k) Q) := by
  unfold outPart
  rw [bigSep_Ico_succ_bot hj]
  unfold slotFree
  iintro ⟨Hs, Hc, Hat, Hdone, ⟨⟨%f, Hf⟩, Hfree⟩, Hfull⟩ Hnext
  unfold voutPt
  iapply (wp_load_rect 𝒱₀ (c : Thread nD τ) none Set.univ (defs := defs₀ (F := F)) (Γ := .empty) (cs := .vmem) (s := S4x1024x1024) (e := .bf16) (m := voutM) (r := vslotR (vs j)) (hl := hl) (k := k) (Q := Q)
    (S := (vslotR (vs j)).set) (q := fullShare) (f := f) (Eq.subset (View.set_slice_whole _ _))) $$ [Hf]
  · iexact Hf
  iintro Hf
  iapply Hnext
  isplitl [Hs]; · iexact Hs
  isplitl [Hc]; · iexact Hc
  isplitl [Hat]; · iexact Hat
  isplitl [Hdone]; · iexact Hdone
  isplitr [Hfull]
  · isplitl [Hf]; · iexists f; iexact Hf
    iexact Hfree
  iexact Hfull

/-- The store of block `j`. -/
theorem store_out (c : Dev nD) (j u : ℕ) (hj : j < u + 4) (w : S1x1024x1024.Idx → Elt F .bf16)
    (h : S1024x1024.ShapeCasts S1x1024x1024) (hw : w = shapeCast S1x1024x1024 (tile A B c (ord (pos c) j)) h)
    {hx : (voutM.access (vslotR (vs j))).Stores Finset.univ} {hm : (Finset.univ : Finset (vslotR (vs j)).shape.Idx) = Finset.univ ∨ ∀ a, (vslotR (vs j)).stride a = 1}
    {α : Type} {Q : α → sProp 𝕄} {k : PUnit → Prog (TpuEff nD τ sig (Elt F) Λ₀ .tc) α} :
    outPart A B c j u j
      ⊢ iprop((outPart A B c j u (j + 1) -∗ Runs c (k ⟨⟩) Q)
          -∗ Runs c (.op (.store voutM (vslotR (vs j)) w Finset.univ hx hm) k) Q) := by
  subst hw
  unfold outPart
  rw [bigSep_Ico_succ_bot hj, bigSep_Ico_succ_top (le_refl j)]
  unfold slotFree slotFull
  iintro ⟨Hs, Hc, Hat, Hdone, ⟨⟨%f, Hf⟩, Hfree⟩, Hfull⟩ Hnext
  unfold voutPt
  iapply (wp_store 𝒱₀ (c : Thread nD τ) none Set.univ (defs := defs₀ (F := F)) (Γ := .empty) (cs := .vmem) (s := S4x1024x1024) (e := .bf16) (m := voutM) (r := vslotR (vs j)) (hx := hx) (hm := hm) (k := k) (Q := Q)
    (S := (vslotR (vs j)).set) (f := f) (by rw [View.setOn_univ]; exact Eq.subset (View.set_slice_whole _ _))) $$ [Hf]
  · iexact Hf
  iintro Hf
  iapply Hnext
  isplitl [Hs]; · iexact Hs
  isplitl [Hc]; · iexact Hc
  isplitl [Hat]; · iexact Hat
  isplitl [Hdone]; · iexact Hdone
  isplitl [Hfree]; · iexact Hfree
  isplitr [Hfull]
  · iapply (Entails.of_eq (pointsTo_congr (store_vslot (vs j) f (tile A B c (ord (pos c) j)) h))) $$ Hf
  iexact Hfull

/-- A load of the slot at distance `i` in direction `o`. -/
theorem load_dir (o : Bool) (c : Dev nD) (a r w i : ℕ) (hi : lo o ≤ i) (hir : i < r)
    {hl : commM.view.LoadsAt (slotR (sl o (pos c) i)).toLoadRect}
    {α : Type} {Q : α → sProp 𝕄} {k : (S1x1024x512.Idx → Elt F .bf16) → Prog (TpuEff nD τ sig (Elt F) Λ₀ .tc) α} :
    dirPart A o c a r w
      ⊢ iprop((dirPart A o c a r w -∗ Runs c (k (rows A (sl o (pos c) i))) Q)
          -∗ Runs c (.op (.load commM (slotR (sl o (pos c) i)).toLoadRect hl) k) Q) := by
  unfold dirPart
  have he : bigSep (Finset.Ico (lo o) r) (keep A o c) = iprop(keep A o c i ∗ bigSep ((Finset.Ico (lo o) r).erase i) (keep A o c)) :=
    bigSep_erase (Finset.mem_Ico.mpr ⟨hi, hir⟩)
  rw [he]
  unfold keep slotPt
  iintro ⟨Hs, Hc, Hat, Hdone, Hrt, Hrd, ⟨Hk, Hks⟩, Hl⟩ Hnext
  iapply (wp_load_rect 𝒱₀ (c : Thread nD τ) none Set.univ (defs := defs₀ (F := F)) (Γ := .empty) (cs := .vmem) (s := S32x1024x512) (e := .bf16) (m := commM) (r := slotR (sl o (pos c) i)) (hl := hl) (k := k) (Q := Q)
    (S := (slotR (sl o (pos c) i)).set) (q := fullShare.right) (f := G A) (Eq.subset (View.set_slice_whole _ _))) $$ [Hk]
  · iexact Hk
  rw [read_slot]
  iintro Hk
  iapply Hnext
  isplitl [Hs]; · iexact Hs
  isplitl [Hc]; · iexact Hc
  isplitl [Hat]; · iexact Hat
  isplitl [Hdone]; · iexact Hdone
  isplitl [Hrt]; · iexact Hrt
  isplitl [Hrd]; · iexact Hrd
  isplitr [Hl]
  · isplitl [Hk]; · iexact Hk
    iexact Hks
  iexact Hl

end Cert.KernelIdeal.Walk
-- ==== Proof.KernelIdeal.Checks.lean ====
/- The side conditions the body assumes of the words it reads, which hold of every word the two tables list. -/
module

public import proofs.«01_k».proof.Proof.KernelIdeal.Ring

@[expose] public section

namespace Cert.KernelIdeal.Walk

open Idealize.ShloMosaic

theorem chk_pos : ∀ p : Fin 32, k0_chk1 (wd p) := by decide +kernel
theorem chk_prev : ∀ d : Fin 32, k0_chk2 (wd d) := by decide +kernel
theorem chk_next : ∀ d : Fin 32, k0_chk3 (wd d) := by decide +kernel
theorem chk_origin : ∀ d : Fin 32, k0_chk4 (wd d) := by decide +kernel

end Cert.KernelIdeal.Walk
-- ==== Proof.KernelIdeal.Steps.lean ====
/- The state of a device in the middle of its body, and what each operation of the body does to it. -/
module

public import proofs.«01_k».proof.Proof.KernelIdeal.Dir

public import proofs.«01_k».proof.Proof.KernelIdeal.Out
public import proofs.«01_k».proof.Proof.KernelIdeal.Checks

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (A : LeftC F) (B : RightC F)

/- What persists of the cells: from it, the invariant of every transfer's cell. -/
variable (κ : GSem nD τ sig → ℕ) (RR : sProp (MT nD τ sig Unit (Elt F) ℕ UU ℕ)) [BI.Persistent RR]
  (hR : ∀ (d : Dev nD) (n : DmaSem sig), 4 ≤ n.val → RR ⊢ cellInv ER (Rd A B) (κ ((d : Thread nD τ), .dma n)) ((d : Thread nD τ), .dma n))
  (R : sProp (MT nD τ sig Unit (Elt F) ℕ UU ℕ))

/-! ## The state -/

/-- The two tables as the body reads them: the device at each position, the position of each device. -/
def tab0 : S32.Idx → Elt F .i32 := fun i => lit0 (S32.rowMajor i)
def tab1 : S32.Idx → Elt F .i32 := fun i => lit1 (S32.rowMajor i)

/-- What the body only reads: its two factors and the two tables. -/
def Win (c : Dev nD) : sProp 𝕄 :=
  iprop(((c : Thread nD τ).loc cc0_stg0_0 ↦{fullShare} A c) ∗ ((c : Thread nD τ).loc cc0_stg1_0 ↦{fullShare} B c)
    ∗ ((c : Thread nD τ).loc cc0_stg2_0 ↦{fullShare} tab0 (F := F)) ∗ ((c : Thread nD τ).loc cc0_stg3_0 ↦{fullShare} tab1 (F := F)))

/-- Device `c` by the counts of the clockwise direction, of the other, and of its result. -/
def St (c : Dev nD) (a r w b r' w' j u v : ℕ) : sProp 𝕄 :=
  iprop(Win A B c ∗ RR ∗ levAts L lv ∗ dirPart A true c a r w ∗ dirPart A false c b r' w' ∗ outPart A B c j u v
    ∗ (∃ W, owes (c : Thread nD τ) (O c a b) W) ∗ R)

/-! ## Working on one part of the state -/

section Focus
variable {A B RR R} {c : Dev nD} {a r w b r' w' j u v : ℕ} {X Y : sProp (MT nD τ sig Unit (Elt F) ℕ UU ℕ)}

theorem on_true {a₁ r₁ w₁ : ℕ}
    (hD : iprop(RR ∗ levAts L lv ∗ dirPart A true c a r w ∗ ∃ W, owes (c : Thread nD τ) (O c a b) W)
      ⊢ iprop(((dirPart A true c a₁ r₁ w₁ ∗ ∃ W, owes (c : Thread nD τ) (O c a₁ b) W) -∗ X) -∗ Y))
    (h : St A B RR R c a₁ r₁ w₁ b r' w' j u v ⊢ X) : St A B RR R c a r w b r' w' j u v ⊢ Y := by
  unfold St at h ⊢
  iintro ⟨HW, #HR, #HL, Ht, Hf, Ho, HO, HX⟩
  iapply hD $$ [Ht HO]
  · isplitr; · iexact HR
    isplitr; · iexact HL
    isplitl [Ht]; · iexact Ht
    iexact HO
  iintro ⟨Ht, HO⟩
  iapply h
  isplitl [HW]; · iexact HW
  isplitr; · iexact HR
  isplitr; · iexact HL
  isplitl [Ht]; · iexact Ht
  isplitl [Hf]; · iexact Hf
  isplitl [Ho]; · iexact Ho
  isplitl [HO]; · iexact HO
  iexact HX

theorem on_false {b₁ r₁ w₁ : ℕ}
    (hD : iprop(RR ∗ levAts L lv ∗ dirPart A false c b r' w' ∗ ∃ W, owes (c : Thread nD τ) (O c a b) W)
      ⊢ iprop(((dirPart A false c b₁ r₁ w₁ ∗ ∃ W, owes (c : Thread nD τ) (O c a b₁) W) -∗ X) -∗ Y))
    (h : St A B RR R c a r w b₁ r₁ w₁ j u v ⊢ X) : St A B RR R c a r w b r' w' j u v ⊢ Y := by
  unfold St at h ⊢
  iintro ⟨HW, #HR, #HL, Ht, Hf, Ho, HO, HX⟩
  iapply hD $$ [Hf HO]
  · isplitr; · iexact HR
    isplitr; · iexact HL
    isplitl [Hf]; · iexact Hf
    iexact HO
  iintro ⟨Hf, HO⟩
  iapply h
  isplitl [HW]; · iexact HW
  isplitr; · iexact HR
  isplitr; · iexact HL
  isplitl [Ht]; · iexact Ht
  isplitl [Hf]; · iexact Hf
  isplitl [Ho]; · iexact Ho
  isplitl [HO]; · iexact HO
  iexact HX

theorem on_out {j₁ u₁ v₁ : ℕ}
    (hD : iprop(RR ∗ levAts L lv ∗ outPart A B c j u v ∗ ∃ W, owes (c : Thread nD τ) (O c a b) W)
      ⊢ iprop(((outPart A B c j₁ u₁ v₁ ∗ ∃ W, owes (c : Thread nD τ) (O c a b) W) -∗ X) -∗ Y))
    (h : St A B RR R c a r w b r' w' j₁ u₁ v₁ ⊢ X) : St A B RR R c a r w b r' w' j u v ⊢ Y := by
  unfold St at h ⊢
  iintro ⟨HW, #HR, #HL, Ht, Hf, Ho, HO, HX⟩
  iapply hD $$ [Ho HO]
  · isplitr; · iexact HR
    isplitr; · iexact HL
    isplitl [Ho]; · iexact Ho
    iexact HO
  iintro ⟨Ho, HO⟩
  iapply h
  isplitl [HW]; · iexact HW
  isplitr; · iexact HR
  isplitr; · iexact HL
  isplitl [Ht]; · iexact Ht
  isplitl [Hf]; · iexact Hf
  isplitl [Ho]; · iexact Ho
  isplitl [HO]; · iexact HO
  iexact HX

end Focus

/-! ## The names the body gives its semaphores and blocks -/

/-- One semaphore cut out of an array of them. -/
theorem sem_at {n m base : ℕ} (hN : base + (⟨1, ![m]⟩ : Shape).numel ≤ n) (off : Fin 1 → ℕ) (inb) (i : ℕ) (h : off = ![i]) :
    (((SemArray.consecutive base ⟨1, ![m]⟩ hN : SemArray (Fin n) ⟨1, ![m]⟩).slice (Rect.unit (s := ⟨1, ![m]⟩) off S1.size inb)).squeeze S_ squeezes_S1_S_).sem.val
      = base + i := by
  subst h
  show base + ((⟨1, ![m]⟩ : Shape).rowMajor ((Rect.unit (s := ⟨1, ![m]⟩) ![i] S1.size inb).emb (Shape.reshapeEquiv _ _))).val = _
  rw [Shape.rowMajor_val_one]
  generalize (Shape.reshapeEquiv _ _ : S1.Idx) = x
  have hx : (x 0).val < 1 := (x 0).isLt
  show base + (i + 1 * (x 0).val) = base + i
  omega

theorem sem_r (off : Fin 1 → ℕ) (inb) (q : Fin 32) (h : off = ![q.val]) :
    ((cc0_scratch2.slice (Rect.unit (s := S32) off S1.size inb)).squeeze S_ squeezes_S1_S_).sem = rS q :=
  Fin.ext ((sem_at hcc0_scratch2 off inb q.val h).trans (rS_val q).symm)
theorem sem_k (off : Fin 1 → ℕ) (inb) (j : ℕ) (hj : j < 32) (h : off = ![j]) :
    ((cc0_scratch5.slice (Rect.unit (s := S32) off S1.size inb)).squeeze S_ squeezes_S1_S_).sem = kS j :=
  Fin.ext ((sem_at hcc0_scratch5 off inb j h).trans (kS_val j hj).symm)
theorem sem_t (off : Fin 1 → ℕ) (inb) (i : ℕ) (hi : i < 16) (h : off = ![i]) :
    ((cc0_scratch3.slice (Rect.unit (s := S16) off S1.size inb)).squeeze S_ squeezes_S1_S_).sem = sS true i :=
  Fin.ext ((sem_at hcc0_scratch3 off inb i h).trans (sS_val true i hi).symm)
theorem sem_f (off : Fin 1 → ℕ) (inb) (i : ℕ) (hi : i < 15) (h : off = ![i]) :
    ((cc0_scratch4.slice (Rect.unit (s := S15) off S1.size inb)).squeeze S_ squeezes_S1_S_).sem = sS false i :=
  Fin.ext ((sem_at hcc0_scratch4 off inb i h).trans (sS_val false i hi).symm)

theorem mem_slot (off : Fin 3 → ℕ) (inb) (q : Fin 32) (h : off = ![q.val, 0, 0]) :
    (commM.slice (Rect.unit (s := S32x1024x512) off S1x1024x512.size inb) (fun _ => rfl)).squeeze S1024x512 squeezes_S1x1024x512_S1024x512 = slotM q := by
  subst h; rfl
theorem mem_vslot (off : Fin 3 → ℕ) (inb) (s : Fin 4) (h : off = ![s.val, 0, 0]) :
    (voutM.slice (Rect.unit (s := S4x1024x1024) off S1x1024x1024.size inb) (fun _ => rfl)).squeeze S1024x1024 squeezes_S1x1024x1024_S1024x1024 = vslotM s := by
  subst h; rfl
theorem mem_rows (off : Fin 2 → ℕ) (inb) (d : Fin 32) (h : off = ![d.val * 1024, 0]) :
    resM.slice (Rect.unit (s := S32768x1024) off S1024x1024.size inb) (fun _ => rfl) = rowsM d := by
  subst h; rfl

/-- What a transfer of a slot, and a copy of a row block, counts for. -/
theorem credit_slot (off : Fin 3 → ℕ) (inb) :
    ((commM.slice (Rect.unit (s := S32x1024x512) off S1x1024x512.size inb) (fun _ => rfl)).squeeze S1024x512 squeezes_S1x1024x512_S1024x512).view.dmaCredit = N := by
  unfold N; rfl
theorem credit_rows (off : Fin 2 → ℕ) (inb) :
    (resM.slice (Rect.unit (s := S32768x1024) off S1024x1024.size inb) (fun _ => rfl)).view.dmaCredit = NO := by
  unfold NO; rfl

/-! ## The steps -/

section Step
variable {A B κ RR R} {c : Dev nD} {a r w b r' w' j u v : ℕ} {α : Type} {Q : α → sProp (MT nD τ sig Unit (Elt F) ℕ UU ℕ)}

include hR in
theorem step_send_t {n : Dev nD} {src dst : Memref sig .tc .vmem S1024x512 .bf16} {sv rv : DmaSem sig}
    {hsc : (dst : Memref sig (Dev.tc n : Thread nD τ).2.kind .vmem S1024x512 .bf16).view.ref.isScScratch = false}
    {hsrc : src.view.WordExact} {hdst : dst.view.WordExact}
    {hsem : DmaTarget.Typed .vmem (.dma rv) (.remote (Dev.tc n : Thread nD τ) dst (.dma sv) hsc)}
    {k : PUnit → Prog (TpuEff nD τ sig (Elt F) Λ₀ .tc) α}
    (hs : sv = sS true a) (hm : src = slotM (sl true (pos c) a)) (hd : dst = slotM (sl true (pos c) a))
    (hr : rv = rS (sl true (pos c) a)) (hn : n = nb true c) (ha : a < 16) (har : a < r) (hw : w ≤ a)
    (h : St A B RR R c (a + 1) r w b r' w' j u v ⊢ Runs c (k ⟨⟩) Q) :
    St A B RR R c a r w b r' w' j u v
      ⊢ Runs c (.op (.enqueueDma src (.remote (Dev.tc n : Thread nD τ) dst (.dma sv) hsc) (.dma rv) hsrc hdst hsem) k) Q := by
  subst hs hm hd hr
  refine on_true ?_ h
  unfold O
  rw [add_comm, add_comm (Ot true c (a + 1))]
  iintro ⟨#HR, -, Hd, HO⟩
  iapply (send_dir A B κ RR hR true c n hn a r w ha har hw (Ot false c b))
  isplitr; · iexact HR
  isplitl [Hd]; · iexact Hd
  iexact HO

include hR in
theorem step_send_f {n : Dev nD} {src dst : Memref sig .tc .vmem S1024x512 .bf16} {sv rv : DmaSem sig}
    {hsc : (dst : Memref sig (Dev.tc n : Thread nD τ).2.kind .vmem S1024x512 .bf16).view.ref.isScScratch = false}
    {hsrc : src.view.WordExact} {hdst : dst.view.WordExact}
    {hsem : DmaTarget.Typed .vmem (.dma rv) (.remote (Dev.tc n : Thread nD τ) dst (.dma sv) hsc)}
    {k : PUnit → Prog (TpuEff nD τ sig (Elt F) Λ₀ .tc) α}
    (hs : sv = sS false b) (hm : src = slotM (sl false (pos c) b)) (hd : dst = slotM (sl false (pos c) b))
    (hr : rv = rS (sl false (pos c) b)) (hn : n = nb false c) (hb : b < 15) (hbr : b < r') (hw : w' ≤ b)
    (h : St A B RR R c a r w (b + 1) r' w' j u v ⊢ Runs c (k ⟨⟩) Q) :
    St A B RR R c a r w b r' w' j u v
      ⊢ Runs c (.op (.enqueueDma src (.remote (Dev.tc n : Thread nD τ) dst (.dma sv) hsc) (.dma rv) hsrc hdst hsem) k) Q := by
  subst hs hm hd hr
  refine on_false ?_ h
  unfold O
  iintro ⟨#HR, -, Hd, HO⟩
  iapply (send_dir A B κ RR hR false c n hn b r' w' hb hbr hw (Ot true c a))
  isplitr; · iexact HR
  isplitl [Hd]; · iexact Hd
  iexact HO

include hR in
theorem step_recv_t {src dst : Memref sig .tc .vmem S1024x512 .bf16} {rv : DmaSem sig} {hsrc : src.view.WordExact} {hdst : dst.view.WordExact}
    {k : PUnit → Prog (TpuEff nD τ sig (Elt F) Λ₀ .tc) α}
    (hr : rv = rS (sl true (pos c) r)) (hN : dst.view.dmaCredit = N) (hl : r < 17) (h1 : 1 ≤ r) (har : a ≤ r)
    (hx : r + 1 < a + 2 ∨ a = 16) (hy : r + 1 < b + 2 ∨ b = 15)
    (h : St A B RR R c a (r + 1) w b r' w' j u v ⊢ Runs c (k ⟨⟩) Q) :
    St A B RR R c a r w b r' w' j u v ⊢ Runs c (.op (.waitDma2 rv src dst hsrc hdst) k) Q := by
  subst hr
  exact on_true (recv_dir A B κ RR hR true c a r w hl h1 har a b hx hy hN) h

include hR in
theorem step_recv_f {src dst : Memref sig .tc .vmem S1024x512 .bf16} {rv : DmaSem sig} {hsrc : src.view.WordExact} {hdst : dst.view.WordExact}
    {k : PUnit → Prog (TpuEff nD τ sig (Elt F) Λ₀ .tc) α}
    (hr : rv = rS (sl false (pos c) r')) (hN : dst.view.dmaCredit = N) (hl : r' < 16) (h1 : 1 ≤ r') (har : b ≤ r')
    (hx : r' + 1 < a + 2 ∨ a = 16) (hy : r' + 1 < b + 2 ∨ b = 15)
    (h : St A B RR R c a r w b (r' + 1) w' j u v ⊢ Runs c (k ⟨⟩) Q) :
    St A B RR R c a r w b r' w' j u v ⊢ Runs c (.op (.waitDma2 rv src dst hsrc hdst) k) Q := by
  subst hr
  exact on_false (recv_dir A B κ RR hR false c b r' w' hl h1 har a b hx hy hN) h

include hR in
theorem step_back_t {src dst : Memref sig .tc .vmem S1024x512 .bf16} {sv : DmaSem sig} {hsrc : src.view.WordExact} {hdst : dst.view.WordExact}
    {k : PUnit → Prog (TpuEff nD τ sig (Elt F) Λ₀ .tc) α}
    (hs : sv = sS true w) (hN : dst.view.dmaCredit = N) (hwa : w < a) (hw : w < 16)
    (h : St A B RR R c a r (w + 1) b r' w' j u v ⊢ Runs c (k ⟨⟩) Q) :
    St A B RR R c a r w b r' w' j u v ⊢ Runs c (.op (.waitDma2 sv src dst hsrc hdst) k) Q := by
  subst hs
  exact on_true (back_dir A B κ RR hR true c a r w hwa hw a b hN) h

include hR in
theorem step_back_f {src dst : Memref sig .tc .vmem S1024x512 .bf16} {sv : DmaSem sig} {hsrc : src.view.WordExact} {hdst : dst.view.WordExact}
    {k : PUnit → Prog (TpuEff nD τ sig (Elt F) Λ₀ .tc) α}
    (hs : sv = sS false w') (hN : dst.view.dmaCredit = N) (hwa : w' < b) (hw : w' < 15)
    (h : St A B RR R c a r w b r' (w' + 1) j u v ⊢ Runs c (k ⟨⟩) Q) :
    St A B RR R c a r w b r' w' j u v ⊢ Runs c (.op (.waitDma2 sv src dst hsrc hdst) k) Q := by
  subst hs
  exact on_false (back_dir A B κ RR hR false c b r' w' hwa hw a b hN) h

include hR in
theorem step_copied {src : Memref sig .tc .vmem S1024x1024 .bf16} {dst : Memref sig .tc .hbm S1024x1024 .bf16} {kv : DmaSem sig}
    {hsrc : src.view.WordExact} {hdst : dst.view.WordExact} {k : PUnit → Prog (TpuEff nD τ sig (Elt F) Λ₀ .tc) α}
    (hk : kv = kS u) (hN : dst.view.dmaCredit = NO) (huj : u < j) (hu : u < 32) (hv : v ≤ u + 4)
    (h : St A B RR R c a r w b r' w' j (u + 1) v ⊢ Runs c (k ⟨⟩) Q) :
    St A B RR R c a r w b r' w' j u v ⊢ Runs c (.op (.waitDma2 kv src dst hsrc hdst) k) Q := by
  subst hk
  exact on_out (back_out A B κ RR hR c j u v huj hu hv a b hN) h

include hR in
theorem step_copy {src : Memref sig .tc .vmem S1024x1024 .bf16} {dst : Memref sig .tc .hbm S1024x1024 .bf16} {kv : DmaSem sig}
    {hsrc : src.view.WordExact} {hdst : dst.view.WordExact}
    {hsem : DmaTarget.Typed .vmem (.dma kv) (.here dst : DmaTarget nD τ sig Proc.tc .hbm S1024x1024 .bf16)}
    {k : PUnit → Prog (TpuEff nD τ sig (Elt F) Λ₀ .tc) α}
    (hk : kv = kS j) (hm : src = vslotM (vs j)) (hd : dst = rowsM (dev (ord (pos c) j))) (hj : j < 32) (hu : u ≤ j)
    (h : St A B RR R c a r w b r' w' (j + 1) u (j + 1) ⊢ Runs c (k ⟨⟩) Q) :
    St A B RR R c a r w b r' w' j u (j + 1) ⊢ Runs c (.op (.enqueueDma src (.here dst) (.dma kv) hsrc hdst hsem) k) Q := by
  subst hk hm hd
  refine on_out ?_ h
  iintro ⟨#HR, -, Ho, HO⟩ Hk
  iapply (copy_out A B κ RR hR c j u hj hu) $$ [Ho]
  · isplitr; · iexact HR
    iexact Ho
  iintro Ho
  iapply Hk
  isplitl [Ho]; · iexact Ho
  iexact HO

theorem step_peek {off : Fin 3 → ℕ} {inb} {hl : voutM.view.LoadsAt (Rect.unit (s := S4x1024x1024) off S1x1024x1024.size inb).toLoadRect}
    {k : (S1x1024x1024.Idx → Elt F .bf16) → Prog (TpuEff nD τ sig (Elt F) Λ₀ .tc) α}
    (ho : off = ![(vs j).val, 0, 0]) (hj : j < u + 4)
    (h : ∀ x, St A B RR R c a r w b r' w' j u j ⊢ Runs c (k x) Q) :
    St A B RR R c a r w b r' w' j u j ⊢ Runs c (.op (.load voutM (Rect.unit (s := S4x1024x1024) off S1x1024x1024.size inb).toLoadRect hl) k) Q := by
  subst ho
  unfold St at h ⊢
  iintro ⟨HW, #HR, #HL, Ht, Hf, Ho, HO, HX⟩
  iapply (peek_out A B c j u hj) $$ Ho
  iintro %x Ho
  iapply (h x)
  isplitl [HW]; · iexact HW
  isplitr; · iexact HR
  isplitr; · iexact HL
  isplitl [Ht]; · iexact Ht
  isplitl [Hf]; · iexact Hf
  isplitl [Ho]; · iexact Ho
  isplitl [HO]; · iexact HO
  iexact HX

theorem step_store {off : Fin 3 → ℕ} {inb} {x : S1x1024x1024.Idx → Elt F .bf16}
    {hx : (voutM.access (Rect.unit (s := S4x1024x1024) off S1x1024x1024.size inb)).Stores Finset.univ}
    {hm : (Finset.univ : Finset (Rect.unit (s := S4x1024x1024) off S1x1024x1024.size inb).shape.Idx) = Finset.univ
      ∨ ∀ a, (Rect.unit (s := S4x1024x1024) off S1x1024x1024.size inb).stride a = 1}
    {k : PUnit → Prog (TpuEff nD τ sig (Elt F) Λ₀ .tc) α}
    (ho : off = ![(vs j).val, 0, 0]) (hj : j < u + 4) (hw : x = shapeCast S1x1024x1024 (tile A B c (ord (pos c) j)) shapeCasts_S1024x1024_S1x1024x1024)
    (h : St A B RR R c a r w b r' w' j u (j + 1) ⊢ Runs c (k ⟨⟩) Q) :
    St A B RR R c a r w b r' w' j u j
      ⊢ Runs c (.op (.store voutM (Rect.unit (s := S4x1024x1024) off S1x1024x1024.size inb) x Finset.univ hx hm) k) Q := by
  subst ho
  unfold St at h ⊢
  iintro ⟨HW, #HR, #HL, Ht, Hf, Ho, HO, HX⟩
  iapply (store_out A B c j u hj x _ hw) $$ Ho
  iintro Ho
  iapply h
  isplitl [HW]; · iexact HW
  isplitr; · iexact HR
  isplitr; · iexact HL
  isplitl [Ht]; · iexact Ht
  isplitl [Hf]; · iexact Hf
  isplitl [Ho]; · iexact Ho
  isplitl [HO]; · iexact HO
  iexact HX

/-- The load of the block the `j`-th product reads, once it is there. -/
theorem step_load {off : Fin 3 → ℕ} {inb} {hl : commM.view.LoadsAt (Rect.unit (s := S32x1024x512) off S1x1024x512.size inb).toLoadRect}
    {k : (S1x1024x512.Idx → Elt F .bf16) → Prog (TpuEff nD τ sig (Elt F) Λ₀ .tc) α}
    (ho : off = ![(ord (pos c) j).val, 0, 0]) (hj : (j + 1) / 2 < r) (hj' : j / 2 < r' ∨ j = 31)
    (h : St A B RR R c a r w b r' w' j u j ⊢ Runs c (k (rows A (ord (pos c) j))) Q) :
    St A B RR R c a r w b r' w' j u j
      ⊢ Runs c (.op (.load commM (Rect.unit (s := S32x1024x512) off S1x1024x512.size inb).toLoadRect hl) k) Q := by
  subst ho
  rcases Nat.mod_two_eq_zero_or_one j with e | e
  · have hq : ord (pos c) j = sl false (pos c) (j / 2) := by unfold ord; rw [if_neg (by omega)]
    revert inb hl
    generalize ord (pos c) j = q at h hq ⊢
    subst hq
    intro inb hl
    refine on_false ?_ h
    iintro ⟨-, -, Hd, HO⟩ Hk
    iapply (load_dir A false c b r' w' (j / 2) (Nat.zero_le _) (by omega)) $$ Hd
    iintro Hd
    iapply Hk
    isplitl [Hd]; · iexact Hd
    iexact HO
  · have hq : ord (pos c) j = sl true (pos c) ((j + 1) / 2) := by unfold ord; rw [if_pos e]
    revert inb hl
    generalize ord (pos c) j = q at h hq ⊢
    subst hq
    intro inb hl
    refine on_true ?_ h
    iintro ⟨-, -, Hd, HO⟩ Hk
    iapply (load_dir A true c a r w ((j + 1) / 2) (by show 1 ≤ _; omega) hj) $$ Hd
    iintro Hd
    iapply Hk
    isplitl [Hd]; · iexact Hd
    iexact HO

omit [FloatOps F] in
theorem tab0_at (q : Fin 32) (inb) (x : S1.Idx) :
    (Memref.whole cc0_stg2_0 : Memref sig .tc .smem S32 .i32).view.readAt (Elt F) (Rect.unit (s := S32) ![q.val] S1.size inb).toLoadRect (tab0 (F := F)) x = wd (dev q) := by
  rw [← lit0_eq]
  refine congrArg lit0 (Fin.ext ?_)
  refine (Shape.rowMajor_val_one _).trans ?_
  have hx : (x 0).val < 1 := (x 0).isLt
  show q.val + 1 * (x 0).val = q.val
  omega

omit [FloatOps F] in
theorem tab1_at (d : Fin 32) (inb) (x : S1.Idx) :
    (Memref.whole cc0_stg3_0 : Memref sig .tc .smem S32 .i32).view.readAt (Elt F) (Rect.unit (s := S32) ![d.val] S1.size inb).toLoadRect (tab1 (F := F)) x = wd (pos d) := by
  rw [← lit1_eq]
  refine congrArg lit1 (Fin.ext ?_)
  refine (Shape.rowMajor_val_one _).trans ?_
  have hx : (x 0).val < 1 := (x 0).isLt
  show d.val + 1 * (x 0).val = d.val
  omega

/-- The table of devices read at position `q`. -/
theorem read_dev {Z : sProp 𝕄} (q : Fin 32) {off : Fin 1 → ℕ} {inb}
    {hl : (Memref.whole cc0_stg2_0 : Memref sig .tc .smem S32 .i32).view.LoadsAt (Rect.unit (s := S32) off S1.size inb).toLoadRect}
    {k : (S1.Idx → Elt F .i32) → Prog (TpuEff nD τ sig (Elt F) Λ₀ .tc) α}
    (ho : off = ![q.val]) (h : iprop(Win A B c ∗ Z) ⊢ Runs c (k (fun _ => wd (dev q))) Q) :
    iprop(Win A B c ∗ Z) ⊢ Runs c (.op (.load (Memref.whole cc0_stg2_0) (Rect.unit (s := S32) off S1.size inb).toLoadRect hl) k) Q := by
  subst ho
  unfold Win at h ⊢
  iintro ⟨⟨H0, H1, H2, H3⟩, HZ⟩
  iapply (wp_load 𝒱₀ (c : Thread nD τ) none Set.univ (defs := defs₀ (F := F)) (Γ := .empty) (cs := .smem) (s := S32) (e := .i32) (m := Memref.whole cc0_stg2_0)
    (r := (Rect.unit (s := S32) ![q.val] S1.size inb).toLoadRect) (hl := hl) (k := k) (Q := Q)
    (S := Finset.univ) (q := fullShare) (f := tab0 (F := F)) (Finset.subset_univ _)) $$ [H2]
  · iexact H2
  rw [show (Memref.whole cc0_stg2_0 : Memref sig .tc .smem S32 .i32).view.readAt (Elt F) (Rect.unit (s := S32) ![q.val] S1.size inb).toLoadRect (tab0 (F := F))
    = fun _ => wd (dev q) from funext fun x => tab0_at q inb x]
  iintro H2
  iapply h
  isplitr [HZ]
  · isplitl [H0]; · iexact H0
    isplitl [H1]; · iexact H1
    isplitl [H2]; · iexact H2
    iexact H3
  iexact HZ

/-- The table of positions read at device `d`. -/
theorem read_pos {Z : sProp 𝕄} (d : Fin 32) {off : Fin 1 → ℕ} {inb}
    {hl : (Memref.whole cc0_stg3_0 : Memref sig .tc .smem S32 .i32).view.LoadsAt (Rect.unit (s := S32) off S1.size inb).toLoadRect}
    {k : (S1.Idx → Elt F .i32) → Prog (TpuEff nD τ sig (Elt F) Λ₀ .tc) α}
    (ho : off = ![d.val]) (h : iprop(Win A B c ∗ Z) ⊢ Runs c (k (fun _ => wd (pos d))) Q) :
    iprop(Win A B c ∗ Z) ⊢ Runs c (.op (.load (Memref.whole cc0_stg3_0) (Rect.unit (s := S32) off S1.size inb).toLoadRect hl) k) Q := by
  subst ho
  unfold Win at h ⊢
  iintro ⟨⟨H0, H1, H2, H3⟩, HZ⟩
  iapply (wp_load 𝒱₀ (c : Thread nD τ) none Set.univ (defs := defs₀ (F := F)) (Γ := .empty) (cs := .smem) (s := S32) (e := .i32) (m := Memref.whole cc0_stg3_0)
    (r := (Rect.unit (s := S32) ![d.val] S1.size inb).toLoadRect) (hl := hl) (k := k) (Q := Q)
    (S := Finset.univ) (q := fullShare) (f := tab1 (F := F)) (Finset.subset_univ _)) $$ [H3]
  · iexact H3
  rw [show (Memref.whole cc0_stg3_0 : Memref sig .tc .smem S32 .i32).view.readAt (Elt F) (Rect.unit (s := S32) ![d.val] S1.size inb).toLoadRect (tab1 (F := F))
    = fun _ => wd (pos d) from funext fun x => tab1_at d inb x]
  iintro H3
  iapply h
  isplitr [HZ]
  · isplitl [H0]; · iexact H0
    isplitl [H1]; · iexact H1
    isplitl [H2]; · iexact H2
    iexact H3
  iexact HZ

/-- The left factor read. -/
theorem read_left {Z : sProp 𝕄} {inb}
    {hl : (Memref.whole cc0_stg0_0 : Memref sig .tc .vmem S1024x512 .bf16).view.LoadsAt (Rect.unit (s := S1024x512) ![0, 0] S1024x512.size inb).toLoadRect}
    {k : (S1024x512.Idx → Elt F .bf16) → Prog (TpuEff nD τ sig (Elt F) Λ₀ .tc) α}
    (h : iprop(Win A B c ∗ Z) ⊢ Runs c (k (A c)) Q) :
    iprop(Win A B c ∗ Z) ⊢ Runs c (.op (.load (Memref.whole cc0_stg0_0) (Rect.unit (s := S1024x512) ![0, 0] S1024x512.size inb).toLoadRect hl) k) Q := by
  unfold Win at h ⊢
  iintro ⟨⟨H0, H1, H2, H3⟩, HZ⟩
  iapply (wp_load 𝒱₀ (c : Thread nD τ) none Set.univ (defs := defs₀ (F := F)) (Γ := .empty) (cs := .vmem) (s := S1024x512) (e := .bf16) (m := Memref.whole cc0_stg0_0)
    (r := (Rect.unit (s := S1024x512) ![0, 0] S1024x512.size inb).toLoadRect) (hl := hl) (k := k) (Q := Q)
    (S := Finset.univ) (q := fullShare) (f := A c) (Finset.subset_univ _)) $$ [H0]
  · iexact H0
  rw [show (Memref.whole cc0_stg0_0 : Memref sig .tc .vmem S1024x512 .bf16).view.readAt (Elt F) (Rect.unit (s := S1024x512) ![0, 0] S1024x512.size inb).toLoadRect (A c) = A c from
    Memref.readAt_unit_zero (Elt F) cc0_stg0_0 (funext fun a => by fin_cases a <;> rfl) _ _]
  iintro H0
  iapply h
  isplitr [HZ]
  · isplitl [H0]; · iexact H0
    isplitl [H1]; · iexact H1
    isplitl [H2]; · iexact H2
    iexact H3
  iexact HZ

/-- The right factor read. -/
theorem read_right {Z : sProp 𝕄} {inb}
    {hl : (Memref.whole cc0_stg1_0 : Memref sig .tc .vmem S512x1024 .bf16).view.LoadsAt (Rect.unit (s := S512x1024) ![0, 0] S512x1024.size inb).toLoadRect}
    {k : (S512x1024.Idx → Elt F .bf16) → Prog (TpuEff nD τ sig (Elt F) Λ₀ .tc) α}
    (h : iprop(Win A B c ∗ Z) ⊢ Runs c (k (B c)) Q) :
    iprop(Win A B c ∗ Z) ⊢ Runs c (.op (.load (Memref.whole cc0_stg1_0) (Rect.unit (s := S512x1024) ![0, 0] S512x1024.size inb).toLoadRect hl) k) Q := by
  unfold Win at h ⊢
  iintro ⟨⟨H0, H1, H2, H3⟩, HZ⟩
  iapply (wp_load 𝒱₀ (c : Thread nD τ) none Set.univ (defs := defs₀ (F := F)) (Γ := .empty) (cs := .vmem) (s := S512x1024) (e := .bf16) (m := Memref.whole cc0_stg1_0)
    (r := (Rect.unit (s := S512x1024) ![0, 0] S512x1024.size inb).toLoadRect) (hl := hl) (k := k) (Q := Q)
    (S := Finset.univ) (q := fullShare) (f := B c) (Finset.subset_univ _)) $$ [H1]
  · iexact H1
  rw [show (Memref.whole cc0_stg1_0 : Memref sig .tc .vmem S512x1024 .bf16).view.readAt (Elt F) (Rect.unit (s := S512x1024) ![0, 0] S512x1024.size inb).toLoadRect (B c) = B c from
    Memref.readAt_unit_zero (Elt F) cc0_stg1_0 (funext fun a => by fin_cases a <;> rfl) _ _]
  iintro H1
  iapply h
  isplitr [HZ]
  · isplitl [H0]; · iexact H0
    isplitl [H1]; · iexact H1
    isplitl [H2]; · iexact H2
    iexact H3
  iexact HZ

theorem step_right {inb}
    {hl : (Memref.whole cc0_stg1_0 : Memref sig .tc .vmem S512x1024 .bf16).view.LoadsAt (Rect.unit (s := S512x1024) ![0, 0] S512x1024.size inb).toLoadRect}
    {k : (S512x1024.Idx → Elt F .bf16) → Prog (TpuEff nD τ sig (Elt F) Λ₀ .tc) α}
    (h : St A B RR R c a r w b r' w' j u v ⊢ Runs c (k (B c)) Q) :
    St A B RR R c a r w b r' w' j u v
      ⊢ Runs c (.op (.load (Memref.whole cc0_stg1_0) (Rect.unit (s := S512x1024) ![0, 0] S512x1024.size inb).toLoadRect hl) k) Q :=
  read_right h

/-- The device whose left factor the `j`-th product reads, looked up. -/
theorem step_origin {off : Fin 1 → ℕ} {inb}
    {hl : (Memref.whole cc0_stg2_0 : Memref sig .tc .smem S32 .i32).view.LoadsAt (Rect.unit (s := S32) off S1.size inb).toLoadRect}
    {k : (S1.Idx → Elt F .i32) → Prog (TpuEff nD τ sig (Elt F) Λ₀ .tc) α}
    (ho : off = ![(ord (pos c) j).val]) (h : St A B RR R c a r w b r' w' j u v ⊢ Runs c (k (fun _ => wd (dev (ord (pos c) j)))) Q) :
    St A B RR R c a r w b r' w' j u v
      ⊢ Runs c (.op (.load (Memref.whole cc0_stg2_0) (Rect.unit (s := S32) off S1.size inb).toLoadRect hl) k) Q :=
  read_dev _ ho h

/-- A side condition of the body that holds. -/
theorem step_assume {Z : sProp 𝕄} {P : Prop} {d : Decidable P} {k : PLift P → Prog (TpuEff nD τ sig (Elt F) Λ₀ .tc) α} (hP : P)
    (h : Z ⊢ Runs c (k ⟨hP⟩) Q) : Z ⊢ Runs c (.op (.assume P d) k) Q :=
  h.trans (wp_assume 𝒱₀ (c : Thread nD τ) none Set.univ hP)

end Step

end Cert.KernelIdeal.Walk
-- ==== Proof.KernelIdeal.Prologue.lean ====
/- The start of the body: the two barrier signals and the barrier wait, and the own left factor stored into its slot. -/
module

public import proofs.«01_k».proof.Proof.KernelIdeal.Steps

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (A : LeftC F) (B : RightC F)

/- What persists of the cells: from it, the invariants of the barrier's cells. -/
variable (κ : GSem nD τ sig → ℕ) (RR : sProp (MT nD τ sig Unit (Elt F) ℕ UU ℕ)) [BI.Persistent RR]
  (hB : ∀ d : Dev nD, RR ⊢ cellInv ER (Rd A B) (κ (barCell d)) (barCell d))
  (R : sProp (MT nD τ sig Unit (Elt F) ℕ UU ℕ))

/-- The tokens of a send, before the neighbour has said its slot is free. -/
def sendTok (o : Bool) (c : Dev nD) (i : ℕ) : sProp 𝕄 :=
  iprop(dutyTok ER (sCell o c i) 0 false ∗ reached ER (sCell o c i) 0 ∗ dutyTok ER (rCell (nb o c) (sl o (pos c) i)) 0 false)
/-- What a direction starts with. -/
def dirStart (o : Bool) (c : Dev nD) : sProp 𝕄 :=
  iprop(bigSep (Finset.Ico 0 (lim o)) (sendTok (F := F) o c) ∗ bigSep (Finset.Ico 0 (lim o)) (fun i => atPos ER (sCell o c i) 0 ∅ 0)
    ∗ bigSep (Finset.Ico 1 (lim o + 1)) (recvTodo (F := F) o c))

/-- The payment of a barrier signal: its token and the free slots it announces. -/
def sigPart (n : Dev nD) (o : Bool) : sProp 𝕄 :=
  iprop(dutyTok ER (barCell n) 0 o ∗ reached ER (barCell n) 0 ∗ barPay (F := F) n o)
/-- The right to wait at the barrier, and what the wait brings. -/
def barTodo (c : Dev nD) : sProp 𝕄 := iprop(atPos ER (barCell c) 0 ∅ 0 ∗ cred (tallyAt (barCell c) () 2))
def barDone (c : Dev nD) : sProp 𝕄 := iprop(semVal (barCell c) 0 ∗ barPay (F := F) c false ∗ barPay (F := F) c true)

/-- Device `c` before its first send, owing `Ow` and holding `Y` for the barrier. -/
def Pre (c : Dev nD) (Ow : CellTallies nD τ sig Unit) (Y : sProp 𝕄) : sProp 𝕄 :=
  iprop(Win A B c ∗ RR ∗ levAts L lv ∗ dirStart true c ∗ dirStart false c ∗ (∃ f, slotPt (F := F) c (pos c) fullShare f) ∗ outPart A B c 0 0 0
    ∗ (∃ W, owes (c : Thread nD τ) Ow W) ∗ Y ∗ R)

section Step
variable {A B κ RR R} {c : Dev nD} {α : Type} {Q : α → sProp (MT nD τ sig Unit (Elt F) ℕ UU ℕ)}

include hB in
theorem step_signal {n : Dev nD} {sm : Sem sig} {z : ℤ} {k : PUnit → Prog (TpuEff nD τ sig (Elt F) Λ₀ .tc) α}
    (d : Dev nD) (o : Bool) {Ow : CellTallies nD τ sig Unit} (O' : CellTallies nD τ sig Unit) {Z : sProp 𝕄}
    (hn : n = d) (hs : sm = barS) (hz : z = ((1 : ℕ) : ℤ)) (hO : Ow = O' + tallyAt (barCell d) () 1)
    (h : Pre A B RR R c O' Z ⊢ Runs c (k ⟨⟩) Q) :
    Pre A B RR R c Ow iprop(sigPart d o ∗ Z) ⊢ Runs c (.op (.semSignal (n : Thread nD τ) sm z) k) Q := by
  subst hn hs hz
  unfold Pre at h ⊢
  unfold sigPart
  iintro ⟨HW, #HR, #HL, Ht, Hf, Hs, Ho, ⟨%W, HO⟩, ⟨⟨Htok, #Hr, Hpay⟩, HZ⟩, HX⟩
  ihave #HI := (hB n) $$ HR
  ihave Hpay := (Entails.of_eq (payload_bar A B n o).symm) $$ Hpay
  iapply (Rounds.wp_signal (defs := defs₀ (F := F)) (Γ := .empty) 𝒱₀ ER (Rd A B) (c : Thread nD τ) none (dst := (n : Thread nD τ)) (sem := barS) (r := 0) (d := o) (k' := 1)
    (k := k) (Q := Q) (κ := κ (barCell n)) (by rw [duties_bar]; exact Finset.mem_univ _) (amount_bar A B n o) () O' hO (W := W) (Es := Set.univ)) $$ [HO Htok Hpay]
  · isplitr; · iexact HI
    isplitl [HO]; · iexact HO
    isplitl [Htok]; · iexact Htok
    isplitl [Hpay]; · iexact Hpay
    iexact Hr
  iintro HO
  iapply h
  isplitl [HW]; · iexact HW
  isplitr; · iexact HR
  isplitr; · iexact HL
  isplitl [Ht]; · iexact Ht
  isplitl [Hf]; · iexact Hf
  isplitl [Hs]; · iexact Hs
  isplitl [Ho]; · iexact Ho
  isplitl [HO]; · iexists W; iexact HO
  isplitl [HZ]; · iexact HZ
  iexact HX

include hB in
theorem step_barrier {sm : Sem sig} {z : ℤ} {k : PUnit → Prog (TpuEff nD τ sig (Elt F) Λ₀ .tc) α}
    (hs : sm = barS) (hz : z = ((2 : ℕ) : ℤ)) (h : Pre A B RR R c (O c 0 0) (barDone c) ⊢ Runs c (k ⟨⟩) Q) :
    Pre A B RR R c (O c 0 0) (barTodo c) ⊢ Runs c (.op (.semWait sm z) k) Q := by
  subst hs hz
  unfold Pre at h ⊢
  unfold barDone at h
  unfold barTodo
  iintro ⟨HW, #HR, #HL, Ht, Hf, Hs, Ho, ⟨%W, HO⟩, ⟨Hat, Hc⟩, HX⟩
  ihave #HI := (hB c) $$ HR
  ihave HM := (mayWait (F := F) c (.reg barS) 0 0 1 (by rw [lv_bar]) (Or.inl (by omega)) (Or.inl (by omega))) $$ HL
  iapply (Rounds.wp_wait_rest_token 𝒱₀ ER (Rd A B) (c : Thread nD τ) none (κ := κ (barCell c))
      (wpE_semWait_eq 𝒱₀ (c : Thread nD τ) none Set.univ) (Set.mem_univ _) () (O := O c 0 0) (W := W) (R := 0) (m := 0) (T := ∅)
      (by rw [Nat.zero_add, expect_bar])) $$ [Hc HO HM Hat]
  · isplitr; · iexact HI
    isplitl [Hc]; · iexact Hc
    isplitl [HO]; · iexact HO
    isplitl [HM]; · iexact HM
    iexact Hat
  iintro ⟨HO, Hat, -, Hpay⟩
  imod (Rounds.cell_close ER (Rd A B) (Set.mem_univ (κ (barCell c))) (fun h => h) (R := 0 + 1) (duties_later A B _)) $$ [Hat] with Hz
  · isplitr; · iexact HI
    iexact Hat
  ihave Hpay := (Entails.of_eq (rest_bar A B c)) $$ Hpay
  iapply h
  isplitl [HW]; · iexact HW
  isplitr; · iexact HR
  isplitr; · iexact HL
  isplitl [Ht]; · iexact Ht
  isplitl [Hf]; · iexact Hf
  isplitl [Hs]; · iexact Hs
  isplitl [Ho]; · iexact Ho
  isplitl [HO]; · iexists (insert (SemLoc.reg barS, ()) W); iexact HO
  isplitl [Hz Hpay]
  · isplitl [Hz]; · iexact Hz
    iexact Hpay
  iexact HX

theorem pre_left {Ow : CellTallies nD τ sig Unit} {Y : sProp 𝕄} {inb}
    {hl : (Memref.whole cc0_stg0_0 : Memref sig .tc .vmem S1024x512 .bf16).view.LoadsAt (Rect.unit (s := S1024x512) ![0, 0] S1024x512.size inb).toLoadRect}
    {k : (S1024x512.Idx → Elt F .bf16) → Prog (TpuEff nD τ sig (Elt F) Λ₀ .tc) α}
    (h : Pre A B RR R c Ow Y ⊢ Runs c (k (A c)) Q) :
    Pre A B RR R c Ow Y ⊢ Runs c (.op (.load (Memref.whole cc0_stg0_0) (Rect.unit (s := S1024x512) ![0, 0] S1024x512.size inb).toLoadRect hl) k) Q :=
  read_left h
theorem pre_dev (q : Fin 32) {Ow : CellTallies nD τ sig Unit} {Y : sProp 𝕄} {off : Fin 1 → ℕ} {inb}
    {hl : (Memref.whole cc0_stg2_0 : Memref sig .tc .smem S32 .i32).view.LoadsAt (Rect.unit (s := S32) off S1.size inb).toLoadRect}
    {k : (S1.Idx → Elt F .i32) → Prog (TpuEff nD τ sig (Elt F) Λ₀ .tc) α}
    (ho : off = ![q.val]) (h : Pre A B RR R c Ow Y ⊢ Runs c (k (fun _ => wd (dev q))) Q) :
    Pre A B RR R c Ow Y ⊢ Runs c (.op (.load (Memref.whole cc0_stg2_0) (Rect.unit (s := S32) off S1.size inb).toLoadRect hl) k) Q :=
  read_dev q ho h
theorem pre_pos (d : Fin 32) {Ow : CellTallies nD τ sig Unit} {Y : sProp 𝕄} {off : Fin 1 → ℕ} {inb}
    {hl : (Memref.whole cc0_stg3_0 : Memref sig .tc .smem S32 .i32).view.LoadsAt (Rect.unit (s := S32) off S1.size inb).toLoadRect}
    {k : (S1.Idx → Elt F .i32) → Prog (TpuEff nD τ sig (Elt F) Λ₀ .tc) α}
    (ho : off = ![d.val]) (h : Pre A B RR R c Ow Y ⊢ Runs c (k (fun _ => wd (pos d))) Q) :
    Pre A B RR R c Ow Y ⊢ Runs c (.op (.load (Memref.whole cc0_stg3_0) (Rect.unit (s := S32) off S1.size inb).toLoadRect hl) k) Q :=
  read_pos d ho h

/-- A load from the device's own slot before it is filled, whose result is not used. -/
theorem pre_peek {Ow : CellTallies nD τ sig Unit} {Y : sProp 𝕄} {off : Fin 3 → ℕ} {inb}
    {hl : commM.view.LoadsAt (Rect.unit (s := S32x1024x512) off S1x1024x512.size inb).toLoadRect}
    {k : (S1x1024x512.Idx → Elt F .bf16) → Prog (TpuEff nD τ sig (Elt F) Λ₀ .tc) α}
    (ho : off = ![(pos c).val, 0, 0]) (h : ∀ x, Pre A B RR R c Ow Y ⊢ Runs c (k x) Q) :
    Pre A B RR R c Ow Y ⊢ Runs c (.op (.load commM (Rect.unit (s := S32x1024x512) off S1x1024x512.size inb).toLoadRect hl) k) Q := by
  subst ho
  unfold Pre slotPt at h ⊢
  iintro ⟨HW, #HR, #HL, Ht, Hf, ⟨%f, Hs⟩, Ho, HO, HY, HX⟩
  iapply (wp_load_rect 𝒱₀ (c : Thread nD τ) none Set.univ (defs := defs₀ (F := F)) (Γ := .empty) (cs := .vmem) (s := S32x1024x512) (e := .bf16) (m := commM) (r := slotR (pos c)) (hl := hl) (k := k) (Q := Q)
    (S := (slotR (pos c)).set) (q := fullShare) (f := f) (Eq.subset (View.set_slice_whole _ _))) $$ [Hs]
  · iexact Hs
  iintro Hs
  iapply (h _)
  isplitl [HW]; · iexact HW
  isplitr; · iexact HR
  isplitr; · iexact HL
  isplitl [Ht]; · iexact Ht
  isplitl [Hf]; · iexact Hf
  isplitl [Hs]; · iexists f; iexact Hs
  isplitl [Ho]; · iexact Ho
  isplitl [HO]; · iexact HO
  isplitl [HY]; · iexact HY
  iexact HX

/-- A direction ready to send: its tokens and the slots the neighbour has freed, with the own slot's part to lend. -/
theorem dir_open (o : Bool) (K : sProp 𝕄) (hK : K ⊢ bigSep (Finset.Ico (lo o) 1) (keep A o c)) :
    iprop(dirStart o c ∗ barPay c o ∗ lend A o c 0 ∗ K) ⊢ dirPart A o c 0 1 0 := by
  have hs : iprop(bigSep (Finset.Ico 0 (lim o)) (sendTok (F := F) o c) ∗ barPay c o) ⊢ bigSep (Finset.Ico 0 (lim o)) (sendTodo (F := F) o c) := by
    unfold barPay
    refine (Entails.of_eq (bigSep_sep (Finset.Ico 0 (lim o)) (sendTok (F := F) o c)
      (fun i => iprop((∃ f, slotPt (F := F) (nb o c) (sl o (pos c) i) fullShare f) ∗ reached ER (rCell (nb o c) (sl o (pos c) i)) 0))).symm).trans ?_
    refine bigSep_mono fun i _ => ?_
    show iprop(sendTok (F := F) o c i ∗ ((∃ f, slotPt (F := F) (nb o c) (sl o (pos c) i) fullShare f) ∗ reached ER (rCell (nb o c) (sl o (pos c) i)) 0))
      ⊢ sendTodo (F := F) o c i
    unfold sendTok sendTodo
    iintro ⟨⟨H1, H2, H3⟩, H4, H5⟩
    isplitl [H1]; · iexact H1
    isplitl [H2]; · iexact H2
    isplitl [H3]; · iexact H3
    isplitl [H5]; · iexact H5
    iexact H4
  have e1 : bigSep (Finset.Ico 0 1) (lend A o c) = lend A o c 0 := bigSep_Ico_one 0 _
  unfold dirStart dirPart
  rw [e1, Finset.Ico_self, Finset.Ico_self, bigSep_empty, bigSep_empty, bigSep_empty]
  iintro ⟨⟨H1, H2, H3⟩, H4, H5, H6⟩
  isplitl [H1 H4]
  · iapply hs
    isplitl [H1]; · iexact H1
    iexact H4
  isplitr; · iempintro
  isplitl [H2]; · iexact H2
  isplitr; · iempintro
  isplitl [H3]; · iexact H3
  isplitr; · iempintro
  isplitl [H6]; · iapply hK; iexact H6
  iexact H5

/-- The own slot, filled, in its three parts: one kept, one for each direction. -/
theorem own_split : slotPt c (pos c) fullShare (G A) ⊢ iprop(keep A false c 0 ∗ lend A true c 0 ∗ lend A false c 0) := by
  unfold keep lend
  rw [sl_zero, sl_zero, show sh true 0 = fullShare.left.left from rfl, show sh false 0 = fullShare.left.right from rfl]
  unfold slotPt
  iintro H
  ihave H := (pointsTo_share (PosShare.mem_left_op_right fullShare)).1 $$ H
  icases H with ⟨H1, H2⟩
  ihave H := (pointsTo_share (PosShare.mem_left_op_right fullShare.left)).1 $$ H1
  icases H with ⟨H3, H4⟩
  isplitl [H2]; · iexact H2
  isplitl [H3]; · iexact H3
  iexact H4

/-- The store of the left factor into its slot, after which both directions may send. -/
theorem pre_store {off : Fin 3 → ℕ} {inb} {x : S1x1024x512.Idx → Elt F .bf16}
    {hx : (commM.access (Rect.unit (s := S32x1024x512) off S1x1024x512.size inb)).Stores Finset.univ}
    {hm : (Finset.univ : Finset (Rect.unit (s := S32x1024x512) off S1x1024x512.size inb).shape.Idx) = Finset.univ
      ∨ ∀ a, (Rect.unit (s := S32x1024x512) off S1x1024x512.size inb).stride a = 1}
    {k : PUnit → Prog (TpuEff nD τ sig (Elt F) Λ₀ .tc) α}
    (ho : off = ![(pos c).val, 0, 0]) (hw : x = rows A (pos c))
    (h : St A B RR iprop(semVal (barCell c) 0 ∗ R) c 0 1 0 0 1 0 0 0 0 ⊢ Runs c (k ⟨⟩) Q) :
    Pre A B RR R c (O c 0 0) (barDone c)
      ⊢ Runs c (.op (.store commM (Rect.unit (s := S32x1024x512) off S1x1024x512.size inb) x Finset.univ hx hm) k) Q := by
  subst ho
  have hst : ∀ f, (((c : Thread nD τ).loc cc0_scratch0) ↦[(slotR (pos c)).set]{fullShare} ((commM.access (slotR (pos c))).write (Elt F) f x Finset.univ) : sProp 𝕄)
      ⊢ slotPt c (pos c) fullShare (G A) := fun f => Entails.of_eq (pointsTo_congr (store_slot A c f x hw))
  unfold Pre St at *
  unfold barDone
  iintro ⟨HW, #HR, #HL, Ht, Hf, ⟨%f, Hs⟩, Ho, HO, ⟨Hz, Hpf, Hpt⟩, HX⟩
  unfold slotPt
  iapply (wp_store 𝒱₀ (c : Thread nD τ) none Set.univ (defs := defs₀ (F := F)) (Γ := .empty) (cs := .vmem) (s := S32x1024x512) (e := .bf16) (m := commM) (r := slotR (pos c)) (hx := hx) (hm := hm) (k := k) (Q := Q)
    (S := (slotR (pos c)).set) (f := f) (by rw [View.setOn_univ]; exact Eq.subset (View.set_slice_whole _ _))) $$ [Hs]
  · iexact Hs
  iintro Hs
  ihave Hs := (hst f) $$ Hs
  ihave Hs := (own_split (A := A) (c := c)) $$ Hs
  icases Hs with ⟨Hk, Hlt, Hlf⟩
  iapply h
  isplitl [HW]; · iexact HW
  isplitr; · iexact HR
  isplitr; · iexact HL
  isplitl [Ht Hpt Hlt]
  · iapply (dir_open (A := A) (c := c) true iprop(emp) (by rw [show Finset.Ico (lo true) 1 = ∅ from rfl, bigSep_empty]; exact .rfl))
    isplitl [Ht]; · iexact Ht
    isplitl [Hpt]; · iexact Hpt
    isplitl [Hlt]; · iexact Hlt
    iempintro
  isplitl [Hf Hpf Hlf Hk]
  · iapply (dir_open (A := A) (c := c) false (keep A false c 0) (Entails.of_eq (bigSep_Ico_one 0 _).symm))
    isplitl [Hf]; · iexact Hf
    isplitl [Hpf]; · iexact Hpf
    isplitl [Hlf]; · iexact Hlf
    iexact Hk
  isplitl [Ho]; · iexact Ho
  isplitl [HO]; · iexact HO
  isplitl [Hz]; · iexact Hz
  iexact HX

end Step

end Cert.KernelIdeal.Walk
-- ==== Proof.KernelIdeal.Parts.lean ====
/- The buffers a device works in, whole and in parts: how they are cut before the body and joined after it. -/
module

public import proofs.«01_k».proof.Proof.KernelIdeal.Prologue
public import Idealize.ShloMosaic.Lib.Ring

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (A : LeftC F) (B : RightC F)

omit [FloatOps F] in
/-- A run of indices, counted from its first. -/
theorem bigSep_shift {M : Type*} [URA M] (a n : ℕ) (Φ : ℕ → sProp M) :
    bigSep (Finset.Ico a (n + a)) Φ = bigSep (Finset.Ico 0 n) (fun i => Φ (i + a)) := by
  have h : Finset.Ico a (n + a) = (Finset.Ico 0 n).map (addRightEmbedding a) := by
    ext i
    simp only [Finset.mem_map, Finset.mem_Ico, addRightEmbedding_apply]
    exact ⟨fun h => ⟨i - a, by omega, by omega⟩, fun ⟨j, h, e⟩ => by omega⟩
  rw [h, bigSep_map]
  rfl

/-! ## The gathered array -/

omit [FloatOps F] in
theorem slots_disjoint' (q q' : Fin 32) (h : q ≠ q') : Disjoint (slotR q).set (slotR q').set :=
  Ring.lead_disjoint (s := S32x1024x512) (NB := 32) 0 1 (fun q => ![q.val, 0, 0]) S1x1024x512.size slot_inb (fun q => (Nat.one_mul _).symm) rfl q q' h
omit [FloatOps F] in
theorem slots_cover : Finset.univ.biUnion (fun q => (slotR q).set) = Finset.univ :=
  Ring.lead_cover (s := S32x1024x512) (NB := 32) 0 1 (fun q => ![q.val, 0, 0]) S1x1024x512.size slot_inb (fun q => (Nat.one_mul _).symm)
    (fun q a ha => by fin_cases a <;> first | exact absurd rfl ha | rfl) rfl (fun a ha => by fin_cases a <;> first | exact absurd rfl ha | rfl) rfl

omit [FloatOps F] in
theorem slots_cover_at (c : Dev nD) : Finset.univ.biUnion (fun q : Fin 32 => ((slotR q).set : Finset (Idx ((c : Thread nD τ).loc cc0_scratch0)))) = Finset.univ := by
  ext i
  have h : i ∈ Finset.univ.biUnion (fun q : Fin 32 => (slotR q).set) := by rw [slots_cover]; exact Finset.mem_univ _
  obtain ⟨q, -, hq⟩ := Finset.mem_biUnion.mp h
  exact iff_of_true (Finset.mem_biUnion.mpr ⟨q, Finset.mem_univ _, hq⟩) (Finset.mem_univ _)

omit [FloatOps F] in
/-- The gathered array, slot by slot. -/
theorem comm_slots (c : Dev nD) (f : S32x1024x512.Idx → Elt F .bf16) :
    ((((c : Thread nD τ).loc cc0_scratch0) ↦{fullShare} f : sProp 𝕄)) = bigSep Finset.univ (fun q => slotPt c q fullShare f) :=
  Ring.pointsTo_blocks (ℓ := ((c : Thread nD τ).loc cc0_scratch0)) (B := Fin 32) (fun q => (slotR q).set) slots_disjoint' (slots_cover_at c) f

/-- The slots joined, whatever they hold. -/
theorem comm_join (c : Dev nD) (f₀ : S32x1024x512.Idx → Elt F .bf16) :
    (bigSep Finset.univ (fun q => iprop(∃ f, slotPt (F := F) c q fullShare f)) : sProp 𝕄)
      ⊢ iprop(∃ g, (((c : Thread nD τ).loc cc0_scratch0) ↦{fullShare} g)) :=
  Ring.pointsTo_blocks_join_exists (ℓ := ((c : Thread nD τ).loc cc0_scratch0)) (B := Fin 32) (fun q => (slotR q).set) slots_disjoint' (slots_cover_at c) f₀

/-! ## The product buffer -/

omit [FloatOps F] in
theorem vslots_disjoint (q q' : Fin 4) (h : q ≠ q') : Disjoint (vslotR q).set (vslotR q').set :=
  Ring.lead_disjoint (s := S4x1024x1024) (NB := 4) 0 1 (fun q => ![q.val, 0, 0]) S1x1024x1024.size vslot_inb (fun q => (Nat.one_mul _).symm) rfl q q' h
omit [FloatOps F] in
theorem vslots_cover : Finset.univ.biUnion (fun q => (vslotR q).set) = Finset.univ :=
  Ring.lead_cover (s := S4x1024x1024) (NB := 4) 0 1 (fun q => ![q.val, 0, 0]) S1x1024x1024.size vslot_inb (fun q => (Nat.one_mul _).symm)
    (fun q a ha => by fin_cases a <;> first | exact absurd rfl ha | rfl) rfl (fun a ha => by fin_cases a <;> first | exact absurd rfl ha | rfl) rfl

omit [FloatOps F] in
theorem vslots_cover_at (c : Dev nD) : Finset.univ.biUnion (fun q : Fin 4 => ((vslotR q).set : Finset (Idx ((c : Thread nD τ).loc cc0_scratch1)))) = Finset.univ := by
  ext i
  have h : i ∈ Finset.univ.biUnion (fun q : Fin 4 => (vslotR q).set) := by rw [vslots_cover]; exact Finset.mem_univ _
  obtain ⟨q, -, hq⟩ := Finset.mem_biUnion.mp h
  exact iff_of_true (Finset.mem_biUnion.mpr ⟨q, Finset.mem_univ _, hq⟩) (Finset.mem_univ _)

omit [FloatOps F] in
/-- Four slots in a row are all of the buffer's. -/
theorem vslots_run (a : ℕ) (ha : a = 0 ∨ a = 32) (Φ : Fin 4 → sProp 𝕄) :
    bigSep Finset.univ Φ = bigSep (Finset.Ico a (a + 4)) (fun k => Φ (vs k)) := by
  rcases ha with rfl | rfl
  · rw [show (Finset.univ : Finset (Fin 4)) = (Finset.Ico 0 (0 + 4)).image vs from by decide]
    exact bigSep_image_inj _ vs (by decide) Φ
  · rw [show (Finset.univ : Finset (Fin 4)) = (Finset.Ico 32 (32 + 4)).image vs from by decide]
    exact bigSep_image_inj _ vs (by decide) Φ

omit [FloatOps F] in
theorem vout_open (c : Dev nD) (f : S4x1024x1024.Idx → Elt F .bf16) :
    ((((c : Thread nD τ).loc cc0_scratch1) ↦{fullShare} f : sProp 𝕄)) ⊢ bigSep (Finset.Ico 0 4) (slotFree (F := F) c) := by
  have h : ((((c : Thread nD τ).loc cc0_scratch1) ↦{fullShare} f : sProp 𝕄)) = bigSep Finset.univ (fun s => voutPt c s f) :=
    Ring.pointsTo_blocks (ℓ := ((c : Thread nD τ).loc cc0_scratch1)) (B := Fin 4) (fun q => (vslotR q).set) vslots_disjoint (vslots_cover_at c) f
  rw [h, vslots_run 0 (Or.inl rfl)]
  refine bigSep_mono fun k _ => ?_
  show voutPt c (vs k) f ⊢ iprop(∃ f, voutPt (F := F) c (vs k) f)
  iintro H; iexists f; iexact H

theorem vout_join (c : Dev nD) (f₀ : S4x1024x1024.Idx → Elt F .bf16) :
    (bigSep (Finset.Ico 32 36) (slotFree (F := F) c) : sProp 𝕄) ⊢ iprop(∃ g, (((c : Thread nD τ).loc cc0_scratch1) ↦{fullShare} g)) := by
  refine (Entails.of_eq (vslots_run 32 (Or.inr rfl) (fun s => iprop(∃ f, voutPt (F := F) c s f))).symm).trans ?_
  exact Ring.pointsTo_blocks_join_exists (ℓ := ((c : Thread nD τ).loc cc0_scratch1)) (B := Fin 4) (fun q => (vslotR q).set) vslots_disjoint (vslots_cover_at c) f₀

/-! ## The result -/

omit [FloatOps F] in
theorem rows_disjoint (q q' : Fin 32) (h : q ≠ q') : Disjoint (rowsR q).set (rowsR q').set :=
  Ring.lead_disjoint (s := S32768x1024) (NB := 32) 0 1024 (fun q => ![q.val * 1024, 0]) S1024x1024.size rows_inb (fun q => Nat.mul_comm _ _) rfl q q' h
omit [FloatOps F] in
theorem rows_cover : Finset.univ.biUnion (fun q => (rowsR q).set) = Finset.univ :=
  Ring.lead_cover (s := S32768x1024) (NB := 32) 0 1024 (fun q => ![q.val * 1024, 0]) S1024x1024.size rows_inb (fun q => Nat.mul_comm _ _)
    (fun q a ha => by fin_cases a <;> first | exact absurd rfl ha | rfl) rfl (fun a ha => by fin_cases a <;> first | exact absurd rfl ha | rfl) rfl

omit [FloatOps F] in
theorem rows_cover_at (c : Dev nD) : Finset.univ.biUnion (fun q : Fin 32 => ((rowsR q).set : Finset (Idx ((c : Thread nD τ).loc main_v1)))) = Finset.univ := by
  ext i
  have h : i ∈ Finset.univ.biUnion (fun q : Fin 32 => (rowsR q).set) := by rw [rows_cover]; exact Finset.mem_univ _
  obtain ⟨q, -, hq⟩ := Finset.mem_biUnion.mp h
  exact iff_of_true (Finset.mem_biUnion.mpr ⟨q, Finset.mem_univ _, hq⟩) (Finset.mem_univ _)

omit [FloatOps F] in
/-- The result, rows by rows in the order in which device `c` makes them. -/
theorem res_rows (c : Dev nD) (f : S32768x1024.Idx → Elt F .bf16) :
    ((((c : Thread nD τ).loc main_v1) ↦{fullShare} f : sProp 𝕄))
      = bigSep (Finset.Ico 0 32) (fun j => rowsPt c (dev (ord (pos c) j)) f) := by
  have h : ((((c : Thread nD τ).loc main_v1) ↦{fullShare} f : sProp 𝕄)) = bigSep Finset.univ (fun x : Fin 32 => rowsPt c x f) :=
    Ring.pointsTo_blocks (ℓ := ((c : Thread nD τ).loc main_v1)) (B := Fin 32) (fun q => (rowsR q).set) rows_disjoint (rows_cover_at c) f
  rw [h, bigSep_univ_equiv ring (fun x : Fin 32 => rowsPt c x f)]
  exact slots_ord (pos c) (fun q => rowsPt c (dev q) f)

/-! ## Before the body -/

omit [FloatOps F] in
/-- The slots that the neighbour against direction `o` will fill, as the signal to it announces them. -/
theorem barPay_own (o : Bool) (c : Dev nD) :
    bigSep (Finset.Ico 1 (lim o + 1)) (fun i => iprop((∃ f, slotPt (F := F) c (sl o (pos c) i) fullShare f) ∗ reached ER (rCell c (sl o (pos c) i)) 0))
      = barPay (F := F) (nb (!o) c) o := by
  rw [bigSep_shift]
  unfold barPay
  refine bigSep_congr fun i _ => ?_
  have h := sl_nb o (nb (!o) c) i
  rw [nb_nb] at h
  rw [nb_nb, h]

/-! ## After the body -/

/-- A slot's two parts, joined. -/
theorem keep_lend (o : Bool) (c : Dev nD) (i : ℕ) (h : 1 ≤ i) :
    iprop(keep A o c i ∗ lend A o c i) ⊢ iprop(∃ f, slotPt (F := F) c (sl o (pos c) i) fullShare f) := by
  unfold keep lend sh
  rw [if_neg (by omega)]
  unfold slotPt
  iintro ⟨H1, H2⟩
  iexists (G A)
  iapply (pointsTo_share (PosShare.mem_left_op_right fullShare)).2
  isplitl [H2]; · iexact H2
  iexact H1

/-- The own slot's three parts, joined. -/
theorem own_join (c : Dev nD) :
    iprop(keep A false c 0 ∗ lend A true c 0 ∗ lend A false c 0) ⊢ iprop(∃ f, slotPt (F := F) c (pos c) fullShare f) := by
  unfold keep lend
  rw [sl_zero, sl_zero, show sh true 0 = fullShare.left.left from rfl, show sh false 0 = fullShare.left.right from rfl]
  unfold slotPt
  iintro ⟨H1, H2, H3⟩
  iexists (G A)
  iapply (pointsTo_share (PosShare.mem_left_op_right fullShare)).2
  isplitl [H2 H3]
  · iapply (pointsTo_share (PosShare.mem_left_op_right fullShare.left)).2
    isplitl [H2]; · iexact H2
    iexact H3
  iexact H1

/-- What a direction that is done leaves: its semaphores at rest and every slot in its parts. -/
theorem dir_end (o : Bool) (c : Dev nD) :
    dirPart A o c (lim o) (lim o + 1) (lim o)
      ⊢ iprop(bigSep (Finset.Ico 0 (lim o)) (fun i => semVal (sCell o c i) 0) ∗ bigSep (Finset.Ico 1 (lim o + 1)) (fun i => semVal (rCell c (sl o (pos c) i)) 0)
          ∗ bigSep (Finset.Ico (lo o) 1) (keep A o c) ∗ lend A o c 0
          ∗ bigSep (Finset.Ico 1 (lim o + 1)) (fun i => iprop(∃ f, slotPt (F := F) c (sl o (pos c) i) fullShare f))) := by
  have hs : bigSep (Finset.Ico 0 (lim o)) (sentDone A o c)
      = iprop(bigSep (Finset.Ico 0 (lim o)) (fun i => semVal (sCell o c i) 0) ∗ bigSep (Finset.Ico 0 (lim o)) (lend A o c)) :=
    bigSep_sep (Finset.Ico 0 (lim o)) (fun i => semVal (sCell o c i) 0) (lend A o c)
  have hl : iprop(bigSep (Finset.Ico 0 (lim o)) (lend A o c) ∗ bigSep (Finset.Ico (lim o) (lim o + 1)) (lend A o c))
      = iprop(lend A o c 0 ∗ bigSep (Finset.Ico 1 (lim o + 1)) (lend A o c)) := by
    refine Eq.trans ?_ (bigSep_Ico_succ_bot (Nat.succ_pos _) (lend A o c))
    rw [← Finset.Ico_union_Ico_eq_Ico (Nat.zero_le (lim o)) (Nat.le_succ _), bigSep_union (Finset.Ico_disjoint_Ico_consecutive _ _ _)]
    rfl
  have hk : bigSep (Finset.Ico (lo o) (lim o + 1)) (keep A o c)
      = iprop(bigSep (Finset.Ico (lo o) 1) (keep A o c) ∗ bigSep (Finset.Ico 1 (lim o + 1)) (keep A o c)) := by
    rw [← Finset.Ico_union_Ico_eq_Ico (show lo o ≤ 1 by cases o <;> decide) (show 1 ≤ lim o + 1 by omega), bigSep_union (Finset.Ico_disjoint_Ico_consecutive _ _ _)]
    rfl
  have hj : iprop(bigSep (Finset.Ico 1 (lim o + 1)) (keep A o c) ∗ bigSep (Finset.Ico 1 (lim o + 1)) (lend A o c))
      ⊢ bigSep (Finset.Ico 1 (lim o + 1)) (fun i => iprop(∃ f, slotPt (F := F) c (sl o (pos c) i) fullShare f)) := by
    refine (Entails.of_eq (bigSep_sep (Finset.Ico 1 (lim o + 1)) (keep A o c) (lend A o c)).symm).trans ?_
    exact bigSep_mono fun i hi => keep_lend A o c i (Finset.mem_Ico.mp hi).1
  unfold dirPart
  rw [hs, hk]
  iintro ⟨-, -, -, ⟨Hs, Hl⟩, -, Hr, ⟨Hk, Hk'⟩, Hl'⟩
  ihave H := (Entails.of_eq hl) $$ [Hl Hl']
  · isplitl [Hl]; · iexact Hl
    iexact Hl'
  icases H with ⟨H0, Hl⟩
  isplitl [Hs]; · iexact Hs
  isplitl [Hr]; · iexact Hr
  isplitl [Hk]; · iexact Hk
  isplitl [H0]; · iexact H0
  iapply hj
  isplitl [Hk']; · iexact Hk'
  iexact Hl

/-- Both directions done, the gathered array is whole again and their semaphores are at rest. -/
theorem gather_end (c : Dev nD) :
    iprop(dirPart A true c 16 17 16 ∗ dirPart A false c 15 16 15)
      ⊢ iprop((∃ g, (((c : Thread nD τ).loc cc0_scratch0) ↦{fullShare} g))
          ∗ bigSep (Finset.Ico 0 16) (fun i => semVal (sCell true c i) 0) ∗ bigSep (Finset.Ico 0 15) (fun i => semVal (sCell false c i) 0)
          ∗ bigSep (Finset.Ico 1 17) (fun i => semVal (rCell c (sl true (pos c) i)) 0) ∗ bigSep (Finset.Ico 1 16) (fun i => semVal (rCell c (sl false (pos c) i)) 0)) := by
  have hj : iprop((∃ f, slotPt (F := F) c (pos c) fullShare f)
        ∗ bigSep (Finset.Ico 1 17) (fun i => iprop(∃ f, slotPt (F := F) c (sl true (pos c) i) fullShare f))
        ∗ bigSep (Finset.Ico 1 16) (fun i => iprop(∃ f, slotPt (F := F) c (sl false (pos c) i) fullShare f)))
      ⊢ iprop(∃ g, (((c : Thread nD τ).loc cc0_scratch0) ↦{fullShare} g)) :=
    (Entails.of_eq (slots_split (pos c) (fun q => iprop(∃ f, slotPt (F := F) c q fullShare f))).symm).trans (comm_join c (G A))
  iintro ⟨Ht, Hf⟩
  ihave Ht := (show dirPart A true c 16 17 16 ⊢ _ from dir_end A true c) $$ Ht
  ihave Hf := (show dirPart A false c 15 16 15 ⊢ _ from dir_end A false c) $$ Hf
  icases Ht with ⟨H1, H2, -, H3, H4⟩
  icases Hf with ⟨K1, K2, K0, K3, K4⟩
  ihave K0 := (Entails.of_eq (show bigSep (Finset.Ico (lo false) 1) (keep A false c) = keep A false c 0 from bigSep_Ico_one 0 _)) $$ K0
  isplitl [H3 H4 K0 K3 K4]
  · iapply hj
    isplitl [H3 K0 K3]
    · iapply (own_join A c)
      isplitl [K0]; · iexact K0
      isplitl [H3]; · iexact H3
      iexact K3
    isplitl [H4]; · iexact H4
    iexact K4
  isplitl [H1]; · iexact H1
  isplitl [K1]; · iexact K1
  isplitl [H2]; · iexact H2
  iexact K2

/-- Every copy waited for, the product buffer and the result are whole again, and the result holds every product. -/
theorem out_end (c : Dev nD) :
    outPart A B c 32 32 32
      ⊢ iprop((∃ g, (((c : Thread nD τ).loc cc0_scratch1) ↦{fullShare} g)) ∗ (((c : Thread nD τ).loc main_v1) ↦{fullShare} OutF A B c)
          ∗ bigSep (Finset.Ico 0 32) (fun i => semVal (kCell c i) 0)) := by
  have hs : bigSep (Finset.Ico 0 32) (copyDone A B c)
      = iprop(bigSep (Finset.Ico 0 32) (fun i => semVal (kCell c i) 0) ∗ bigSep (Finset.Ico 0 32) (fun j => rowsPt c (dev (ord (pos c) j)) (OutF A B c))) :=
    bigSep_sep (Finset.Ico 0 32) (fun i => semVal (kCell c i) 0) (fun j => rowsPt c (dev (ord (pos c) j)) (OutF A B c))
  unfold outPart
  rw [hs]
  iintro ⟨-, -, -, ⟨Hs, Hr⟩, Hv, -⟩
  isplitl [Hv]; · iapply (vout_join c (VF (tile A B c 0))); iexact Hv
  isplitl [Hr]; · iapply (Entails.of_eq (res_rows c (OutF A B c)).symm); iexact Hr
  iexact Hs

end Cert.KernelIdeal.Walk
-- ==== Proof.KernelIdeal.Deal.lean ====
/- The launch: the cells' ghost state and the tokens of every payment, dealt to the devices that use them, and the credit each device starts with. -/
module

public import proofs.«01_k».proof.Proof.KernelIdeal.Parts
public import Idealize.ShloMosaic.Lib.Pipeline.Regions

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (A : LeftC F) (B : RightC F)

/-! ## The transfers' semaphores, by what they are for -/

section Split
variable {M : Type} [URA M]

omit [FloatOps F] in
theorem bigSep_cut (a b c : ℕ) (h : a ≤ b) (h' : b ≤ c) (Φ : ℕ → sProp M) :
    bigSep (Finset.Ico a c) Φ = iprop(bigSep (Finset.Ico a b) Φ ∗ bigSep (Finset.Ico b c) Φ) := by
  rw [← Finset.Ico_union_Ico_eq_Ico h h', bigSep_union (Finset.Ico_disjoint_Ico_consecutive _ _ _)]
  rfl

omit [FloatOps F] in
theorem bigSep_fin (n : ℕ) (Φ : ℕ → sProp M) : bigSep Finset.univ (fun x : Fin n => Φ x.val) = bigSep (Finset.Ico 0 n) Φ := by
  have h : Finset.Ico 0 n = (Finset.univ : Finset (Fin n)).map Fin.valEmbedding := by
    ext i
    simp only [Finset.mem_map, Finset.mem_univ, true_and, Finset.mem_Ico, Fin.valEmbedding_apply]
    exact ⟨fun h => ⟨⟨i, h.2⟩, rfl⟩, fun ⟨j, e⟩ => by omega⟩
  rw [h, bigSep_map]
  rfl

omit [FloatOps F] in
/-- A device's own transfer semaphores: the arrivals by slot, the sends of both directions, the copies. -/
theorem sems_split (Φ : DmaSem sig → sProp M) :
    bigSep Finset.univ (fun x : Fin 95 => Φ (dsem (4 + x.val)))
      = iprop(bigSep Finset.univ (fun q : Fin 32 => Φ (rS q)) ∗ bigSep (Finset.Ico 0 16) (fun i => Φ (sS true i))
          ∗ bigSep (Finset.Ico 0 15) (fun i => Φ (sS false i)) ∗ bigSep (Finset.Ico 0 32) (fun j => Φ (kS j))) := by
  have e1 : bigSep (Finset.Ico 32 48) (fun x => Φ (dsem (4 + x))) = bigSep (Finset.Ico 0 16) (fun i => Φ (sS true i)) := by
    rw [show (48 : ℕ) = 16 + 32 from rfl, bigSep_shift]
    exact bigSep_congr fun i _ => by unfold sS; rw [if_pos rfl, show 4 + (i + 32) = 36 + i by omega]
  have e2 : bigSep (Finset.Ico 48 63) (fun x => Φ (dsem (4 + x))) = bigSep (Finset.Ico 0 15) (fun i => Φ (sS false i)) := by
    rw [show (63 : ℕ) = 15 + 48 from rfl, bigSep_shift]
    exact bigSep_congr fun i _ => by unfold sS; rw [if_neg (by decide), show 4 + (i + 48) = 52 + i by omega]
  have e3 : bigSep (Finset.Ico 63 95) (fun x => Φ (dsem (4 + x))) = bigSep (Finset.Ico 0 32) (fun i => Φ (kS i)) := by
    rw [show (95 : ℕ) = 32 + 63 from rfl, bigSep_shift]
    exact bigSep_congr fun i _ => by unfold kS; rw [show 4 + (i + 63) = 67 + i by omega]
  have e0 : bigSep (Finset.Ico 0 32) (fun x => Φ (dsem (4 + x))) = bigSep Finset.univ (fun q : Fin 32 => Φ (rS q)) :=
    (bigSep_fin 32 (fun x => Φ (dsem (4 + x)))).symm
  rw [bigSep_fin 95 (fun x => Φ (dsem (4 + x))), bigSep_cut 0 32 95 (by omega) (by omega), bigSep_cut 32 48 95 (by omega) (by omega),
    bigSep_cut 48 63 95 (by omega) (by omega), e0, e1, e2, e3]

omit [FloatOps F] in
/-- The same with the arrivals in the order of their slots around the ring from `p`. -/
theorem sems_ring (p : Fin 32) (Φ : DmaSem sig → sProp M) :
    bigSep Finset.univ (fun x : Fin 95 => Φ (dsem (4 + x.val)))
      = iprop((Φ (rS p) ∗ bigSep (Finset.Ico 1 17) (fun i => Φ (rS (sl true p i))) ∗ bigSep (Finset.Ico 1 16) (fun i => Φ (rS (sl false p i))))
          ∗ bigSep (Finset.Ico 0 16) (fun i => Φ (sS true i)) ∗ bigSep (Finset.Ico 0 15) (fun i => Φ (sS false i)) ∗ bigSep (Finset.Ico 0 32) (fun j => Φ (kS j))) := by
  rw [sems_split, slots_split p (fun q => Φ (rS q))]

end Split

/-! ## The tokens -/

/-- The payments of a device's cells: the two signals of its barrier and one transfer for each semaphore. -/
def tokOf (x : Dev nD × (Bool ⊕ Fin 95)) : GSem nD τ sig × ℕ × Bool :=
  match x.2 with | .inl b => (barCell x.1, 0, b) | .inr n => (scCell (x.1, n), 0, false)

omit [FloatOps F] in
theorem tokOf_injective : Function.Injective tokOf := by
  rintro ⟨a, b | n⟩ ⟨a', b' | n'⟩ h
  · have h1 : barCell a = barCell a' := congrArg (fun t : GSem nD τ sig × ℕ × Bool => t.1) h
    have h2 : b = b' := congrArg (fun t : GSem nD τ sig × ℕ × Bool => t.2.2) h
    rw [barCell_injective h1, h2]
  · exact absurd (congrArg (fun t : GSem nD τ sig × ℕ × Bool => t.1.2) h) (fun h => by cases h)
  · exact absurd (congrArg (fun t : GSem nD τ sig × ℕ × Bool => t.1.2) h) (fun h => by cases h)
  · have h1 : scCell (a, n) = scCell (a', n') := congrArg (fun t : GSem nD τ sig × ℕ × Bool => t.1) h
    have h2 := scCell_injective h1
    rw [show a = a' from congrArg Prod.fst h2, show n = n' from congrArg Prod.snd h2]

def talkToks : Finset (GSem nD τ sig × ℕ × Bool) := Finset.univ.map ⟨tokOf, tokOf_injective⟩

/-- The tokens a device pays with: its signals to both neighbours, its sends, what they bring the neighbours, its copies. -/
def dealt (c : Dev nD) : sProp 𝕄 :=
  iprop(dutyTok ER (barCell (nb false c)) 0 true ∗ dutyTok ER (barCell (nb true c)) 0 false
    ∗ bigSep (Finset.Ico 0 16) (fun i => dutyTok ER (rCell (nb true c) (sl true (pos c) i)) 0 false)
    ∗ bigSep (Finset.Ico 0 15) (fun i => dutyTok ER (rCell (nb false c) (sl false (pos c) i)) 0 false)
    ∗ bigSep (Finset.Ico 0 16) (fun i => dutyTok ER (sCell true c i) 0 false)
    ∗ bigSep (Finset.Ico 0 15) (fun i => dutyTok ER (sCell false c i) 0 false)
    ∗ bigSep (Finset.Ico 0 32) (fun j => dutyTok ER (kCell c j) 0 false))

omit [FloatOps F] in
/-- The arrivals' tokens of direction `o`, handed back to the neighbour that pays them. -/
theorem toks_back (o : Bool) :
    bigSep Finset.univ (fun c : Dev nD => bigSep (Finset.Ico 1 (lim o + 1)) (fun i => (dutyTok ER (rCell c (sl o (pos c) i)) 0 false : sProp 𝕄)))
      = bigSep Finset.univ (fun c : Dev nD => bigSep (Finset.Ico 0 (lim o)) (fun i => (dutyTok ER (rCell (nb o c) (sl o (pos c) i)) 0 false : sProp 𝕄))) := by
  rw [bigSep_univ_equiv (nbEquiv o)]
  refine bigSep_congr fun c _ => ?_
  rw [bigSep_shift]
  refine bigSep_congr fun i _ => ?_
  show (dutyTok ER (rCell (nb o c) (sl o (pos (nb o c)) (i + 1))) 0 false : sProp 𝕄) = _
  rw [sl_nb]

omit [FloatOps F] in
/-- Every token, dealt to the device that pays with it. -/
theorem toks_dealt : bigSep talkToks (fun x => (dutyTok ER x.1 x.2.1 x.2.2 : sProp 𝕄)) ⊢ bigSep Finset.univ (fun c : Dev nD => dealt (F := F) c) := by
  have h : bigSep talkToks (fun x => (dutyTok ER x.1 x.2.1 x.2.2 : sProp 𝕄))
      = bigSep Finset.univ (fun c : Dev nD => iprop((dutyTok ER (barCell c) 0 false ∗ dutyTok ER (barCell c) 0 true)
          ∗ (dutyTok ER (rCell c (pos c)) 0 false ∗ bigSep (Finset.Ico 1 17) (fun i => dutyTok ER (rCell c (sl true (pos c) i)) 0 false)
              ∗ bigSep (Finset.Ico 1 16) (fun i => dutyTok ER (rCell c (sl false (pos c) i)) 0 false))
          ∗ bigSep (Finset.Ico 0 16) (fun i => dutyTok ER (sCell true c i) 0 false)
          ∗ bigSep (Finset.Ico 0 15) (fun i => dutyTok ER (sCell false c i) 0 false)
          ∗ bigSep (Finset.Ico 0 32) (fun j => dutyTok ER (kCell c j) 0 false))) := by
    unfold talkToks
    rw [bigSep_map, bigSep_univ_prod]
    refine bigSep_congr fun c _ => ?_
    rw [bigSep_univ_sum, bigSep_univ_eq_bigSepL [false, true] (by decide) (by decide), bigSepL_cons_cons, bigSepL_singleton]
    have e := sems_ring (pos c) (fun n => (dutyTok ER ((c : Thread nD τ), .dma n) 0 false : sProp 𝕄))
    exact congrArg (fun X : sProp 𝕄 => iprop((dutyTok ER (barCell c) 0 false ∗ dutyTok ER (barCell c) 0 true) ∗ X)) e
  rw [h]
  simp only [bigSep_sep']
  have hb (o : Bool) : bigSep Finset.univ (fun c : Dev nD => (dutyTok ER (barCell c) 0 o : sProp 𝕄))
      ⊢ bigSep Finset.univ (fun c : Dev nD => (dutyTok ER (barCell (nb (!o) c)) 0 o : sProp 𝕄)) :=
    Entails.of_eq (bigSep_univ_equiv (nbEquiv (!o)) _)
  iintro ⟨⟨Hbf, Hbt⟩, ⟨-, Hrt, Hrf⟩, Hst, Hsf, Hk⟩
  unfold dealt
  simp only [bigSep_sep']
  isplitl [Hbt]; · iapply (hb true); iexact Hbt
  isplitl [Hbf]; · iapply (hb false); iexact Hbf
  isplitl [Hrt]; · iapply (Entails.of_eq (toks_back (F := F) true)); iexact Hrt
  isplitl [Hrf]; · iapply (Entails.of_eq (toks_back (F := F) false)); iexact Hrf
  isplitl [Hst]; · iexact Hst
  isplitl [Hsf]; · iexact Hsf
  iexact Hk

/-! ## The credit -/

/-- What a device may wait for: both signals of its barrier and every block that arrives. -/
def creds (c : Dev nD) : sProp 𝕄 :=
  iprop(cred (tallyAt (barCell c) () 2)
    ∗ bigSep (Finset.Ico 1 17) (fun i => cred (tallyAt (rCell c (sl true (pos c) i)) () N))
    ∗ bigSep (Finset.Ico 1 16) (fun i => cred (tallyAt (rCell c (sl false (pos c) i)) () N)))

omit [FloatOps F] in
theorem cred_le (g : GSem nD τ sig) (t : Tally Unit) (k : ℕ) (h : k ≤ t ()) :
    (cred (tallyOn g t) : sProp 𝕄) ⊢ cred (tallyAt g () k) := by
  have e : (tallyOn g t : CellTallies nD τ sig Unit) = tallyAt g () (t ()) := by
    unfold tallyAt; refine congrArg _ (Finsupp.ext fun u => ?_); cases u
    rw [Finsupp.single_eq_same]
  obtain ⟨r, hr⟩ := Nat.exists_eq_add_of_le h
  rw [e, hr, ← tallyAt_add]
  refine (cred_add _ _).1.trans ?_
  iintro ⟨H, -⟩; iexact H

omit [FloatOps F] in
theorem Ot_ge (o : Bool) (d : Dev nD) (i : ℕ) (h : i < lim o) : N ≤ Ot o d 0 (rCell (nb o d) (sl o (pos d) i)) () := by
  unfold Ot
  rw [Finset.sum_apply, Finsupp.finset_sum_apply]
  refine le_trans ?_ (Finset.single_le_sum (fun _ _ => Nat.zero_le _) (Finset.mem_Ico.mpr ⟨Nat.zero_le i, h⟩))
  rw [tallyAt_self]

omit [FloatOps F] in
theorem owed_recv (o : Bool) (c : Dev nD) (i : ℕ) (h : i < lim o) : N ≤ ∑ d : Dev nD, O₀ d (rCell c (sl o (pos c) (i + 1))) () := by
  refine le_trans ?_ (Finset.single_le_sum (fun _ _ => Nat.zero_le _) (Finset.mem_univ (nb (!o) c)))
  have h1 := Ot_ge o (nb (!o) c) i h
  have h2 := sl_nb o (nb (!o) c) i
  rw [nb_nb] at h1 h2
  rw [← h2] at h1
  unfold O₀ O₁ O
  simp only [Pi.add_apply, Finsupp.add_apply]
  cases o <;> omega

omit [FloatOps F] in
theorem owed_bar (c : Dev nD) : 2 ≤ ∑ d : Dev nD, O₀ d (barCell c) () := by
  have h1 : 1 ≤ O₀ (nb true c) (barCell c) () := by
    unfold O₀
    rw [show nb false (nb true c) = c from nb_nb false c]
    simp only [Pi.add_apply, Finsupp.add_apply, tallyAt_self]
    omega
  have h2 : 1 ≤ O₀ (nb false c) (barCell c) () := by
    unfold O₀ O₁
    rw [show nb true (nb false c) = c from nb_nb true c]
    simp only [Pi.add_apply, Finsupp.add_apply, tallyAt_self]
    omega
  refine le_trans ?_ (Finset.sum_le_sum_of_subset (Finset.subset_univ {nb true c, nb false c}))
  rw [Finset.sum_pair (nb_ne c)]
  omega

omit [FloatOps F] in
/-- What the others owe a device at the launch is its credit. -/
theorem creds_launch (c : Dev nD) : (Pipeline.launchCred O₀ c : sProp 𝕄) ⊢ creds (F := F) c := by
  have hsub : (Finset.univ : Finset (Fin 95)).image (fun n => (SemLoc.dma (dsem (4 + n.val)) : SemLoc sig)) ⊆ Finset.univ.erase (SemLoc.reg barS) := by
    intro x hx
    obtain ⟨n, -, rfl⟩ := Finset.mem_image.mp hx
    exact Finset.mem_erase.mpr ⟨fun h => (by cases h), Finset.mem_univ _⟩
  have hinj : ∀ i ∈ (Finset.univ : Finset (Fin 95)), ∀ j ∈ (Finset.univ : Finset (Fin 95)),
      (SemLoc.dma (dsem (4 + i.val)) : SemLoc sig) = SemLoc.dma (dsem (4 + j.val)) → i = j := by
    intro i _ j _ h
    exact congrArg Prod.snd (scCell_injective (a₁ := (c, i)) (a₂ := (c, j)) (congrArg (fun sm : SemLoc sig => ((c : Thread nD τ), sm)) h))
  have hr (o : Bool) : bigSep (Finset.Ico 1 (lim o + 1)) (fun i => (cred (tallyOn (rCell c (sl o (pos c) i)) (launchCredit (Pipeline.owing O₀) 0 (rCell c (sl o (pos c) i)))) : sProp 𝕄))
      ⊢ bigSep (Finset.Ico 1 (lim o + 1)) (fun i => cred (tallyAt (rCell c (sl o (pos c) i)) () N)) := by
    refine bigSep_mono fun i hi => cred_le _ _ _ ?_
    obtain ⟨h1, h2⟩ := Finset.mem_Ico.mp hi
    obtain ⟨k, rfl⟩ : ∃ k, i = k + 1 := ⟨i - 1, by omega⟩
    rw [Pipeline.launchCredit_owing]
    exact owed_recv o c k (by omega)
  unfold Pipeline.launchCred
  rw [bigSep_univ_at _ (SemLoc.reg barS)]
  unfold creds
  iintro ⟨Hb, H⟩
  isplitl [Hb]
  · iapply (cred_le (F := F) (barCell c) _ 2 (by rw [Pipeline.launchCredit_owing]; exact owed_bar c)); iexact Hb
  have hE : bigSep (Finset.univ.erase (SemLoc.reg barS))
        (fun sm : SemLoc sig => (cred (tallyOn ((c : Thread nD τ), sm) (launchCredit (Pipeline.owing O₀) 0 ((c : Thread nD τ), sm))) : sProp 𝕄))
      ⊢ bigSep (Finset.univ.image (fun n : Fin 95 => (SemLoc.dma (dsem (4 + n.val)) : SemLoc sig)))
        (fun sm : SemLoc sig => (cred (tallyOn ((c : Thread nD τ), sm) (launchCredit (Pipeline.owing O₀) 0 ((c : Thread nD τ), sm))) : sProp 𝕄)) := bigSep_subset hsub
  ihave H := hE $$ H
  ihave H := (Entails.of_eq ((bigSep_image_inj _ _ hinj _).trans
    (sems_ring (pos c) (fun n => (cred (tallyOn ((c : Thread nD τ), SemLoc.dma n) (launchCredit (Pipeline.owing O₀) 0 ((c : Thread nD τ), SemLoc.dma n))) : sProp 𝕄))))) $$ H
  icases H with ⟨⟨-, Ht, Hf⟩, -⟩
  isplitl [Ht]; · iapply (hr true); iexact Ht
  iapply (hr false); iexact Hf

end Cert.KernelIdeal.Walk
-- ==== Proof.KernelIdeal.Start.lean ====
/- What a device holds when its body starts: the cells it opens for itself, and the buffers it works in, cut. -/
module

public import proofs.«01_k».proof.Proof.KernelIdeal.Deal
public import proofs.«01_k».proof.Proof.Gen.KernelIdeal.Launch

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (A : LeftC F) (B : RightC F)

/-! ## What the launch leaves each device -/

/-- What every device may consult: the cells' invariants, and that every barrier cell is at its start. -/
def recs (κ : GSem nD τ sig → ℕ) : sProp 𝕄 := iprop(records A B κ ∗ bigSep barCells (fun g => reached ER g 0))

instance recs_persistent (κ : GSem nD τ sig → ℕ) : BI.Persistent (recs A B κ) := by unfold recs; infer_instance

theorem recs_dma (κ : GSem nD τ sig → ℕ) (d : Dev nD) (n : DmaSem sig) (h : 4 ≤ n.val) :
    recs A B κ ⊢ cellInv ER (Rd A B) (κ ((d : Thread nD τ), .dma n)) ((d : Thread nD τ), .dma n) := by
  unfold recs
  iintro ⟨H, -⟩
  iapply (records_at A B κ _ (dma_mem d n h)); iexact H
theorem recs_bar (κ : GSem nD τ sig → ℕ) (d : Dev nD) : recs A B κ ⊢ cellInv ER (Rd A B) (κ (barCell d)) (barCell d) := by
  unfold recs
  iintro ⟨H, -⟩
  iapply (records_at A B κ _ (bar_mem d)); iexact H
theorem recs_reached (κ : GSem nD τ sig → ℕ) (d : Dev nD) : recs A B κ ⊢ reached ER (barCell d) 0 := by
  have hE : bigSep barCells (fun g => (reached ER g 0 : sProp 𝕄)) ⊢ reached ER (barCell d) 0 :=
    bigSep_elim (Finset.mem_map.mpr ⟨d, Finset.mem_univ _, rfl⟩ : barCell d ∈ barCells)
  unfold recs
  iintro ⟨-, H⟩
  iapply hE; iexact H

/-- The semaphores a device opens for itself. -/
def osem (n : Fin 95) : SemLoc sig := .dma (dsem (4 + n.val))

/-- What stays with a device: its barrier position, the rights to open its cells, the tokens it pays with. -/
def linear (c : Dev nD) : sProp 𝕄 :=
  iprop(atPos ER (barCell c) 0 ∅ 0 ∗ bigSep Finset.univ (fun n : Fin 95 => openTok ER ((c : Thread nD τ), osem n)) ∗ dealt (F := F) c)

/-- What the launch keeps for the body. -/
def Tk (c : Dev nD) : sProp 𝕄 := iprop((∃ κ, recs A B κ ∗ linear (F := F) c) ∗ creds (F := F) c)

/-- A cell open: its position and that it is at its start. -/
def opened (c : Dev nD) (n : DmaSem sig) : sProp 𝕄 :=
  iprop(atPos ER ((c : Thread nD τ), .dma n) 0 ∅ 0 ∗ reached ER ((c : Thread nD τ), .dma n) 0)

/-- The same with every cell open but the one of arrivals in the own slot. -/
def Xk (c : Dev nD) : sProp 𝕄 :=
  iprop(∃ κ, recs A B κ ∗ levAts L lv ∗ atPos ER (barCell c) 0 ∅ 0 ∗ dealt (F := F) c ∗ creds (F := F) c ∗ semVal (rCell c (pos c)) 0
    ∗ bigSep (Finset.Ico 1 17) (fun i => opened (F := F) c (rS (sl true (pos c) i))) ∗ bigSep (Finset.Ico 1 16) (fun i => opened (F := F) c (rS (sl false (pos c) i)))
    ∗ bigSep (Finset.Ico 0 16) (fun i => opened (F := F) c (sS true i)) ∗ bigSep (Finset.Ico 0 15) (fun i => opened (F := F) c (sS false i))
    ∗ bigSep (Finset.Ico 0 32) (fun j => opened (F := F) c (kS j)))

/-- A family of cells opened. -/
theorem open_run (κ : GSem nD τ sig → ℕ) (c : Dev nD) (s : Finset ℕ) (n : ℕ → DmaSem sig) (h : ∀ i ∈ s, 4 ≤ (n i).val) :
    iprop(recs A B κ ∗ bigSep s (fun i => openTok ER ((c : Thread nD τ), .dma (n i))) ∗ bigSep s (fun i => semVal ((c : Thread nD τ), .dma (n i)) 0))
      ⊢ (|={Set.univ}=> bigSep s (fun i => opened (F := F) c (n i)) : sProp 𝕄) := by
  have hs : iprop(bigSep s (fun i => (openTok ER ((c : Thread nD τ), .dma (n i)) : sProp 𝕄)) ∗ bigSep s (fun i => semVal ((c : Thread nD τ), .dma (n i)) 0))
      = bigSep s (fun i => iprop(openTok ER ((c : Thread nD τ), .dma (n i)) ∗ semVal ((c : Thread nD τ), .dma (n i)) 0)) :=
    (bigSep_sep s (fun i => (openTok ER ((c : Thread nD τ), .dma (n i)) : sProp 𝕄)) (fun i => semVal ((c : Thread nD τ), .dma (n i)) 0)).symm
  rw [hs]
  refine (bigSep_with_persistent (R := recs A B κ) (Ψ := fun i => iprop(|={Set.univ}=> opened (F := F) c (n i))) fun i hi => ?_).trans (BI.bigSep_fupd s _)
  iintro ⟨#HR, Ho, Hv⟩
  ihave #HI := (recs_dma A B κ c (n i) (h i hi)) $$ HR
  unfold opened
  iapply (Rounds.cell_open ER (Rd A B) (g := ((c : Thread nD τ), .dma (n i))) (Set.mem_univ (κ ((c : Thread nD τ), .dma (n i)))))
  isplitr; · iexact HI
  isplitl [Ho] <;> iassumption

theorem hopen (c : Dev nD) : iprop(Tk A B c ∗ Pipeline.ownSems0 osem c ∗ levAts L lv) ⊢ (|={Set.univ}=> Xk A B c : sProp 𝕄) := by
  have e1 : bigSep Finset.univ (fun n : Fin 95 => (openTok ER ((c : Thread nD τ), osem n) : sProp 𝕄)) = _ :=
    sems_ring (pos c) (fun n => (openTok ER ((c : Thread nD τ), .dma n) : sProp 𝕄))
  have e2 : (Pipeline.ownSems0 osem c : sProp 𝕄) = _ := sems_ring (pos c) (fun n => (semVal ((c : Thread nD τ), .dma n) 0 : sProp 𝕄))
  unfold Tk Xk linear
  iintro ⟨⟨⟨%κ, #HR, Hb, Ho, Hd⟩, Hc⟩, Hv, #HL⟩
  ihave Ho := (Entails.of_eq e1) $$ Ho
  ihave Hv := (Entails.of_eq e2) $$ Hv
  icases Ho with ⟨⟨-, O1, O2⟩, O3, O4, O5⟩
  icases Hv with ⟨⟨V0, V1, V2⟩, V3, V4, V5⟩
  imod (open_run A B κ c (Finset.Ico 1 17) (fun i => rS (sl true (pos c) i)) (fun i _ => rS_ge _)) $$ [O1 V1] with H1
  · isplitr; · iexact HR
    isplitl [O1] <;> iassumption
  imod (open_run A B κ c (Finset.Ico 1 16) (fun i => rS (sl false (pos c) i)) (fun i _ => rS_ge _)) $$ [O2 V2] with H2
  · isplitr; · iexact HR
    isplitl [O2] <;> iassumption
  imod (open_run A B κ c (Finset.Ico 0 16) (sS true) (fun i hi => by rw [sS_val true i (Finset.mem_Ico.mp hi).2, if_pos rfl]; omega)) $$ [O3 V3] with H3
  · isplitr; · iexact HR
    isplitl [O3] <;> iassumption
  imod (open_run A B κ c (Finset.Ico 0 15) (sS false) (fun i hi => by rw [sS_val false i (Finset.mem_Ico.mp hi).2, if_neg (by decide)]; omega)) $$ [O4 V4] with H4
  · isplitr; · iexact HR
    isplitl [O4] <;> iassumption
  imod (open_run A B κ c (Finset.Ico 0 32) kS (fun i hi => kS_ge i (Finset.mem_Ico.mp hi).2)) $$ [O5 V5] with H5
  · isplitr; · iexact HR
    isplitl [O5] <;> iassumption
  imodintro
  iexists κ
  isplitr; · iexact HR
  isplitr; · iexact HL
  isplitl [Hb]; · iexact Hb
  isplitl [Hd]; · iexact Hd
  isplitl [Hc]; · iexact Hc
  isplitl [V0]; · iexact V0
  isplitl [H1]; · iexact H1
  isplitl [H2]; · iexact H2
  isplitl [H3]; · iexact H3
  isplitl [H4]; · iexact H4
  iexact H5

/-! ## The start of the body -/

/-- What rides along unused: the semaphore of the own slot and the generator's register. -/
def Rest (c : Dev nD) : sProp 𝕄 := iprop(semVal (rCell c (pos c)) 0 ∗ ∃ r, prngReg c r)

/-- What a device has before its body, beside what it only reads and what it owes. -/
def Φ₀ (c : Dev nD) : sProp 𝕄 :=
  iprop(∃ κ, recs A B κ ∗ levAts L lv ∗ dirStart (F := F) true c ∗ dirStart (F := F) false c ∗ (∃ f, slotPt (F := F) c (pos c) fullShare f) ∗ outPart A B c 0 0 0
    ∗ (sigPart (F := F) (nb false c) true ∗ sigPart (F := F) (nb true c) false ∗ barTodo (F := F) c) ∗ Rest (F := F) c)

omit [FloatOps F] in
theorem opened_split (c : Dev nD) (s : Finset ℕ) (n : ℕ → DmaSem sig) :
    bigSep s (fun i => opened (F := F) c (n i)) = iprop(bigSep s (fun i => atPos ER ((c : Thread nD τ), .dma (n i)) 0 ∅ 0) ∗ bigSep s (fun i => reached ER ((c : Thread nD τ), .dma (n i)) 0)) :=
  bigSep_sep s (fun i => atPos ER ((c : Thread nD τ), .dma (n i)) 0 ∅ 0) (fun i => reached ER ((c : Thread nD τ), .dma (n i)) 0)

omit [FloatOps F] in
/-- One direction, of its tokens, its cells and the free slots it will fill. -/
theorem dir_start (o : Bool) (c : Dev nD) :
    iprop(bigSep (Finset.Ico 0 (lim o)) (fun i => dutyTok ER (rCell (nb o c) (sl o (pos c) i)) 0 false)
        ∗ bigSep (Finset.Ico 0 (lim o)) (fun i => dutyTok ER (sCell o c i) 0 false)
        ∗ bigSep (Finset.Ico 0 (lim o)) (fun i => opened (F := F) c (sS o i))
        ∗ bigSep (Finset.Ico 1 (lim o + 1)) (fun i => opened (F := F) c (rS (sl o (pos c) i)))
        ∗ bigSep (Finset.Ico 1 (lim o + 1)) (fun i => cred (tallyAt (rCell c (sl o (pos c) i)) () N))
        ∗ bigSep (Finset.Ico 1 (lim o + 1)) (fun i => iprop(∃ f, slotPt (F := F) c (sl o (pos c) i) fullShare f)))
      ⊢ iprop(dirStart (F := F) o c ∗ barPay (F := F) (nb (!o) c) o) := by
  have h1 : iprop(bigSep (Finset.Ico 0 (lim o)) (fun i => (dutyTok ER (sCell o c i) 0 false : sProp 𝕄))
        ∗ bigSep (Finset.Ico 0 (lim o)) (fun i => reached ER ((c : Thread nD τ), .dma (sS o i)) 0)
        ∗ bigSep (Finset.Ico 0 (lim o)) (fun i => dutyTok ER (rCell (nb o c) (sl o (pos c) i)) 0 false))
      ⊢ bigSep (Finset.Ico 0 (lim o)) (sendTok (F := F) o c) := by
    rw [← bigSep_sep', ← bigSep_sep']
    exact .rfl
  have h2 : iprop(bigSep (Finset.Ico 1 (lim o + 1)) (fun i => (atPos ER ((c : Thread nD τ), .dma (rS (sl o (pos c) i))) 0 ∅ 0 : sProp 𝕄))
        ∗ bigSep (Finset.Ico 1 (lim o + 1)) (fun i => cred (tallyAt (rCell c (sl o (pos c) i)) () N)))
      ⊢ bigSep (Finset.Ico 1 (lim o + 1)) (recvTodo (F := F) o c) := by
    rw [← bigSep_sep']
    exact .rfl
  have h3 : iprop(bigSep (Finset.Ico 1 (lim o + 1)) (fun i => iprop(∃ f, slotPt (F := F) c (sl o (pos c) i) fullShare f))
        ∗ bigSep (Finset.Ico 1 (lim o + 1)) (fun i => reached ER ((c : Thread nD τ), .dma (rS (sl o (pos c) i))) 0))
      ⊢ barPay (F := F) (nb (!o) c) o := by
    rw [← bigSep_sep']
    exact Entails.of_eq (barPay_own o c)
  rw [opened_split, opened_split]
  unfold dirStart
  iintro ⟨T1, T2, ⟨P1, R1⟩, ⟨P2, R2⟩, C, S⟩
  isplitr [R2 S]
  · isplitl [T1 T2 R1]
    · iapply h1
      isplitl [T2]; · iexact T2
      isplitl [R1]; · iexact R1
      iexact T1
    isplitl [P1]; · iexact P1
    iapply h2
    isplitl [P2]; · iexact P2
    iexact C
  iapply h3
  isplitl [S]; · iexact S
  iexact R2

/-- The result before any copy. -/
theorem out_start (c : Dev nD) (f : S32768x1024.Idx → Elt F .bf16) (g : S4x1024x1024.Idx → Elt F .bf16) :
    iprop(bigSep (Finset.Ico 0 32) (fun j => dutyTok ER (kCell c j) 0 false) ∗ bigSep (Finset.Ico 0 32) (fun j => opened (F := F) c (kS j))
        ∗ (((c : Thread nD τ).loc main_v1) ↦{fullShare} f) ∗ (((c : Thread nD τ).loc cc0_scratch1) ↦{fullShare} g))
      ⊢ outPart A B c 0 0 0 := by
  have h1 : iprop(bigSep (Finset.Ico 0 32) (fun j => (dutyTok ER (kCell c j) 0 false : sProp 𝕄)) ∗ bigSep (Finset.Ico 0 32) (fun j => reached ER ((c : Thread nD τ), .dma (kS j)) 0)
        ∗ bigSep (Finset.Ico 0 32) (fun j => iprop(∃ f, rowsPt (F := F) c (dev (ord (pos c) j)) f)))
      ⊢ bigSep (Finset.Ico 0 32) (copyTodo (F := F) c) := by
    rw [← bigSep_sep', ← bigSep_sep']
    exact .rfl
  have h2 : (((c : Thread nD τ).loc main_v1) ↦{fullShare} f : sProp 𝕄) ⊢ bigSep (Finset.Ico 0 32) (fun j => iprop(∃ f, rowsPt (F := F) c (dev (ord (pos c) j)) f)) := by
    rw [res_rows]
    refine bigSep_mono fun j _ => ?_
    show rowsPt c (dev (ord (pos c) j)) f ⊢ iprop(∃ f, rowsPt (F := F) c (dev (ord (pos c) j)) f)
    iintro H; iexists f; iexact H
  rw [opened_split]
  unfold outPart
  rw [Finset.Ico_self, bigSep_empty, bigSep_empty, bigSep_empty]
  iintro ⟨T, ⟨P, R⟩, HV, HW⟩
  isplitl [T R HV]
  · iapply h1
    isplitl [T]; · iexact T
    isplitl [R]; · iexact R
    iapply h2; iexact HV
  isplitr; · iempintro
  isplitl [P]; · iexact P
  isplitr; · iempintro
  isplitl [HW]; · iapply (vout_open c g); iexact HW
  iempintro

/-- The body's start, of the open cells and the buffers. -/
theorem start (c : Dev nD) (f : S32768x1024.Idx → Elt F .bf16) :
    iprop(((∃ g : Buf (Elt F) ((c : Thread nD τ).loc cc0_scratch0), ((c : Thread nD τ).loc cc0_scratch0) ↦{fullShare} g)
          ∗ (∃ g : Buf (Elt F) ((c : Thread nD τ).loc cc0_scratch1), ((c : Thread nD τ).loc cc0_scratch1) ↦{fullShare} g))
        ∗ (∃ r, prngReg c r) ∗ (((c : Thread nD τ).loc main_v1) ↦{fullShare} f) ∗ Xk A B c)
      ⊢ Φ₀ A B c := by
  have hc (g : S32x1024x512.Idx → Elt F .bf16) : (((c : Thread nD τ).loc cc0_scratch0) ↦{fullShare} g : sProp 𝕄)
      ⊢ iprop((∃ f, slotPt (F := F) c (pos c) fullShare f)
        ∗ bigSep (Finset.Ico 1 (lim true + 1)) (fun i => iprop(∃ f, slotPt (F := F) c (sl true (pos c) i) fullShare f))
        ∗ bigSep (Finset.Ico 1 (lim false + 1)) (fun i => iprop(∃ f, slotPt (F := F) c (sl false (pos c) i) fullShare f))) := by
    refine BIBase.Entails.trans ?_ (Entails.of_eq (slots_split (pos c) (fun q => iprop(∃ f, slotPt (F := F) c q fullShare f))))
    rw [comm_slots]
    refine bigSep_mono fun q _ => ?_
    show slotPt c q fullShare g ⊢ iprop(∃ f, slotPt (F := F) c q fullShare f)
    iintro H; iexists g; iexact H
  unfold Xk Φ₀ dealt creds sigPart barTodo Rest
  iintro ⟨⟨⟨%g0, H0⟩, ⟨%g1, H1⟩⟩, Hp, Hv, ⟨%κ, #HR, #HL, Hb, ⟨Bt, Bf, Rt, Rf, St, Sf, Kt⟩, ⟨Cb, Ct, Cf⟩, Hz, E1, E2, E3, E4, E5⟩⟩
  ihave H0 := (hc g0) $$ H0
  icases H0 with ⟨Hs, H2, H3⟩
  ihave #Hr1 := (recs_reached A B κ (nb false c)) $$ HR
  ihave #Hr2 := (recs_reached A B κ (nb true c)) $$ HR
  ihave Dt := (dir_start (F := F) true c) $$ [Rt St E1 E3 Ct H2]
  · isplitl [Rt]; · iexact Rt
    isplitl [St]; · iexact St
    isplitl [E3]; · iexact E3
    isplitl [E1]; · iexact E1
    isplitl [Ct]; · iexact Ct
    iexact H2
  ihave Df := (dir_start (F := F) false c) $$ [Rf Sf E2 E4 Cf H3]
  · isplitl [Rf]; · iexact Rf
    isplitl [Sf]; · iexact Sf
    isplitl [E4]; · iexact E4
    isplitl [E2]; · iexact E2
    isplitl [Cf]; · iexact Cf
    iexact H3
  icases Dt with ⟨Dt, Pt⟩
  icases Df with ⟨Df, Pf⟩
  iexists κ
  isplitr; · iexact HR
  isplitr; · iexact HL
  isplitl [Dt]; · iexact Dt
  isplitl [Df]; · iexact Df
  isplitl [Hs]; · iexact Hs
  isplitl [Kt E5 Hv H1]
  · iapply (out_start A B c f g1)
    isplitl [Kt]; · iexact Kt
    isplitl [E5]; · iexact E5
    isplitl [Hv]; · iexact Hv
    iexact H1
  isplitl [Bt Bf Pt Pf Hb Cb]
  · isplitl [Bt Pt]
    · isplitl [Bt]; · iexact Bt
      isplitr; · iexact Hr1
      iexact Pt
    isplitl [Bf Pf]
    · isplitl [Bf]; · iexact Bf
      isplitr; · iexact Hr2
      iexact Pf
    isplitl [Hb]; · iexact Hb
    iexact Cb
  isplitl [Hz]; · iexact Hz
  iexact Hp

end Cert.KernelIdeal.Walk
-- ==== Proof.KernelIdeal.Body.lean ====
/- The body of a device, from what it starts with to what it leaves: a walk over its operations. -/
module

public import proofs.«01_k».proof.Proof.KernelIdeal.Prologue
public import proofs.«01_k».proof.Proof.Gen.KernelIdeal

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (A : LeftC F) (B : RightC F)

/- What persists of the cells: from it, the invariants of the transfers' cells and of the barrier's. -/
variable (κ : GSem nD τ sig → ℕ) (RR : sProp (MT nD τ sig Unit (Elt F) ℕ UU ℕ)) [BI.Persistent RR]
  (hR : ∀ (d : Dev nD) (n : DmaSem sig), 4 ≤ n.val → RR ⊢ cellInv ER (Rd A B) (κ ((d : Thread nD τ), .dma n)) ((d : Thread nD τ), .dma n))
  (hB : ∀ d : Dev nD, RR ⊢ cellInv ER (Rd A B) (κ (barCell d)) (barCell d))
  (R : sProp (MT nD τ sig Unit (Elt F) ℕ UU ℕ))

theorem step_device {Z : sProp 𝕄} {c : Dev nD} {α : Type} {Q : α → sProp 𝕄} {k : Dev nD → Prog (TpuEff nD τ sig (Elt F) Λ₀ .tc) α}
    (h : Z ⊢ Runs c (k c) Q) : Z ⊢ Runs c (.op .deviceId k) Q := by
  refine h.trans (Entails.of_eq ?_)
  exact (wp_deviceId 𝒱₀ (c : Thread nD τ) none Set.univ).symm

theorem step_ret {Z : sProp 𝕄} {c : Dev nD} {α : Type} {Q : α → sProp 𝕄} {x : α} (h : Z ⊢ Q x) : Z ⊢ Runs c (.ret x) Q :=
  h.trans ((BI.fupd_intro).trans (Entails.of_eq (wp_ret ..).symm))

set_option maxHeartbeats 8000000 in
set_option maxRecDepth 20000 in
include hR hB in
/-- The body runs from what the device starts with to both directions done, every block computed and copied. -/
theorem body_runs (c : Dev nD) :
    Pre A B RR R c (O₀ c) iprop(sigPart (nb false c) true ∗ sigPart (nb true c) false ∗ barTodo c)
      ⊢ Runs c (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _) (Memref.whole main_v1) (Memref.isWhole_whole _)
          (Memref.whole cc0_scratch0) (Memref.isWhole_whole _) (Memref.whole cc0_scratch1) (Memref.isWhole_whole _) cc0_scratch2 cc0_scratch3 cc0_scratch4 cc0_scratch5)
        (fun _ => St A B RR iprop(semVal (barCell c) 0 ∗ R) c 16 17 16 15 16 15 32 32 32) := by
  refine step_device ?_
  refine pre_pos c (by beta_reduce; revert c; decide +kernel) ?_
  refine step_assume (chk_pos _) ?_
  refine pre_dev (pos c + 1) (by beta_reduce; generalize pos c = p; revert p; decide +kernel) ?_
  refine step_assume (chk_next _) ?_
  refine pre_dev (pos c - 1) (by beta_reduce; generalize pos c = p; revert p; decide +kernel) ?_
  refine step_assume (chk_prev _) ?_
  refine step_signal hB (nb false c) true (O₁ c) (by refine Fin.ext ?_; dsimp only [nb]; generalize pos c = p; revert p; decide +kernel) rfl rfl rfl ?_
  refine step_signal hB (nb true c) false (O c 0 0) (by refine Fin.ext ?_; dsimp only [nb]; generalize pos c = p; revert p; decide +kernel) rfl rfl rfl ?_
  refine step_barrier hB rfl rfl ?_
  refine pre_left ?_
  refine pre_peek (by beta_reduce; generalize pos c = p; revert p; decide +kernel) fun x => ?_
  refine pre_store (by beta_reduce; generalize pos c = p; revert p; decide +kernel) (own_rows A c _ _ _) ?_
  -- the own block is sent both ways and multiplied, and the next two are waited for
  refine step_send_t hR (sem_t _ _ _ (by decide) rfl) (mem_slot _ _ _ (by beta_reduce; generalize pos c = p; revert p; decide +kernel))
    (mem_slot _ _ _ (by beta_reduce; generalize pos c = p; revert p; decide +kernel)) (sem_r _ _ _ (by beta_reduce; generalize pos c = p; revert p; decide +kernel))
    (by refine Fin.ext ?_; dsimp only [nb]; generalize pos c = p; revert p; decide +kernel) (by decide) (by decide) (by decide) ?_
  refine step_send_f hR (sem_f _ _ _ (by decide) rfl) (mem_slot _ _ _ (by beta_reduce; generalize pos c = p; revert p; decide +kernel))
    (mem_slot _ _ _ (by beta_reduce; generalize pos c = p; revert p; decide +kernel)) (sem_r _ _ _ (by beta_reduce; generalize pos c = p; revert p; decide +kernel))
    (by refine Fin.ext ?_; dsimp only [nb]; generalize pos c = p; revert p; decide +kernel) (by decide) (by decide) (by decide) ?_
  refine step_load (by beta_reduce; generalize pos c = p; revert p; decide +kernel) (by decide) (by decide) ?_
  refine step_right ?_
  refine step_peek rfl (by decide) fun _ => ?_
  refine step_store rfl (by decide) rfl ?_
  refine step_origin (by beta_reduce; generalize pos c = p; revert p; decide +kernel) ?_
  refine step_assume (chk_origin _) ?_
  refine step_copy hR (sem_k _ _ _ (by decide) rfl) (mem_vslot _ _ _ rfl)
    (mem_rows _ _ _ (by beta_reduce; generalize dev (ord (pos c) _) = d; revert d; decide +kernel)) (by decide) (by decide) ?_
  refine step_recv_t hR (sem_r _ _ _ (by beta_reduce; generalize pos c = p; revert p; decide +kernel)) (credit_slot _ _)
    (by decide) (by decide) (by decide) (by decide) (by decide) ?_
  refine step_recv_f hR (sem_r _ _ _ (by beta_reduce; generalize pos c = p; revert p; decide +kernel)) (credit_slot _ _)
    (by decide) (by decide) (by decide) (by decide) (by decide) ?_
  -- the first four products fill the slots of the product buffer
  refine step_send_t hR (sem_t _ _ _ (by decide) rfl) (mem_slot _ _ _ (by beta_reduce; generalize pos c = p; revert p; decide +kernel))
    (mem_slot _ _ _ (by beta_reduce; generalize pos c = p; revert p; decide +kernel)) (sem_r _ _ _ (by beta_reduce; generalize pos c = p; revert p; decide +kernel))
    (by refine Fin.ext ?_; dsimp only [nb]; generalize pos c = p; revert p; decide +kernel) (by decide) (by decide) (by decide) ?_
  refine step_send_f hR (sem_f _ _ _ (by decide) rfl) (mem_slot _ _ _ (by beta_reduce; generalize pos c = p; revert p; decide +kernel))
    (mem_slot _ _ _ (by beta_reduce; generalize pos c = p; revert p; decide +kernel)) (sem_r _ _ _ (by beta_reduce; generalize pos c = p; revert p; decide +kernel))
    (by refine Fin.ext ?_; dsimp only [nb]; generalize pos c = p; revert p; decide +kernel) (by decide) (by decide) (by decide) ?_
  refine step_load (by beta_reduce; generalize pos c = p; revert p; decide +kernel) (by decide) (by decide) ?_
  refine step_right ?_
  refine step_peek rfl (by decide) fun _ => ?_
  refine step_store rfl (by decide) rfl ?_
  refine step_origin (by beta_reduce; generalize pos c = p; revert p; decide +kernel) ?_
  refine step_assume (chk_origin _) ?_
  refine step_copy hR (sem_k _ _ _ (by decide) rfl) (mem_vslot _ _ _ rfl)
    (mem_rows _ _ _ (by beta_reduce; generalize dev (ord (pos c) _) = d; revert d; decide +kernel)) (by decide) (by decide) ?_
  refine step_load (by beta_reduce; generalize pos c = p; revert p; decide +kernel) (by decide) (by decide) ?_
  refine step_right ?_
  refine step_peek rfl (by decide) fun _ => ?_
  refine step_store rfl (by decide) rfl ?_
  refine step_origin (by beta_reduce; generalize pos c = p; revert p; decide +kernel) ?_
  refine step_assume (chk_origin _) ?_
  refine step_copy hR (sem_k _ _ _ (by decide) rfl) (mem_vslot _ _ _ rfl)
    (mem_rows _ _ _ (by beta_reduce; generalize dev (ord (pos c) _) = d; revert d; decide +kernel)) (by decide) (by decide) ?_
  refine step_recv_t hR (sem_r _ _ _ (by beta_reduce; generalize pos c = p; revert p; decide +kernel)) (credit_slot _ _)
    (by decide) (by decide) (by decide) (by decide) (by decide) ?_
  refine step_recv_f hR (sem_r _ _ _ (by beta_reduce; generalize pos c = p; revert p; decide +kernel)) (credit_slot _ _)
    (by decide) (by decide) (by decide) (by decide) (by decide) ?_
  refine step_send_t hR (sem_t _ _ _ (by decide) rfl) (mem_slot _ _ _ (by beta_reduce; generalize pos c = p; revert p; decide +kernel))
    (mem_slot _ _ _ (by beta_reduce; generalize pos c = p; revert p; decide +kernel)) (sem_r _ _ _ (by beta_reduce; generalize pos c = p; revert p; decide +kernel))
    (by refine Fin.ext ?_; dsimp only [nb]; generalize pos c = p; revert p; decide +kernel) (by decide) (by decide) (by decide) ?_
  refine step_send_f hR (sem_f _ _ _ (by decide) rfl) (mem_slot _ _ _ (by beta_reduce; generalize pos c = p; revert p; decide +kernel))
    (mem_slot _ _ _ (by beta_reduce; generalize pos c = p; revert p; decide +kernel)) (sem_r _ _ _ (by beta_reduce; generalize pos c = p; revert p; decide +kernel))
    (by refine Fin.ext ?_; dsimp only [nb]; generalize pos c = p; revert p; decide +kernel) (by decide) (by decide) (by decide) ?_
  refine step_load (by beta_reduce; generalize pos c = p; revert p; decide +kernel) (by decide) (by decide) ?_
  refine step_right ?_
  refine step_peek rfl (by decide) fun _ => ?_
  refine step_store rfl (by decide) rfl ?_
  refine step_origin (by beta_reduce; generalize pos c = p; revert p; decide +kernel) ?_
  refine step_assume (chk_origin _) ?_
  refine step_copy hR (sem_k _ _ _ (by decide) rfl) (mem_vslot _ _ _ rfl)
    (mem_rows _ _ _ (by beta_reduce; generalize dev (ord (pos c) _) = d; revert d; decide +kernel)) (by decide) (by decide) ?_
  refine step_copied hR (sem_k _ _ _ (by decide) rfl) (credit_rows _ _) (by decide) (by decide) (by decide) ?_
  refine step_load (by beta_reduce; generalize pos c = p; revert p; decide +kernel) (by decide) (by decide) ?_
  refine step_right ?_
  refine step_peek rfl (by decide) fun _ => ?_
  refine step_store rfl (by decide) rfl ?_
  refine step_origin (by beta_reduce; generalize pos c = p; revert p; decide +kernel) ?_
  refine step_assume (chk_origin _) ?_
  refine step_copy hR (sem_k _ _ _ (by decide) rfl) (mem_vslot _ _ _ rfl)
    (mem_rows _ _ _ (by beta_reduce; generalize dev (ord (pos c) _) = d; revert d; decide +kernel)) (by decide) (by decide) ?_
  refine step_recv_t hR (sem_r _ _ _ (by beta_reduce; generalize pos c = p; revert p; decide +kernel)) (credit_slot _ _)
    (by decide) (by decide) (by decide) (by decide) (by decide) ?_
  refine step_recv_f hR (sem_r _ _ _ (by beta_reduce; generalize pos c = p; revert p; decide +kernel)) (credit_slot _ _)
    (by decide) (by decide) (by decide) (by decide) (by decide) ?_
  -- from then on a slot is waited for before each product
  iterate 12
    refine step_send_t hR (sem_t _ _ _ (by decide) rfl) (mem_slot _ _ _ (by beta_reduce; generalize pos c = p; revert p; decide +kernel))
      (mem_slot _ _ _ (by beta_reduce; generalize pos c = p; revert p; decide +kernel)) (sem_r _ _ _ (by beta_reduce; generalize pos c = p; revert p; decide +kernel))
      (by refine Fin.ext ?_; dsimp only [nb]; generalize pos c = p; revert p; decide +kernel) (by decide) (by decide) (by decide) ?_
    refine step_send_f hR (sem_f _ _ _ (by decide) rfl) (mem_slot _ _ _ (by beta_reduce; generalize pos c = p; revert p; decide +kernel))
      (mem_slot _ _ _ (by beta_reduce; generalize pos c = p; revert p; decide +kernel)) (sem_r _ _ _ (by beta_reduce; generalize pos c = p; revert p; decide +kernel))
      (by refine Fin.ext ?_; dsimp only [nb]; generalize pos c = p; revert p; decide +kernel) (by decide) (by decide) (by decide) ?_
    refine step_copied hR (sem_k _ _ _ (by decide) rfl) (credit_rows _ _) (by decide) (by decide) (by decide) ?_
    refine step_load (by beta_reduce; generalize pos c = p; revert p; decide +kernel) (by decide) (by decide) ?_
    refine step_right ?_
    refine step_peek rfl (by decide) fun _ => ?_
    refine step_store rfl (by decide) rfl ?_
    refine step_origin (by beta_reduce; generalize pos c = p; revert p; decide +kernel) ?_
    refine step_assume (chk_origin _) ?_
    refine step_copy hR (sem_k _ _ _ (by decide) rfl) (mem_vslot _ _ _ rfl)
      (mem_rows _ _ _ (by beta_reduce; generalize dev (ord (pos c) _) = d; revert d; decide +kernel)) (by decide) (by decide) ?_
    refine step_copied hR (sem_k _ _ _ (by decide) rfl) (credit_rows _ _) (by decide) (by decide) (by decide) ?_
    refine step_load (by beta_reduce; generalize pos c = p; revert p; decide +kernel) (by decide) (by decide) ?_
    refine step_right ?_
    refine step_peek rfl (by decide) fun _ => ?_
    refine step_store rfl (by decide) rfl ?_
    refine step_origin (by beta_reduce; generalize pos c = p; revert p; decide +kernel) ?_
    refine step_assume (chk_origin _) ?_
    refine step_copy hR (sem_k _ _ _ (by decide) rfl) (mem_vslot _ _ _ rfl)
      (mem_rows _ _ _ (by beta_reduce; generalize dev (ord (pos c) _) = d; revert d; decide +kernel)) (by decide) (by decide) ?_
    refine step_recv_t hR (sem_r _ _ _ (by beta_reduce; generalize pos c = p; revert p; decide +kernel)) (credit_slot _ _)
      (by decide) (by decide) (by decide) (by decide) (by decide) ?_
    refine step_recv_f hR (sem_r _ _ _ (by beta_reduce; generalize pos c = p; revert p; decide +kernel)) (credit_slot _ _)
      (by decide) (by decide) (by decide) (by decide) (by decide) ?_
  -- the last blocks come clockwise
  refine step_send_t hR (sem_t _ _ _ (by decide) rfl) (mem_slot _ _ _ (by beta_reduce; generalize pos c = p; revert p; decide +kernel))
    (mem_slot _ _ _ (by beta_reduce; generalize pos c = p; revert p; decide +kernel)) (sem_r _ _ _ (by beta_reduce; generalize pos c = p; revert p; decide +kernel))
    (by refine Fin.ext ?_; dsimp only [nb]; generalize pos c = p; revert p; decide +kernel) (by decide) (by decide) (by decide) ?_
  refine step_copied hR (sem_k _ _ _ (by decide) rfl) (credit_rows _ _) (by decide) (by decide) (by decide) ?_
  refine step_load (by beta_reduce; generalize pos c = p; revert p; decide +kernel) (by decide) (by decide) ?_
  refine step_right ?_
  refine step_peek rfl (by decide) fun _ => ?_
  refine step_store rfl (by decide) rfl ?_
  refine step_origin (by beta_reduce; generalize pos c = p; revert p; decide +kernel) ?_
  refine step_assume (chk_origin _) ?_
  refine step_copy hR (sem_k _ _ _ (by decide) rfl) (mem_vslot _ _ _ rfl)
    (mem_rows _ _ _ (by beta_reduce; generalize dev (ord (pos c) _) = d; revert d; decide +kernel)) (by decide) (by decide) ?_
  refine step_copied hR (sem_k _ _ _ (by decide) rfl) (credit_rows _ _) (by decide) (by decide) (by decide) ?_
  refine step_load (by beta_reduce; generalize pos c = p; revert p; decide +kernel) (by decide) (by decide) ?_
  refine step_right ?_
  refine step_peek rfl (by decide) fun _ => ?_
  refine step_store rfl (by decide) rfl ?_
  refine step_origin (by beta_reduce; generalize pos c = p; revert p; decide +kernel) ?_
  refine step_assume (chk_origin _) ?_
  refine step_copy hR (sem_k _ _ _ (by decide) rfl) (mem_vslot _ _ _ rfl)
    (mem_rows _ _ _ (by beta_reduce; generalize dev (ord (pos c) _) = d; revert d; decide +kernel)) (by decide) (by decide) ?_
  refine step_recv_t hR (sem_r _ _ _ (by beta_reduce; generalize pos c = p; revert p; decide +kernel)) (credit_slot _ _)
    (by decide) (by decide) (by decide) (by decide) (by decide) ?_
  refine step_copied hR (sem_k _ _ _ (by decide) rfl) (credit_rows _ _) (by decide) (by decide) (by decide) ?_
  refine step_load (by beta_reduce; generalize pos c = p; revert p; decide +kernel) (by decide) (by decide) ?_
  refine step_right ?_
  refine step_peek rfl (by decide) fun _ => ?_
  refine step_store rfl (by decide) rfl ?_
  refine step_origin (by beta_reduce; generalize pos c = p; revert p; decide +kernel) ?_
  refine step_assume ⟨(chk_origin _).1, (chk_origin _).2.1⟩ ?_
  refine step_copy hR (sem_k _ _ _ (by decide) rfl) (mem_vslot _ _ _ rfl)
    (mem_rows _ _ _ (by beta_reduce; generalize dev (ord (pos c) _) = d; revert d; decide +kernel)) (by decide) (by decide) ?_
  -- every send and every copy is waited for
  iterate 15
    refine step_back_t hR (sem_t _ _ _ (by decide) rfl) (credit_slot _ _) (by decide) (by decide) ?_
    refine step_back_f hR (sem_f _ _ _ (by decide) rfl) (credit_slot _ _) (by decide) (by decide) ?_
  refine step_back_t hR (sem_t _ _ _ (by decide) rfl) (credit_slot _ _) (by decide) (by decide) ?_
  iterate 4
    refine step_copied hR (sem_k _ _ _ (by decide) rfl) (credit_rows _ _) (by decide) (by decide) (by decide) ?_
  exact step_ret .rfl

end Cert.KernelIdeal.Walk
-- ==== Proof.KernelIdeal.End.lean ====
/- What a device holds when its body ends: its buffers whole again, its semaphores back at zero, nothing owed. -/
module

public import proofs.«01_k».proof.Proof.KernelIdeal.Start
public import proofs.«01_k».proof.Proof.KernelIdeal.Parts
public import proofs.«01_k».proof.Proof.KernelIdeal.Body

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (A : LeftC F) (B : RightC F)

/-- The semaphores of a device beside its barrier's, all at zero. -/
theorem sems_end (c : Dev nD) :
    iprop(semVal (rCell c (pos c)) 0
        ∗ bigSep (Finset.Ico 1 17) (fun i => semVal (rCell c (sl true (pos c) i)) 0) ∗ bigSep (Finset.Ico 1 16) (fun i => semVal (rCell c (sl false (pos c) i)) 0)
        ∗ bigSep (Finset.Ico 0 16) (fun i => semVal (sCell true c i) 0) ∗ bigSep (Finset.Ico 0 15) (fun i => semVal (sCell false c i) 0)
        ∗ bigSep (Finset.Ico 0 32) (fun j => semVal (kCell c j) 0))
      ⊢ (Pipeline.ownSems0 osem c : sProp 𝕄) := by
  have e : (Pipeline.ownSems0 osem c : sProp 𝕄) = _ := sems_ring (pos c) (fun n => (semVal ((c : Thread nD τ), .dma n) 0 : sProp 𝕄))
  iintro ⟨V0, V1, V2, V3, V4, V5⟩
  iapply (Entails.of_eq e.symm)
  isplitl [V0 V1 V2]
  · isplitl [V0]; · iexact V0
    isplitl [V1]; · iexact V1
    iexact V2
  isplitl [V3]; · iexact V3
  isplitl [V4]; · iexact V4
  iexact V5

/-- What a device has after its body, beside what it only reads and what it owes; its result is the product's row blocks. -/
def Φ₁ (c : Dev nD) : sProp 𝕄 :=
  iprop(((∃ g : Buf (Elt F) ((c : Thread nD τ).loc cc0_scratch0), ((c : Thread nD τ).loc cc0_scratch0) ↦{fullShare} g)
      ∗ (∃ g : Buf (Elt F) ((c : Thread nD τ).loc cc0_scratch1), ((c : Thread nD τ).loc cc0_scratch1) ↦{fullShare} g))
    ∗ (∃ r, prngReg c r) ∗ (((c : Thread nD τ).loc main_v1) ↦{fullShare} OutF A B c) ∗ Pipeline.ownSems0 osem c ∗ semVal (barCell c) 0)

/-- The body's last state is that. -/
theorem finish (RR : sProp 𝕄) (c : Dev nD) :
    St A B RR iprop(semVal (barCell c) 0 ∗ Rest (F := F) c) c 16 17 16 15 16 15 32 32 32
      ⊢ iprop(Φ₁ A B c ∗ (∃ W, owes (c : Thread nD τ) (0 : CellTallies nD τ sig Unit) W) ∗ Win A B c) := by
  unfold St Φ₁ Rest
  rw [O_end]
  iintro ⟨HW, -, -, Ht, Hf, Ho, HO, Hb, Hz, Hp⟩
  ihave Hg := (gather_end A c) $$ [Ht Hf]
  · isplitl [Ht]; · iexact Ht
    iexact Hf
  ihave Ho := (out_end A B c) $$ Ho
  icases Hg with ⟨H0, V3, V4, V1, V2⟩
  icases Ho with ⟨H1, Hv, V5⟩
  isplitr [HO HW]
  · isplitl [H0 H1]
    · isplitl [H0]; · iexact H0
      iexact H1
    isplitl [Hp]; · iexact Hp
    isplitl [Hv]; · iexact Hv
    isplitr [Hb]
    · iapply (sems_end (F := F) c)
      isplitl [Hz]; · iexact Hz
      isplitl [V1]; · iexact V1
      isplitl [V2]; · iexact V2
      isplitl [V3]; · iexact V3
      isplitl [V4]; · iexact V4
      iexact V5
    iexact Hb
  isplitl [HO]; · iexact HO
  iexact HW

/-- The body, from what a device has before it to what it has after. -/
theorem body_ends (c : Dev nD) :
    iprop(Φ₀ A B c ∗ (∃ W, owes (c : Thread nD τ) (O₀ c) W) ∗ Win A B c)
      ⊢ Runs c (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _) (Memref.whole main_v1) (Memref.isWhole_whole _)
          (Memref.whole cc0_scratch0) (Memref.isWhole_whole _) (Memref.whole cc0_scratch1) (Memref.isWhole_whole _) cc0_scratch2 cc0_scratch3 cc0_scratch4 cc0_scratch5)
        (fun _ => iprop(Φ₁ A B c ∗ (∃ W, owes (c : Thread nD τ) (0 : CellTallies nD τ sig Unit) W) ∗ Win A B c)) := by
  unfold Φ₀
  iintro ⟨⟨%κ, #HR, #HL, Ht, Hf, Hs, Ho, HY, HX⟩, HO, HW⟩
  iapply ((body_runs A B κ (recs A B κ) (recs_dma A B κ) (recs_bar A B κ) (Rest (F := F) c) c).trans
    (Idealize.SL.Sem.wp_mono _ _ _ fun _ => finish A B (recs A B κ) c))
  unfold Pre
  isplitl [HW]; · iexact HW
  isplitr; · iexact HR
  isplitr; · iexact HL
  isplitl [Ht]; · iexact Ht
  isplitl [Hf]; · iexact Hf
  isplitl [Hs]; · iexact Hs
  isplitl [Ho]; · iexact Ho
  isplitl [HO]; · iexact HO
  isplitl [HY]; · iexact HY
  iexact HX

end Cert.KernelIdeal.Walk
-- ==== Proof.KernelIdeal.Region.lean ====
/- The kernel's region of the program: what it is entered and left with, and its body's obligation. -/
module

public import proofs.«01_k».proof.Proof.KernelIdeal.End
public import proofs.«01_k».proof.Proof.Gen.KernelIdeal.Frame
public import Idealize.ShloMosaic.Lib.Pipeline.RegionTalk

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (A : LeftC F) (B : RightC F)

open Idealize.ShloMosaic.Pipeline (Dat Cfg Window BodyObligation cellOf)

variable (m : (ℓ : Loc nD τ sig) → Buf (Elt F) ℓ)

/-! ## The buffers' contents -/

/-- The devices' left factors, and their right factors. -/
def lefts : LeftC F := fun c => m ((c : Thread nD τ).loc main_arg0)
def rights : RightC F := fun c => m ((c : Thread nD τ).loc main_arg1)

/-- A device's buffers at launch, at the region's entry and at its exit. -/
def W₀ (c : Dev nD) : Valuation τ sig (Elt F) := fun b => m (c, b)
def W₁ (c : Dev nD) : Valuation τ sig (Elt F) := StableHlo.after Gen.hostOps0 (W₀ m c)
def W₂ (c : Dev nD) : Valuation τ sig (Elt F) :=
  Function.update (W₁ m c) (Proc.devRef .tc main_v1) (OutF (lefts m) (rights m) c)

theorem W₁_arg0 (c : Dev nD) : W₁ m c (Proc.devRef .tc main_arg0) = lefts m c := Gen.V_main_arg0 m c
theorem W₁_arg1 (c : Dev nD) : W₁ m c (Proc.devRef .tc main_arg1) = rights m c := Gen.V_main_arg1 m c
theorem W₁_tab1 (c : Dev nD) : W₁ m c (Proc.devRef .tc main_c_0) = tab1 (F := F) := by
  unfold W₁
  rw [StableHlo.after_cons, StableHlo.after_cons, StableHlo.after_nil, StableHlo.nullary_result]
  rfl
theorem W₁_tab0 (c : Dev nD) : W₁ m c (Proc.devRef .tc main_c) = tab0 (F := F) := by
  unfold W₁
  rw [StableHlo.after_cons, StableHlo.after_cons, StableHlo.after_nil]
  refine (StableHlo.nullary_result_ne _ _ _ _ (by decide)).trans ?_
  rw [StableHlo.nullary_result]
  rfl
theorem W₂_v1 (c : Dev nD) : W₂ m c (Proc.devRef .tc main_v1) = OutF (lefts m) (rights m) c := Function.update_self ..
theorem W₂_ne (c : Dev nD) {b : DevRef τ sig} (h : b ≠ Proc.devRef .tc main_v1) : W₂ m c b = W₁ m c b := Function.update_of_ne h ..

/-! ## The region's proof data -/

/-- What the windows' staging buffers hold throughout. -/
def win (c : Dev nD) : (w : Fin 4) → (win0 w).block.Idx → Elt F (win0 w).elt
  | 0 => lefts m c
  | 1 => rights m c
  | 2 => tab0 (F := F)
  | 3 => tab1 (F := F)

/-- The region's invariant before its one point and after it, and what the device owes. -/
def dat (c : Dev nD) : Dat τ (Elt F) Unit ℕ UU ℕ cfg0 c where
  A w := W₁ m c (Proc.devRef .tc (Pipeline.arrRef spec0 w))
  after w _ := win m c w
  Φ t := if t.val = 0 then Φ₀ (lefts m) (rights m) c else Φ₁ (lefts m) (rights m) c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

/-! A window is its array whole. -/

theorem emb_0 (j : S1024x512.Idx) : ((cfg0.win 0).blk Gen.t0_0).view.emb j = j :=
  funext fun a => Fin.ext (by
    show win0_0.index Gen.t0_0 a * S1024x512.size a + 1 * (j a).val = (j a).val
    rw [show win0_0.index Gen.t0_0 a = 0 from by revert a; decide +kernel]; omega)
theorem emb_1 (j : S512x1024.Idx) : ((cfg0.win 1).blk Gen.t0_0).view.emb j = j :=
  funext fun a => Fin.ext (by
    show win0_1.index Gen.t0_0 a * S512x1024.size a + 1 * (j a).val = (j a).val
    rw [show win0_1.index Gen.t0_0 a = 0 from by revert a; decide +kernel]; omega)
theorem emb_2 (j : S32.Idx) : ((cfg0.win 2).blk Gen.t0_0).view.emb j = j :=
  funext fun a => Fin.ext (by
    show win0_2.index Gen.t0_0 a * S32.size a + 1 * (j a).val = (j a).val
    rw [show win0_2.index Gen.t0_0 a = 0 from by revert a; decide +kernel]; omega)
theorem emb_3 (j : S32.Idx) : ((cfg0.win 3).blk Gen.t0_0).view.emb j = j :=
  funext fun a => Fin.ext (by
    show win0_3.index Gen.t0_0 a * S32.size a + 1 * (j a).val = (j a).val
    rw [show win0_3.index Gen.t0_0 a = 0 from by revert a; decide +kernel]; omega)

theorem before_0 (c : Dev nD) (d) : (dat m c).before (0 : Fin 4) Gen.t0_0 d = lefts m c := by
  unfold Dat.before; rw [if_pos (Gen.fetch0_0 _)]
  refine Eq.trans ?_ (W₁_arg0 m c)
  funext j
  show W₁ m c (Proc.devRef .tc main_arg0) (((cfg0.win 0).blk Gen.t0_0).view.emb j) = W₁ m c (Proc.devRef .tc main_arg0) j
  rw [emb_0]
theorem before_1 (c : Dev nD) (d) : (dat m c).before (1 : Fin 4) Gen.t0_0 d = rights m c := by
  unfold Dat.before; rw [if_pos (Gen.fetch0_1 _)]
  refine Eq.trans ?_ (W₁_arg1 m c)
  funext j
  show W₁ m c (Proc.devRef .tc main_arg1) (((cfg0.win 1).blk Gen.t0_0).view.emb j) = W₁ m c (Proc.devRef .tc main_arg1) j
  rw [emb_1]
theorem before_2 (c : Dev nD) (d) : (dat m c).before (2 : Fin 4) Gen.t0_0 d = tab0 (F := F) := by
  unfold Dat.before; rw [if_pos (Gen.fetch0_2 _)]
  refine Eq.trans ?_ (W₁_tab0 m c)
  funext j
  show W₁ m c (Proc.devRef .tc main_c) (((cfg0.win 2).blk Gen.t0_0).view.emb j) = W₁ m c (Proc.devRef .tc main_c) j
  rw [emb_2]
theorem before_3 (c : Dev nD) (d) : (dat m c).before (3 : Fin 4) Gen.t0_0 d = tab1 (F := F) := by
  unfold Dat.before; rw [if_pos (Gen.fetch0_3 _)]
  refine Eq.trans ?_ (W₁_tab1 m c)
  funext j
  show W₁ m c (Proc.devRef .tc main_c_0) (((cfg0.win 3).blk Gen.t0_0).view.emb j) = W₁ m c (Proc.devRef .tc main_c_0) j
  rw [emb_3]

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owed_first (c : Dev nD) : (dat (F := F) m c).owed Gen.t0_0.castSucc = O₀ c := by
  show (if (Gen.t0_0.castSucc : Fin (cfg0.N + 1)).val = 0 then O₀ c else 0) = O₀ c
  exact if_pos rfl
theorem owed_zero (c : Dev nD) : (pdats (F := F) m 0 c).owed 0 = O₀ c := by
  show (if (0 : Fin (cfg0.N + 1)).val = 0 then O₀ c else 0) = O₀ c
  exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from Gen.N_0]; decide)]

theorem owesAt_intro {cfg : Cfg sig Λ₀} {c : Dev nD} (dat : Dat τ (Elt F) Unit ℕ UU ℕ cfg c) (t : Fin (cfg.N + 1))
    (O : CellTallies nD τ sig Unit) (h : dat.owed t = O) (hr : dat.recorded t = Set.univ) :
    iprop(∃ W, owes (c : Thread nD τ) O W) ⊢ (dat.owesAt () t : sProp 𝕄) := by
  unfold Dat.owesAt Pipeline.owesWithin Dat.bound
  rw [h, hr]
  iintro ⟨%W, HO⟩
  iexists W
  isplitr; · ipureintro; exact fun _ _ => Or.inl trivial
  iexact HO
theorem owesAt_elim {cfg : Cfg sig Λ₀} {c : Dev nD} (dat : Dat τ (Elt F) Unit ℕ UU ℕ cfg c) (t : Fin (cfg.N + 1))
    (O : CellTallies nD τ sig Unit) (h : dat.owed t = O) :
    (dat.owesAt () t : sProp 𝕄) ⊢ iprop(∃ W, owes (c : Thread nD τ) O W) := by
  unfold Dat.owesAt Pipeline.owesWithin
  rw [h]
  iintro ⟨%W, -, HO⟩
  iexists W; iexact HO

/-- A staging buffer at contents to be named. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_eq (c : Dev nD) (b : Ref sig .tc) (X : b.ty.Contents (Elt F)) : stg c b X = (((c : Thread nD τ).loc b) ↦{fullShare} X : sProp 𝕄) := by
  have h1 : stg c b X ⊢ (((c : Thread nD τ).loc b) ↦{fullShare} X : sProp 𝕄) := by
    unfold stg
    iintro ⟨%f, %h, H⟩
    subst h; iexact H
  have h2 : (((c : Thread nD τ).loc b) ↦{fullShare} X : sProp 𝕄) ⊢ stg c b X := by
    unfold stg
    iintro H
    iexists X
    isplitr; · ipureintro; rfl
    iexact H
  exact BI.equiv_iff.mp ⟨h1, h2⟩

set_option maxRecDepth 200000 in
/-- The body's obligation. -/
theorem body (c : Dev nD) : BodyObligation (dat (F := F) m c) (defs₀ (F := F)) 𝒱₀ () Set.univ := fun t => by
  obtain rfl := Gen.fin_N0 t
  rw [Gen.bigSep_W0, Gen.bigSep_W0]
  simp only [owns_whole_eq]
  show iprop(Φ₀ (lefts m) (rights m) c ∗ (dat m c).owesAt () Gen.t0_0.castSucc
      ∗ (∃ d, stg c cc0_stg0_0 ((dat m c).before (0 : Fin 4) Gen.t0_0 d)) ∗ (∃ d, stg c cc0_stg1_0 ((dat m c).before (1 : Fin 4) Gen.t0_0 d))
      ∗ (∃ d, stg c cc0_stg2_0 ((dat m c).before (2 : Fin 4) Gen.t0_0 d)) ∗ (∃ d, stg c cc0_stg3_0 ((dat m c).before (3 : Fin 4) Gen.t0_0 d)))
    ⊢ Runs c (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _) (Memref.whole main_v1) (Memref.isWhole_whole _)
          (Memref.whole cc0_scratch0) (Memref.isWhole_whole _) (Memref.whole cc0_scratch1) (Memref.isWhole_whole _) cc0_scratch2 cc0_scratch3 cc0_scratch4 cc0_scratch5)
      (fun _ => iprop(Φ₁ (lefts m) (rights m) c ∗ (dat m c).owesAt () Gen.t0_0.succ
        ∗ stg c cc0_stg0_0 (lefts m c) ∗ stg c cc0_stg1_0 (rights m c) ∗ stg c cc0_stg2_0 (tab0 (F := F)) ∗ stg c cc0_stg3_0 (tab1 (F := F))))
  refine BIBase.Entails.trans ?_ ((body_ends (lefts m) (rights m) c).trans (Idealize.SL.Sem.wp_mono _ _ _ fun _ => ?_))
  · unfold Win
    iintro ⟨HΦ, HO, ⟨%d0, H0⟩, ⟨%d1, H1⟩, ⟨%d2, H2⟩, ⟨%d3, H3⟩⟩
    isplitl [HΦ]; · iexact HΦ
    isplitl [HO]; · iapply (owesAt_elim (dat m c) Gen.t0_0.castSucc (O₀ c) (owed_first m c)); iexact HO
    isplitl [H0]; · iapply (Entails.of_eq ((congrArg (stg c cc0_stg0_0) (before_0 m c d0)).trans (stg_eq c cc0_stg0_0 _))); iexact H0
    isplitl [H1]; · iapply (Entails.of_eq ((congrArg (stg c cc0_stg1_0) (before_1 m c d1)).trans (stg_eq c cc0_stg1_0 _))); iexact H1
    isplitl [H2]; · iapply (Entails.of_eq ((congrArg (stg c cc0_stg2_0) (before_2 m c d2)).trans (stg_eq c cc0_stg2_0 _))); iexact H2
    iapply (Entails.of_eq ((congrArg (stg c cc0_stg3_0) (before_3 m c d3)).trans (stg_eq c cc0_stg3_0 _))); iexact H3
  · unfold Win
    rw [stg_eq, stg_eq, stg_eq, stg_eq]
    iintro ⟨HΦ, HO, HW⟩
    isplitl [HΦ]; · iexact HΦ
    isplitl [HO]; · iapply (owesAt_intro (dat m c) Gen.t0_0.succ 0 (owed_last m c) rfl); iexact HO
    iexact HW

end Cert.KernelIdeal.Walk
-- ==== Proof.KernelIdeal.Segs.lean ====
/- The program cut at the kernel's region: the two tables' stores, then the region. -/
module

public import proofs.«01_k».proof.Proof.KernelIdeal.Region

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (A : LeftC F) (B : RightC F)

open Idealize.ShloMosaic.Pipeline (Dat Cfg Window BodyObligation cellOf)

variable (m : (ℓ : Loc nD τ sig) → Buf (Elt F) ℓ)

/-! ## The buffers -/

/-- The buffers that outlive the region. -/
def bufs : Finset (DevRef τ sig) := (StableHlo.tcRefs τ sig).filter fun b => ¬ b.isScoped
/-- The one of them that the body addresses itself. -/
def resBuf : Finset (DevRef τ sig) := {Proc.devRef .tc main_v1}

omit [FloatOps F] in
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

omit [FloatOps F] in
theorem held_res (c : Dev nD) (W : Valuation τ sig (Elt F)) :
    (StableHlo.held (c : Thread nD τ) resBuf W : sProp 𝕄) = (((c : Thread nD τ).loc main_v1) ↦{fullShare} W (Proc.devRef .tc main_v1)) := by
  unfold StableHlo.held resBuf
  rw [BI.bigSep_singleton]

theorem arrRefs_eq : Pipeline.arrRefs (τ := τ) (pcfgs (F := F) 0).spec = {Proc.devRef .tc main_arg0, Proc.devRef .tc main_arg1, Proc.devRef .tc main_c, Proc.devRef .tc main_c_0} := by
  show Pipeline.arrRefs (τ := τ) spec0 = _
  decide

omit [FloatOps F] in
theorem bufs_eq : (bufs : Finset (DevRef τ sig)) = {Proc.devRef .tc main_arg0, Proc.devRef .tc main_arg1, Proc.devRef .tc main_c, Proc.devRef .tc main_c_0} ∪ resBuf := by
  decide

/-- A device's buffers are the windows' arrays and its result. -/
theorem held_bufs (c : Dev nD) (W : Valuation τ sig (Elt F)) :
    (StableHlo.held (c : Thread nD τ) bufs W : sProp 𝕄)
      = iprop(StableHlo.held (c : Thread nD τ) (Pipeline.arrRefs (τ := τ) (pcfgs (F := F) 0).spec) W ∗ StableHlo.held (c : Thread nD τ) resBuf W) := by
  rw [arrRefs_eq, bufs_eq]
  unfold StableHlo.held
  exact BI.bigSep_union (by decide)

/-! ## The kernel's region -/

local notation "ℍ" => Pipeline.HostSeg (Name := ℕ) (U := UU) (pcfgs (F := F)) defs₀ 𝒱₀ L lv
local notation "ℝ" => Pipeline.RegionSeg (pcfgs (F := F)) adm (pdats m) () defs₀ 𝒱₀ L lv

theorem kit : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

theorem ownSems : Pipeline.OwnSemFacts spec0 osem := by decide +kernel

omit [FloatOps F] in
/-- What a device owes at the launch lies on cells of rank above zero. -/
theorem O₀_pos {c : Dev nD} {g : GSem nD τ sig} {u : Unit} (h : 0 < O₀ c g u) : u ∈ L g ∧ 0 < lv g u := by
  have key : (∃ (o : Bool) (i : ℕ), g = rCell (nb o c) (sl o (pos c) i)) ∨ (∃ o : Bool, g = barCell (nb o c)) := by
    unfold O₀ O₁ O at h
    simp only [Pi.add_apply, Finsupp.add_apply] at h
    by_cases h1 : 0 < Ot true c 0 g u
    · obtain ⟨i, -, -, e⟩ := Ot_pos h1
      exact .inl ⟨true, i, e⟩
    by_cases h2 : 0 < Ot false c 0 g u
    · obtain ⟨i, -, -, e⟩ := Ot_pos h2
      exact .inl ⟨false, i, e⟩
    by_cases h3 : g = barCell (nb true c)
    · exact .inr ⟨true, h3⟩
    by_cases h4 : g = barCell (nb false c)
    · exact .inr ⟨false, h4⟩
    rw [tallyAt_apply, tallyAt_apply, if_neg (fun e => h3 e.1), if_neg (fun e => h4 e.1)] at h
    omega
  cases u
  rcases key with ⟨o, i, rfl⟩ | ⟨o, rfl⟩
  · exact ⟨by rw [L_tc]; exact Finset.mem_singleton_self _, by rw [lv_r]; omega⟩
  · exact ⟨by rw [L_tc]; exact Finset.mem_singleton_self _, by rw [lv_bar]; omega⟩

theorem cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact O₀_pos h
  · exact absurd h (Nat.lt_irrefl 0)

theorem region_in (c : Dev nD) :
    iprop(Pipeline.scopedRest (Pipeline.pin (pcfgs (F := F)) adm 0).spec c ∗ (∃ r, prngReg c r) ∗ StableHlo.held (c.tc : Thread nD τ) resBuf (W₁ m c) ∗ Xk (lefts m) (rights m) c)
      ⊢ (pdats m 0 c).Φ 0 := by
  rw [show (pdats m 0 c).Φ 0 = Φ₀ (lefts m) (rights m) c from rfl, held_res]
  rw [show (Pipeline.scopedRest (Ix := Unit) (Name := ℕ) (U := UU) (Lvl := ℕ) (Val := Elt F) (Pipeline.pin (pcfgs (F := F)) adm 0).spec c : sProp 𝕄) = _ from Gen.scopedRest0_eq c]
  exact start (lefts m) (rights m) c _

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) resBuf (W₂ m c)
      ∗ Pipeline.ownSems0 osem c ∗ semVal (barCell c) 0) := by
  rw [show (pdats m 0 c).Φ (Fin.last _) = Φ₁ (lefts m) (rights m) c from rfl, held_res, W₂_v1]
  rw [show (Pipeline.scopedRest (Ix := Unit) (Name := ℕ) (U := UU) (Lvl := ℕ) (Val := Elt F) (Pipeline.pin (pcfgs (F := F)) adm 0).spec c : sProp 𝕄) = _ from Gen.scopedRest0_eq c]
  exact .rfl

theorem stage_level (c : Dev nD) (w : Fin 4) (s : Fin (win0 w).nbuf) : lv ((c : Thread nD τ), .dma ((win0 w).sem s)) () ≤ 0 := by
  refine le_of_eq (lv_other c _ ?_)
  revert w; decide +kernel

theorem arr_last (c : Dev nD) (w : Fin 4) :
    (pdats m 0 c).arrAt w (Pipeline.pin (pcfgs (F := F)) adm 0).N = W₂ m c (Proc.devRef .tc (Pipeline.arrRef (Pipeline.pin (pcfgs (F := F)) adm 0).spec w)) := by
  refine (Dat.arrAt_in (dat m c) w (by revert w; decide) _).trans ?_
  exact (W₂_ne m c (by revert w; decide)).symm

set_option backward.isDefEq.respectTransparency.types false in
/-- The kernel's region: entered with the buffers at the stores' contents and the protocol's state, left with the result in place. -/
def reg0 : ℝ 0 :=
  Pipeline.RegionSeg.ofTalk (pcfgs (F := F)) adm (pdats m) () defs₀ 𝒱₀ L lv 0 osem ownSems
    resBuf resBuf (Finset.Subset.refl _) kit rfl (fun c => (body m c).loose)
    (fun _ => 0) O₀ (fun c => (owed_zero m c).trans (zero_add _).symm) (owed_last m) (fun _ => rfl) (fun c w => by unfold Dat.share; split <;> rfl)
    (W₁ m) (W₂ m) (fun _ b hb => absurd hb (by rw [Finset.sdiff_self]; exact Finset.notMem_empty b))
    (Tk (lefts m) (rights m)) (fun c => semVal (barCell c) 0) (Xk (lefts m) (rights m)) (fun c => semVal (barCell c) 0)
    (hopen (lefts m) (rights m)) (region_in m) (region_out m)
    (fun c => by iintro H; imodintro; iexact H)
    (fun _ => 0)
    ⟨fun c w s => by rw [L_tc]; exact Finset.mem_singleton_self _, fun c w s => stage_level c w s, fun c t g i h => cut m c t g i h⟩
    (fun _ => iprop(emp))
    (fun c w => rfl) (fun c w => arr_last m c w)

/-! ## The stores before it -/

omit [FloatOps F] in
theorem hostOps_sub : ∀ op ∈ (Gen.hostOps0 : List (HloOp τ sig (Elt F))), op.bufs ⊆ bufs := fun op h => by
  simp only [Gen.hostOps0, List.mem_cons, List.not_mem_nil, or_false] at h
  rcases h with rfl | rfl
  · show ({Proc.devRef .tc main_c} : Finset (DevRef τ sig)) ⊆ bufs; decide
  · show ({Proc.devRef .tc main_c_0} : Finset (DevRef τ sig)) ⊆ bufs; decide

/-- What rides beside the buffers up to the region. -/
def R (c : Dev nD) : sProp 𝕄 := iprop(Tk (lefts m) (rights m) c ∗ (∃ r, prngReg c r) ∗ ∃ W, owes (c : Thread nD τ) (O₀ c) W)

def seg0 : ℍ := Pipeline.HostSeg.ofOps _ _ _ _ _ bufs Gen.hostOps0 hostOps_sub (List.forall_iff_forall_mem.mp Gen.hostOps0_fresh) (W₀ m) (R m)

/-- The program. -/
def segs : List (Pipeline.Seg (pcfgs (F := F)) adm (pdats m) () defs₀ 𝒱₀ L lv) := [.host (seg0 m), .region (reg0 m)]

theorem reg_pre (c : Dev nD) : iprop(StableHlo.held (c : Thread nD τ) bufs (W₁ m c) ∗ R m c) ⊢ (reg0 m).pre c := by
  show _ ⊢ iprop(StableHlo.held (c.tc : Thread nD τ) (Pipeline.arrRefs (τ := τ) (pcfgs (F := F) 0).spec) (W₁ m c) ∗ (∃ r, prngReg c r)
    ∗ (StableHlo.held (c.tc : Thread nD τ) resBuf (W₁ m c) ∗ emp) ∗ Tk (lefts m) (rights m) c ∗ ∃ Wd, owes (c : Thread nD τ) (0 + O₀ c) Wd)
  rw [held_bufs, zero_add]
  unfold R
  iintro ⟨⟨Ha, Hv⟩, HT, Hp, HO⟩
  isplitl [Ha]; · iexact Ha
  isplitl [Hp]; · iexact Hp
  isplitl [Hv]
  · isplitl [Hv]; · iexact Hv
    iempintro
  isplitl [HT]; · iexact HT
  iexact HO

/-- What a device ends with. -/
abbrev Tₙ (c : Dev nD) : sProp 𝕄 := iprop(StableHlo.held (c : Thread nD τ) bufs (W₂ m c) ∗ semVal (barCell c) 0)

theorem reg_post (c : Dev nD) : (reg0 m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (W₂ m c) ∗ (∃ r, prngReg c r)
    ∗ (StableHlo.held (c.tc : Thread nD τ) resBuf (W₂ m c) ∗ emp) ∗ semVal (barCell c) 0 ∗ ∃ Wd, owes (c : Thread nD τ) (0 : CellTallies nD τ sig Unit) Wd) ⊢ _
  dsimp only [Tₙ]
  rw [held_bufs]
  iintro ⟨Ha, -, ⟨Hv, -⟩, Hb, HO⟩
  isplitr [HO]
  · isplitl [Ha Hv]
    · isplitl [Ha] <;> iassumption
    iexact Hb
  iexact HO

end Cert.KernelIdeal.Walk
-- ==== Proof.KernelIdeal.Run.lean ====
/- The run: what every device's buffers hold when all devices have finished. -/
module

public import proofs.«01_k».proof.Proof.KernelIdeal.Segs

@[expose] public section

noncomputable section

namespace Cert.KernelIdeal.Walk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (A : LeftC F) (B : RightC F)

open Idealize.ShloMosaic.Pipeline (Dat Cfg Window BodyObligation cellOf)

variable (m : (ℓ : Loc nD τ sig) → Buf (Elt F) ℓ) (ρ : Dev nD → PrngReg)

/-! ## The launch -/

theorem disjoint_cells : Disjoint barCells scCells := by
  refine Finset.disjoint_left.mpr fun g h1 h2 => ?_
  obtain ⟨c, -, rfl⟩ := Finset.mem_map.mp h1
  obtain ⟨x, -, h⟩ := Finset.mem_map.mp h2
  cases congrArg (fun g : GSem nD τ sig => g.2) h

omit [FloatOps F] in
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- What the machine's ghost state starts as: the pipeline's cells and the kernel's. -/
def u₀ : UU :=
  (initOf (Pipeline.cells (Pipeline.pin (pcfgs (F := F)) adm) Gen.cellOf_inj) (Pipeline.launchToks (Pipeline.pin (pcfgs (F := F)) adm) Gen.cellOf_inj),
    launchOf barCells scCells talkToks)

/-- A proposition handed to one device. -/
def onDev (c₀ : Dev nD) (X : sProp 𝕄) (c : Dev nD) : sProp 𝕄 := if c = c₀ then X else BI.emp

omit [FloatOps F] in
theorem bigSep_onDev (c₀ : Dev nD) (X : sProp 𝕄) : bigSep Finset.univ (onDev c₀ X) = X := by
  rw [bigSep_univ_at _ c₀, bigSep_congr (s := Finset.univ.erase c₀) (Ψ := fun _ => BI.emp) fun c hc => by
    unfold onDev; rw [if_neg (Finset.ne_of_mem_erase hc)], BI.bigSep_emp_const]
  unfold onDev
  rw [if_pos rfl]
  exact BI.equiv_iff.mp sep_emp

/-- The kernel's ghost state, handed to the first device. -/
def purse : Dev nD → sProp 𝕄 := onDev 0 (BI.own (ER (launchOf barCells scCells talkToks)))

/-- What the launch gives a device beside its barrier. -/
def bundle (c : Dev nD) : sProp 𝕄 :=
  iprop(StableHlo.held (c : Thread nD τ) bufs (W₀ m c) ∗ creds (F := F) c ∗ owes (c : Thread nD τ) (O₀ c) ∅ ∗ ∃ r, prngReg c r)

/-- What a device enters the program with. -/
abbrev T₀ (c : Dev nD) : sProp 𝕄 := iprop(StableHlo.held (c : Thread nD τ) bufs (W₀ m c) ∗ R m c)

theorem T₀_intro (κ : GSem nD τ sig → ℕ) (c : Dev nD) : iprop(recs (lefts m) (rights m) κ ∗ (linear (F := F) c ∗ bundle m c)) ⊢ T₀ m c := by
  unfold bundle T₀ R Tk
  iintro ⟨HR, Hl, Hh, Hc, HO, Hp⟩
  isplitl [Hh]; · iexact Hh
  isplitl [HR Hl Hc]
  · isplitr [Hc]
    · iexists κ
      isplitl [HR] <;> iassumption
    iexact Hc
  isplitl [Hp]; · iexact Hp
  iexists ∅; iexact HO

theorem launch_core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ purse c)
    ⊢ (iprop(bundle m c ∗ (semVal (barCell c) 0 ∗ purse c)) : sProp 𝕄) := by
  rw [show unscopedBufs c (fun b => m ((c : Thread nD τ).loc b)) = StableHlo.held (c : Thread nD τ) bufs (W₀ m c) from unscopedBufs_held c (W₀ m c),
    unscopedSems0_eq]
  unfold bundle
  iintro ⟨Hh, Hus, HO, Hcr, Hp, HG⟩
  ihave Hc := (creds_launch (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- Every device's share of the start, made from the machine's. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ purse c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) ⟨barCell, barCell_injective⟩ (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) ⟨barCell, barCell_injective⟩ (Φ := fun g : GSem nD τ sig => (atPos ER g 0 ∅ 0 : sProp 𝕄)))
  have ho : bigSep scCells (fun g => (openTok ER g : sProp 𝕄))
      ⊢ bigSep Finset.univ (fun c : Dev nD => bigSep Finset.univ (fun n : Fin 95 => (openTok ER ((c : Thread nD τ), osem n) : sProp 𝕄))) :=
    Entails.of_eq (by
      unfold scCells
      rw [bigSep_map, bigSep_univ_prod]
      rfl)
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ purse c))
      ⊢ (iprop(bigSep Finset.univ (fun c : Dev nD => bundle m c) ∗ bigSep Finset.univ (fun c : Dev nD => (semVal (barCell c) 0 : sProp 𝕄)) ∗ bigSep Finset.univ (purse (F := F))) : sProp 𝕄) := by
    have hm : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ purse c))
        ⊢ (bigSep Finset.univ fun c : Dev nD => iprop(bundle m c ∗ (semVal (barCell c) 0 ∗ purse c)) : sProp 𝕄) := bigSep_mono fun c _ => launch_core m ρ c
    have e : (bigSep Finset.univ fun c : Dev nD => iprop(bundle m c ∗ (semVal (barCell c) 0 ∗ purse c)) : sProp 𝕄)
        = iprop(bigSep Finset.univ (fun c : Dev nD => bundle m c) ∗ bigSep Finset.univ (fun c : Dev nD => (semVal (barCell c) 0 : sProp 𝕄)) ∗ bigSep Finset.univ (purse (F := F))) := by
      rw [bigSep_sep', bigSep_sep']
    rw [e] at hm
    exact hm
  have hG : bigSep Finset.univ (purse (F := F)) ⊢ (BI.own (ER (launchOf barCells scCells talkToks)) : sProp 𝕄) :=
    Entails.of_eq (bigSep_onDev (F := F) 0 (BI.own (ER (launchOf barCells scCells talkToks))))
  have h2 : iprop(bigSep Finset.univ (fun c : Dev nD => (atPos ER (barCell c) 0 ∅ 0 : sProp 𝕄))
        ∗ bigSep Finset.univ (fun c : Dev nD => bigSep Finset.univ (fun n : Fin 95 => (openTok ER ((c : Thread nD τ), osem n) : sProp 𝕄)))
        ∗ bigSep Finset.univ (fun c : Dev nD => dealt (F := F) c) ∗ bigSep Finset.univ (fun c : Dev nD => bundle m c))
      ⊢ bigSep Finset.univ (fun c : Dev nD => iprop(linear (F := F) c ∗ bundle m c)) := by
    unfold linear
    simp only [bigSep_sep']
    iintro ⟨H1, H2, H3, H4⟩
    isplitl [H1 H2 H3]
    · isplitl [H1]; · iexact H1
      isplitl [H2] <;> iassumption
    iexact H4
  iintro ⟨H, -⟩
  ihave H := h1 $$ H
  icases H with ⟨HB, Hv, HG⟩
  ihave Hu := hG $$ HG
  ihave Hv := hv $$ Hv
  imod (Rounds.fund_launch ER (Rd (lefts m) (rights m)) disjoint_cells (fun g _ h => h) talkToks) $$ [Hv Hu] with ⟨%κ, -, #Hinv, #Hr, Hat, Hopen, Htok⟩
  · isplitl [Hv] <;> iassumption
  imodintro
  have h3 : iprop(recs (lefts m) (rights m) κ ∗ bigSep Finset.univ (fun c : Dev nD => iprop(linear (F := F) c ∗ bundle m c))) ⊢ bigSep Finset.univ (T₀ m) :=
    bigSep_with_persistent (R := recs (lefts m) (rights m) κ) (Φ := fun c => iprop(linear (F := F) c ∗ bundle m c)) fun c _ => T₀_intro m κ c
  iapply h3
  isplitr
  · unfold recs records
    isplitr; · iexact Hinv
    iexact Hr
  iapply h2
  isplitl [Hat]; · iapply hat; iexact Hat
  isplitl [Hopen]; · iapply ho; iexact Hopen
  isplitl [Htok]; · iapply (toks_dealt (F := F)); iexact Htok
  iexact HB

/-! ## The run -/

theorem unscoped_eq : ∀ sm : SemLoc sig, sm.isScoped .tc = false → sm = .reg barS := by decide +kernel

theorem held_three (c : Dev nD) (W : Valuation τ sig (Elt F)) :
    (StableHlo.held (c : Thread nD τ) bufs W : sProp 𝕄)
      ⊢ iprop((((c : Thread nD τ).loc main_arg0) ↦{fullShare} W (Proc.devRef .tc main_arg0)) ∗ (((c : Thread nD τ).loc main_arg1) ↦{fullShare} W (Proc.devRef .tc main_arg1))
        ∗ (((c : Thread nD τ).loc main_v1) ↦{fullShare} W (Proc.devRef .tc main_v1))) := by
  unfold StableHlo.held
  rw [bigSep_eq_bigSepL_of_eq [Proc.devRef .tc main_arg0, Proc.devRef .tc main_arg1, Proc.devRef .tc main_v1, Proc.devRef .tc main_c, Proc.devRef .tc main_c_0] (by decide) (by decide)]
  simp only [bigSepL_cons_cons, bigSepL_singleton]
  show iprop((((c : Thread nD τ).loc main_arg0) ↦{fullShare} W (Proc.devRef .tc main_arg0)) ∗ (((c : Thread nD τ).loc main_arg1) ↦{fullShare} W (Proc.devRef .tc main_arg1))
    ∗ (((c : Thread nD τ).loc main_v1) ↦{fullShare} W (Proc.devRef .tc main_v1)) ∗ (((c : Thread nD τ).loc main_c) ↦{fullShare} W (Proc.devRef .tc main_c))
    ∗ (((c : Thread nD τ).loc main_c_0) ↦{fullShare} W (Proc.devRef .tc main_c_0))) ⊢ _
  iintro ⟨H0, H1, H2, -⟩
  isplitl [H0]; · iexact H0
  isplitl [H1]; · iexact H1
  iexact H2

set_option backward.isDefEq.respectTransparency.types false in
/-- From any memory with zero counters every execution ends, every device's result then holds every block of products, the arguments are
    unchanged, and every counter reads zero. -/
theorem run_main : θ_run defs (onTc (τ := τ) (main (F := F))) ⟨m, fun _ => 0, ρ⟩
    (fun r => (∀ c : Dev nD, r.2.mem ((c : Thread nD τ).loc main_v1) = OutF (lefts m) (rights m) c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () Gen.cellOf_inj EP defs₀ 𝒱₀ L lv m ρ main (segs m)
    (fun c Q => by rw [Gen.main_segs adm (pdats m) () 𝒱₀ L lv (seg0 m) (reg0 m) rfl c]; rfl)
    (by simp only [segs, Pipeline.Seg.pipes_host, Pipeline.Seg.pipes_region, Pipeline.Seg.pipes_nil]; decide)
    (O₀ := O₀) (hL := L_of_ne) (G := purse) (u₀ := u₀ (F := F))
    (hu₀ := by
      unfold u₀ purse
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = W₂ m c (Proc.devRef .tc main_arg0)
        ∧ s.mem ((c : Thread nD τ).loc main_arg1) = W₂ m c (Proc.devRef .tc main_arg1)
        ∧ s.mem ((c : Thread nD τ).loc main_v1) = W₂ m c (Proc.devRef .tc main_v1))
      ∧ s.sem (barCell c) = 0)
    (hfin := fun c s' => by
      dsimp only [Tₙ]
      iintro ⟨⟨H, Hb⟩, HSI⟩
      ihave H := (held_three c (W₂ m c)) $$ H
      icases H with ⟨Hx, Hy, Hz⟩
      icombine HSI Hx gives %hx
      icombine HSI Hy gives %hy
      icombine HSI Hz gives %hz
      icombine HSI Hb gives %hb
      imodintro
      isplitr
      · ipureintro
        exact ⟨⟨Buf.eq_of_forall_mem_univ hx, Buf.eq_of_forall_mem_univ hy, Buf.eq_of_forall_mem_univ hz⟩, by simpa using hb⟩
      iexact HSI)
    (hQ := fun s h hs => ⟨fun c => by
        obtain ⟨⟨hx, hy, hz⟩, -⟩ := h c
        rw [W₂_ne m c (by decide), W₁_arg0] at hx
        rw [W₂_ne m c (by decide), W₁_arg1] at hy
        rw [W₂_v1] at hz
        exact ⟨hz, hx, hy⟩,
      sem_eq_zero hs fun c sm hsm => by
        obtain rfl := unscoped_eq sm hsm
        exact (h c).2⟩)

end Cert.KernelIdeal.Walk
-- ==== Proof.Reference.lean ====
/- The run of the reference: one product of the whole left factor by the right one, rounded to the result's format. -/
module

public import proofs.«01_k».proof.Proof.Gen.ReferenceIdeal
public import Idealize.ShloMosaic.Lib.StableHlo.Run
public import Idealize.ShloMosaic.Lib.Quiescent

@[expose] public section

noncomputable section

namespace Cert.Proof.Reference

open Cert.ReferenceIdeal Cert.ReferenceIdeal.Gen
open Idealize.ShloMosaic Idealize.ShloMosaic.TcCoe Idealize.ShloMosaic.StableHlo Idealize.SL.Sem

variable {F : FTy → Type} [FloatOps F]

/-- The reference's result from its two arguments. -/
def out (A : S32768x512.Idx → Elt F .bf16) (B : S512x1024.Idx → Elt F .bf16) : S32768x1024.Idx → Elt F .bf16 :=
  truncf .bf16 (Host.dotGeneral dot_S32768x512_S512x1024_S32768x1024_1_0_0_1_n_n none (A : FVec F S32768x512 .bf16) (B : FVec F S512x1024 .bf16) : FVec F S32768x1024 .f32) bitsLt_bf16_f32

/-- The program's two operations. -/
abbrev ops : List (HloOp τ sig (Elt F)) :=
  [ binary main_arg0 main_arg1 main_v0 ((fun l r => Host.dotGeneral dot_S32768x512_S512x1024_S32768x1024_1_0_0_1_n_n none l r) : (⟨S32768x512, .bf16⟩ : BufTy).Contents (Elt F) → (⟨S512x1024, .bf16⟩ : BufTy).Contents (Elt F) → (⟨S32768x1024, .f32⟩ : BufTy).Contents (Elt F)),
    unary main_v0 main_v1 ((truncf .bf16 · bitsLt_bf16_f32) : (⟨S32768x1024, .f32⟩ : BufTy).Contents (Elt F) → (⟨S32768x1024, .bf16⟩ : BufTy).Contents (Elt F)) ]

theorem main_eq (c : Dev nD) : main (F := F) c = seq ops := rfl

theorem out_eq (V : Valuation τ sig (Elt F)) : after ops V (main_v1 : DevRef τ sig) = out (V (main_arg0 : DevRef τ sig)) (V (main_arg1 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem ops_sub : (ops : List (HloOp τ sig (Elt F))).Forall fun op => op.bufs ⊆ tcRefs τ sig := ⟨binary_bufs_sub .., unary_bufs_sub ..⟩

/-- From any memory with zero counters every execution ends, with the product in the result, the arguments unchanged and no counter moved. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v1) = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun _ h => ⟨fun c => ⟨(h c main_v1).trans (out_eq _), (h c main_arg0).trans (arg0_eq _), (h c main_arg1).trans (arg1_eq _)⟩,
      sem_eq_zero_of_no_sems (by decide) _⟩)
    (run_seq (by decide) (by decide) defs main (fun _ => ops) main_eq (fun _ => ops_sub) m ρ)

end Cert.Proof.Reference

end
-- ==== Proof.Value.lean ====
/- The values: the blocks the devices compute are the blocks of the reference's product. -/
module

public import proofs.«01_k».proof.Proof.KernelIdeal.Slots
public import proofs.«01_k».proof.Proof.Reference
public import Idealize.ShloMosaic.Lib.MatmulPlain
public import Idealize.ShloMosaic.Lib.StackMember
public import Idealize.ShloMosaic.Lib.Layout

@[expose] public section

noncomputable section

namespace Cert.Proof.Value

open Idealize.ShloMosaic Idealize.ShloMosaic.TcCoe Idealize.ShloMosaic.ValueIdx
open Cert.KernelIdeal (S1024x512 S512x1024 S1024x1024 S32768x1024)
open Cert.KernelIdeal.Walk

/-- An entry of a device's block of products: the sum over the contracted axis. -/
theorem tile_entry (A : LeftC Ideal) (B : RightC Ideal) (c : Fin 32) (q : Fin 32) (r : Fin 1024) (n : Fin 1024) :
    tile A B c q (ix2 r n) = ∑ k : Fin 512, (A (dev q) (ix2 r k) : EReal) * B c (ix2 k n) := by
  show FloatOps.matmul (F := Ideal) (DotDims.plain 1024 512 1024) none (shapeCast S1024x512 (rows A q) _ : FVec Ideal S1024x512 .bf16)
    (shapeCast S512x1024 (B c) _ : FVec Ideal S512x1024 .bf16) (constant S1024x1024 .f32 0x00000000#32) (ix2 r n) = _
  rw [Ideal.matmul_plain_apply]
  show Ideal.ofBits .f32 0x00000000#32 + _ = _
  rw [Ideal.ofBits_zero_f32, zero_add]
  refine Finset.sum_congr rfl fun k _ => ?_
  rw [shapeCast_self (B c)]
  refine congrArg (fun x : EReal => x * B c (ix2 k n)) ?_
  exact shapeCast_1ab_ab_apply (rows A q) _ r k

/-- An entry of the reference's product. -/
theorem out_entry (A : Cert.ReferenceIdeal.S32768x512.Idx → Elt Ideal .bf16) (B : Cert.ReferenceIdeal.S512x1024.Idx → Elt Ideal .bf16) (r : Fin 32768) (n : Fin 1024) :
    Reference.out (F := Ideal) A B (ix2 r n) = ∑ k : Fin 512, (A (ix2 r k) : EReal) * B (ix2 k n) := by
  show Host.dotGeneral (F := Ideal) (DotDims.plain 32768 512 1024) (φ₁ := .bf16) (φ₂ := .bf16) none A B (ix2 r n) = _
  exact StackMember.dotGeneral_plain_apply none _ _ r n

/-- Where every device holds its block of the left factor and the whole right one, every device's result is the reference's. -/
theorem result_eq (A : LeftC Ideal) (B : RightC Ideal) (A' : Cert.ReferenceIdeal.S32768x512.Idx → Elt Ideal .bf16)
    (B' : Cert.ReferenceIdeal.S512x1024.Idx → Elt Ideal .bf16)
    (hA : ∀ c : Fin 32, A c = Layout.block ⟨2, ![1024, 512]⟩ ⟨2, ![32768, 512]⟩ 0 32 c A') (hB : ∀ c : Fin 32, B c = B') (c : Fin 32) :
    OutF A B c = Reference.out A' B' := by
  funext i
  obtain ⟨r, n, rfl⟩ : ∃ (r : Fin 32768) (n : Fin 1024), i = ix2 r n := ⟨i 0, i 1, eq_ix2 i⟩
  rw [out_entry]
  unfold OutF
  refine (tile_entry A B c _ _ _).trans (Finset.sum_congr rfl fun k _ => ?_)
  rw [hB c, dev_pos, hA]
  refine congrArg (fun x : EReal => x * B' (ix2 k n)) ?_
  rw [Layout.block_apply]
  refine congrArg A' ?_
  funext a
  apply Fin.ext
  rw [Layout.Tiles.idx_val]
  match a with
  | ⟨0, _⟩ => exact Nat.div_add_mod' _ _
  | ⟨1, _⟩ => rfl

end Cert.Proof.Value

end
-- ==== Proof.lean ====
/- The certificate's claims, from the runs of the two kernels and of the reference and from the equation of their values. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Run
public import proofs.«01_k».proof.Proof.KernelIdeal.Run
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.SL.Sem

/-- The kernel at the machine's floats ends, its arguments unchanged and every counter at zero. -/
theorem kernel_quiescent : Cert.quiescent_Kernel (hKernel := Cert.Kernel.Gen.facts) := fun m g _ =>
  (θ_run _ _ _).mono (fun _ h => ⟨fun c => (h.1 c).2, h.2⟩) (Cert.Kernel.Walk.run_main (F := Bits) m g)

/-- So does the kernel at the ideal floats, -/
theorem ideal_quiescent : Cert.quiescent_KernelIdeal (hKernelIdeal := Cert.KernelIdeal.Gen.facts) := fun m g _ =>
  (θ_run _ _ _).mono (fun _ h => ⟨fun c => (h.1 c).2, h.2⟩) (Cert.KernelIdeal.Walk.run_main (F := Ideal) m g)

/-- and so does the reference. -/
theorem reference_quiescent : Cert.quiescent_ReferenceIdeal (hReferenceIdeal := Cert.ReferenceIdeal.Gen.facts) := fun m g _ =>
  (θ_run _ _ _).mono (fun _ h => ⟨fun c => (h.1 c).2, h.2⟩) (Reference.run_main (F := Ideal) m g)

/-- Every device's result is the reference's. -/
theorem results_agree : Cert.algebraic_KernelIdeal_ReferenceIdeal (hKernelIdeal := Cert.KernelIdeal.Gen.facts) (hReferenceIdeal := Cert.ReferenceIdeal.Gen.facts) :=
  fun m g m' g' _ hagree =>
    ⟨_, (θ_run _ _ _).mono (fun _ h c =>
        ⟨(h.1 c).1.trans (Value.result_eq (Cert.KernelIdeal.Walk.lefts m) (Cert.KernelIdeal.Walk.rights m) _ _ (fun d => (hagree d).1) (fun d => (hagree d).2) c), (h.1 c).2⟩)
        (Cert.KernelIdeal.Walk.run_main (F := Ideal) m g),
      (θ_run _ _ _).mono (fun _ h => h.1 0) (Reference.run_main (F := Ideal) m' g')⟩

theorem claim : Cert.Claim := ⟨Cert.Kernel.Gen.facts, Cert.KernelIdeal.Gen.facts, Cert.ReferenceIdeal.Gen.facts,
  kernel_quiescent, ideal_quiescent, reference_quiescent, trivial, results_agree⟩

end Cert.Proof

end
